-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  IdealRules.bf16_pair.Statement Cert.KernelIdeal.S192x128 Cert.KernelIdeal.S96x128
  ∧ IdealRules.bf16_pair.SelectZeroStatement Cert.KernelIdeal.S96x128
  ∧ IdealRules.named_const.Statement Cert.KernelIdeal.κ "inv_d" .f32 0x3BAAAAAB#32 ((1 / 192 : ℝ) : EReal)
  ∧ IdealRules.named_const.Statement Cert.KernelIdeal.κ "score_scale" .f32 0x3E16C740#32 (((Real.sqrt 96)⁻¹ * (Real.log 2)⁻¹ : ℝ) : EReal)

def algebraic_KernelIdeal_ReferenceIdeal_on_chunk_columns [hKernelIdeal : Cert.KernelIdeal.Facts] [hReferenceIdeal : Cert.ReferenceIdeal.Facts] [hOn_chunk_columns : Cert.On_chunk_columns.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v16_0)) (v1 : (c : Dev Cert.KernelIdeal.nD) → Buf (Elt Ideal) ((c.tc : Thread Cert.KernelIdeal.nD Cert.KernelIdeal.τ).loc Cert.KernelIdeal.main_v16_1)) (v2 : (c : Dev Cert.KernelIdeal.nD) → Buf (Elt Ideal) ((c.tc : Thread Cert.KernelIdeal.nD Cert.KernelIdeal.τ).loc Cert.KernelIdeal.main_v16_2)) (v3 : (c : Dev Cert.KernelIdeal.nD) → Buf (Elt Ideal) ((c.tc : Thread Cert.KernelIdeal.nD Cert.KernelIdeal.τ).loc Cert.KernelIdeal.main_v16_6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨4, ![6, 98, 192, 250]⟩ : Shape).Idx, (Cert.On_chunk_columns.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).1 i = 1#1 → r.2.mem ((c.tc : Thread Cert.KernelIdeal.nD Cert.KernelIdeal.τ).loc Cert.KernelIdeal.main_v16_0) i = v0 c i)
          ∧ (∀ i : (⟨4, ![6, 98, 192, 250]⟩ : Shape).Idx, (Cert.On_chunk_columns.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.1 i = 1#1 → r.2.mem ((c.tc : Thread Cert.KernelIdeal.nD Cert.KernelIdeal.τ).loc Cert.KernelIdeal.main_v16_1) i = v1 c i)
          ∧ (∀ i : (⟨4, ![6, 98, 192, 250]⟩ : Shape).Idx, (Cert.On_chunk_columns.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.1 i = 1#1 → r.2.mem ((c.tc : Thread Cert.KernelIdeal.nD Cert.KernelIdeal.τ).loc Cert.KernelIdeal.main_v16_2) i = v2 c i)
          ∧ (∀ i : (⟨4, ![6, 98, 192, 256]⟩ : Shape).Idx, (Cert.On_chunk_columns.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2 i = 1#1 → r.2.mem ((c.tc : Thread Cert.KernelIdeal.nD Cert.KernelIdeal.τ).loc Cert.KernelIdeal.main_v16_6) i = v3 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨4, ![6, 98, 192, 250]⟩ : Shape).Idx, (Cert.On_chunk_columns.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).1 i = 1#1 → r.2.mem ((c.tc : Thread Cert.ReferenceIdeal.nD Cert.ReferenceIdeal.τ).loc Cert.ReferenceIdeal.main_v123_0) i = v0 c i)
          ∧ (∀ i : (⟨4, ![6, 98, 192, 250]⟩ : Shape).Idx, (Cert.On_chunk_columns.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.1 i = 1#1 → r.2.mem ((c.tc : Thread Cert.ReferenceIdeal.nD Cert.ReferenceIdeal.τ).loc Cert.ReferenceIdeal.main_v123_1) i = v1 c i)
          ∧ (∀ i : (⟨4, ![6, 98, 192, 250]⟩ : Shape).Idx, (Cert.On_chunk_columns.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.1 i = 1#1 → r.2.mem ((c.tc : Thread Cert.ReferenceIdeal.nD Cert.ReferenceIdeal.τ).loc Cert.ReferenceIdeal.main_v123_2) i = v2 c i)
          ∧ (∀ i : (⟨4, ![6, 98, 192, 256]⟩ : Shape).Idx, (Cert.On_chunk_columns.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2 i = 1#1 → r.2.mem ((c.tc : Thread Cert.ReferenceIdeal.nD Cert.ReferenceIdeal.τ).loc Cert.ReferenceIdeal.main_v123_3) i = v3 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hOn_chunk_columns : Cert.On_chunk_columns.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal_on_chunk_columns (hKernelIdeal := hKernelIdeal) (hReferenceIdeal := hReferenceIdeal) (hOn_chunk_columns := hOn_chunk_columns)
-- ==== On_chunk_columns.lean ====
abbrev S6x12032x192 : Shape := ⟨3, ![6, 12032, 192]⟩
abbrev S192 : Shape := ⟨1, ![192]⟩
abbrev S192x3x2x96 : Shape := ⟨4, ![192, 3, 2, 96]⟩
abbrev S2x96x192 : Shape := ⟨3, ![2, 96, 192]⟩
abbrev S_ : Shape := ⟨0, ![]⟩
abbrev S6x98x192x250 : Shape := ⟨4, ![6, 98, 192, 250]⟩
abbrev S6x98x192x256 : Shape := ⟨4, ![6, 98, 192, 256]⟩

class Facts : Prop where
  bcast_S_S6x98x192x250 : S_.BroadcastsInDim S6x98x192x250 (![] : Fin 0 → Fin S6x98x192x250.rank)
  bcast_S_S6x98x192x256 : S_.BroadcastsInDim S6x98x192x256 (![] : Fin 0 → Fin S6x98x192x256.rank)

variable [Facts]

def fn {F : FTy → Type} [FloatOps F] (main_arg0 : FVec F S6x12032x192 .bf16) (main_arg1 : FVec F S192 .f32) (main_arg2 : FVec F S192 .f32) (main_arg3 : FVec F S192x3x2x96 .bf16) (main_arg4 : FVec F S2x96x192 .bf16) (main_arg5 : FVec F S192 .f32) (main_arg6 : FVec F S192 .f32) (main_arg7 : FVec F S192x3x2x96 .bf16) (main_arg8 : FVec F S2x96x192 .bf16) : IVec S6x98x192x250 1 × IVec S6x98x192x250 1 × IVec S6x98x192x250 1 × IVec S6x98x192x256 1 :=
  let main_c : IVec S_ 1 := constantI S_ 1 1#1
  let main_v0 : IVec S6x98x192x250 1 := broadcastInDim S6x98x192x250 ![] bcast_S_S6x98x192x250 main_c
  let main_v1 : IVec S6x98x192x256 32 := iotaInDim S6x98x192x256 32 3
  let main_c_0 : IVec S_ 32 := constantI S_ 32 250#32
  let main_v2 : IVec S6x98x192x256 32 := broadcastInDim S6x98x192x256 ![] bcast_S_S6x98x192x256 main_c_0
  let main_v3 : IVec S6x98x192x256 1 := cmpi .slt main_v1 main_v2
  (main_v0, main_v0, main_v0, main_v3)
-- ==== Kernel.lean ====
abbrev S6x12032x192 : Shape := ⟨3, ![6, 12032, 192]⟩
abbrev S192 : Shape := ⟨1, ![192]⟩
abbrev S192x3x2x96 : Shape := ⟨4, ![192, 3, 2, 96]⟩
abbrev S2x96x192 : Shape := ⟨3, ![2, 96, 192]⟩
abbrev S6x192x12032 : Shape := ⟨3, ![6, 192, 12032]⟩
abbrev S1x192 : Shape := ⟨2, ![1, 192]⟩
abbrev S4x192 : Shape := ⟨2, ![4, 192]⟩
abbrev S4x192x1 : Shape := ⟨3, ![4, 192, 1]⟩
abbrev S4x192x256 : Shape := ⟨3, ![4, 192, 256]⟩
abbrev S192x576 : Shape := ⟨2, ![192, 576]⟩
abbrev S576x192 : Shape := ⟨2, ![576, 192]⟩
abbrev S192x192 : Shape := ⟨2, ![192, 192]⟩
abbrev S6x98x192x250 : Shape := ⟨4, ![6, 98, 192, 250]⟩
abbrev S6x2x98 : Shape := ⟨3, ![6, 2, 98]⟩
abbrev S6x98x192x256 : Shape := ⟨4, ![6, 98, 192, 256]⟩
abbrev S6x6x8x256 : Shape := ⟨4, ![6, 6, 8, 256]⟩
abbrev S1x192x12032 : Shape := ⟨3, ![1, 192, 12032]⟩
abbrev S1x7x192x250 : Shape := ⟨4, ![1, 7, 192, 250]⟩
abbrev S1x2x98 : Shape := ⟨3, ![1, 2, 98]⟩
abbrev S1x7x192x256 : Shape := ⟨4, ![1, 7, 192, 256]⟩
abbrev S1x6x8x256 : Shape := ⟨4, ![1, 6, 8, 256]⟩
abbrev S8x128 : Shape := ⟨2, ![8, 128]⟩
abbrev S96x128 : Shape := ⟨2, ![96, 128]⟩
abbrev S1x192x128 : Shape := ⟨3, ![1, 192, 128]⟩
abbrev S192x128 : Shape := ⟨2, ![192, 128]⟩
abbrev S192x256 : Shape := ⟨2, ![192, 256]⟩
abbrev S1x192x256 : Shape := ⟨3, ![1, 192, 256]⟩
abbrev S256 : Shape := ⟨1, ![256]⟩
abbrev S1x256 : Shape := ⟨2, ![1, 256]⟩
abbrev S576x256 : Shape := ⟨2, ![576, 256]⟩
abbrev S96x256 : Shape := ⟨2, ![96, 256]⟩
abbrev S12x8x256 : Shape := ⟨3, ![12, 8, 256]⟩
abbrev S8x256 : Shape := ⟨2, ![8, 256]⟩
abbrev S128 : Shape := ⟨1, ![128]⟩
abbrev S1x128 : Shape := ⟨2, ![1, 128]⟩
abbrev S8 : Shape := ⟨1, ![8]⟩
abbrev S8x1 : Shape := ⟨2, ![8, 1]⟩
abbrev S1x1 : Shape := ⟨2, ![1, 1]⟩
abbrev S96x250 : Shape := ⟨2, ![96, 250]⟩
abbrev S1x1x96x250 : Shape := ⟨4, ![1, 1, 96, 250]⟩
abbrev S128x256 : Shape := ⟨2, ![128, 256]⟩
abbrev S256x128 : Shape := ⟨2, ![256, 128]⟩
abbrev S248x128 : Shape := ⟨2, ![248, 128]⟩
abbrev S128x96 : Shape := ⟨2, ![128, 96]⟩
abbrev S1x1x192x256 : Shape := ⟨4, ![1, 1, 192, 256]⟩
abbrev S1x1x8x256 : Shape := ⟨4, ![1, 1, 8, 256]⟩
abbrev S2x98 : Shape := ⟨2, ![2, 98]⟩

abbrev nBuf : Space → Nat
  | .hbm => 34
  | .vmem => 25
  | .smem => 0
  | _ => 0

abbrev bufTy : (tb : Table) → Fin (tcTables nBuf tb) → BufTy
  | .hbm, ⟨0, _⟩ => ⟨S6x12032x192, .bf16⟩
  | .hbm, ⟨1, _⟩ => ⟨S192, .f32⟩
  | .hbm, ⟨2, _⟩ => ⟨S192, .f32⟩
  | .hbm, ⟨3, _⟩ => ⟨S192x3x2x96, .bf16⟩
  | .hbm, ⟨4, _⟩ => ⟨S2x96x192, .bf16⟩
  | .hbm, ⟨5, _⟩ => ⟨S192, .f32⟩
  | .hbm, ⟨6, _⟩ => ⟨S192, .f32⟩
  | .hbm, ⟨7, _⟩ => ⟨S192x3x2x96, .bf16⟩
  | .hbm, ⟨8, _⟩ => ⟨S2x96x192, .bf16⟩
  | .hbm, ⟨9, _⟩ => ⟨S6x192x12032, .bf16⟩
  | .hbm, ⟨10, _⟩ => ⟨S1x192, .f32⟩
  | .hbm, ⟨11, _⟩ => ⟨S1x192, .f32⟩
  | .hbm, ⟨12, _⟩ => ⟨S1x192, .f32⟩
  | .hbm, ⟨13, _⟩ => ⟨S1x192, .f32⟩
  | .hbm, ⟨14, _⟩ => ⟨S4x192, .f32⟩
  | .hbm, ⟨15, _⟩ => ⟨S4x192x1, .f32⟩
  | .hbm, ⟨16, _⟩ => ⟨S4x192x256, .f32⟩
  | .hbm, ⟨17, _⟩ => ⟨S192x576, .bf16⟩
  | .hbm, ⟨18, _⟩ => ⟨S576x192, .bf16⟩
  | .hbm, ⟨19, _⟩ => ⟨S192x576, .bf16⟩
  | .hbm, ⟨20, _⟩ => ⟨S576x192, .bf16⟩
  | .hbm, ⟨21, _⟩ => ⟨S192x192, .bf16⟩
  | .hbm, ⟨22, _⟩ => ⟨S192x192, .bf16⟩
  | .hbm, ⟨23, _⟩ => ⟨S192x192, .bf16⟩
  | .hbm, ⟨24, _⟩ => ⟨S192x192, .bf16⟩
  | .hbm, ⟨25, _⟩ => ⟨S6x98x192x250, .fp8e4m3⟩
  | .hbm, ⟨26, _⟩ => ⟨S6x98x192x250, .fp8e4m3⟩
  | .hbm, ⟨27, _⟩ => ⟨S6x98x192x250, .fp8e4m3⟩
  | .hbm, ⟨28, _⟩ => ⟨S6x2x98, .f32⟩
  | .hbm, ⟨29, _⟩ => ⟨S6x2x98, .f32⟩
  | .hbm, ⟨30, _⟩ => ⟨S6x2x98, .f32⟩
  | .hbm, ⟨31, _⟩ => ⟨S6x98x192x256, .f32⟩
  | .hbm, ⟨32, _⟩ => ⟨S6x98x192x256, .bf16⟩
  | .hbm, ⟨33, _⟩ => ⟨S6x6x8x256, .f32⟩
  | .local _ .vmem, ⟨0, _⟩ => ⟨S1x192x12032, .bf16⟩
  | .local _ .vmem, ⟨1, _⟩ => ⟨S1x192x12032, .bf16⟩
  | .local _ .vmem, ⟨2, _⟩ => ⟨S4x192x256, .f32⟩
  | .local _ .vmem, ⟨3, _⟩ => ⟨S576x192, .bf16⟩
  | .local _ .vmem, ⟨4, _⟩ => ⟨S192x192, .bf16⟩
  | .local _ .vmem, ⟨5, _⟩ => ⟨S576x192, .bf16⟩
  | .local _ .vmem, ⟨6, _⟩ => ⟨S1x7x192x250, .fp8e4m3⟩
  | .local _ .vmem, ⟨7, _⟩ => ⟨S1x7x192x250, .fp8e4m3⟩
  | .local _ .vmem, ⟨8, _⟩ => ⟨S1x7x192x250, .fp8e4m3⟩
  | .local _ .vmem, ⟨9, _⟩ => ⟨S1x7x192x250, .fp8e4m3⟩
  | .local _ .vmem, ⟨10, _⟩ => ⟨S1x7x192x250, .fp8e4m3⟩
  | .local _ .vmem, ⟨11, _⟩ => ⟨S1x7x192x250, .fp8e4m3⟩
  | .local _ .vmem, ⟨12, _⟩ => ⟨S1x2x98, .f32⟩
  | .local _ .vmem, ⟨13, _⟩ => ⟨S1x2x98, .f32⟩
  | .local _ .vmem, ⟨14, _⟩ => ⟨S1x2x98, .f32⟩
  | .local _ .vmem, ⟨15, _⟩ => ⟨S1x2x98, .f32⟩
  | .local _ .vmem, ⟨16, _⟩ => ⟨S1x2x98, .f32⟩
  | .local _ .vmem, ⟨17, _⟩ => ⟨S1x2x98, .f32⟩
  | .local _ .vmem, ⟨18, _⟩ => ⟨S1x7x192x256, .f32⟩
  | .local _ .vmem, ⟨19, _⟩ => ⟨S1x7x192x256, .f32⟩
  | .local _ .vmem, ⟨20, _⟩ => ⟨S1x7x192x256, .bf16⟩
  | .local _ .vmem, ⟨21, _⟩ => ⟨S1x7x192x256, .bf16⟩
  | .local _ .vmem, ⟨22, _⟩ => ⟨S1x6x8x256, .f32⟩
  | .local _ .vmem, ⟨23, _⟩ => ⟨S1x6x8x256, .f32⟩
  | .local _ .vmem, ⟨24, _⟩ => ⟨S8x128, .f32⟩
  | _, _ => ⟨S6x12032x192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16_0 : Ref sig .tc := ⟨.hbm, 25, rfl⟩
abbrev main_v16_1 : Ref sig .tc := ⟨.hbm, 26, rfl⟩
abbrev main_v16_2 : Ref sig .tc := ⟨.hbm, 27, rfl⟩
abbrev main_v16_3 : Ref sig .tc := ⟨.hbm, 28, rfl⟩
abbrev main_v16_4 : Ref sig .tc := ⟨.hbm, 29, rfl⟩
abbrev main_v16_5 : Ref sig .tc := ⟨.hbm, 30, rfl⟩
abbrev main_v16_6 : Ref sig .tc := ⟨.hbm, 31, rfl⟩
abbrev main_v16_7 : Ref sig .tc := ⟨.hbm, 32, rfl⟩
abbrev main_v16_8 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_scratch0 : Ref sig .tc := ⟨.vmem, 24, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23

abbrev nD : Nat := 1
abbrev τ : Topo := Topo.v7x

variable {F : FTy → Type} [BitOps F]

abbrev grid0 : Pipeline.Grid := ⟨2, ![6, 14], ![false, false]⟩

def k0_mult1 (i : grid0.Coords) : BitVec 32 :=
  let c93_i32 : BitVec 32 := 93#32
  let c0_i32_4 : BitVec 32 := 0#32
  let arg1 : BitVec 32 := BitVec.ofNat 32 (i 1).val
  let c7_i32 : BitVec 32 := 7#32
  let v8 : BitVec 32 := Scalar.muli arg1 c7_i32
  let c0_i32_1 : BitVec 32 := 0#32
  let v9 : BitVec 32 := Scalar.addi v8 c0_i32_1
  let c1_i32 : BitVec 32 := 1#32
  let v10 : BitVec 32 := Scalar.subi v9 c1_i32
  let c125_i32 : BitVec 32 := 125#32
  let v11 : BitVec 32 := Scalar.muli v10 c125_i32
  let c7_i32_2 : BitVec 32 := 7#32
  let v12 : BitVec 32 := Scalar.shrsi v11 c7_i32_2
  let c0_i32_3 : BitVec 32 := 0#32
  let v15 : BitVec 32 := Scalar.addi v12 c0_i32_3
  let v16 : BitVec 32 := Scalar.maxsi c0_i32_4 v15
  let v17 : BitVec 32 := Scalar.minsi c93_i32 v16
  let c128_i32_5 : BitVec 32 := 128#32
  let v18 : BitVec 32 := Scalar.muli v17 c128_i32_5
  v18
def k0_off1 (i : grid0.Coords) (c0_i32_1 : BitVec 32) (c0_i32_3 : BitVec 32) : Fin 3 → Nat :=
  let c0 : Index := 0#32
  let c0_6 : Index := 0#32
  let c93_i32 : BitVec 32 := 93#32
  let c0_i32_4 : BitVec 32 := 0#32
  let arg1 : BitVec 32 := BitVec.ofNat 32 (i 1).val
  let c7_i32 : BitVec 32 := 7#32
  let v8 : BitVec 32 := Scalar.muli arg1 c7_i32
  let v9 : BitVec 32 := Scalar.addi v8 c0_i32_1
  let c1_i32 : BitVec 32 := 1#32
  let v10 : BitVec 32 := Scalar.subi v9 c1_i32
  let c125_i32 : BitVec 32 := 125#32
  let v11 : BitVec 32 := Scalar.muli v10 c125_i32
  let c7_i32_2 : BitVec 32 := 7#32
  let v12 : BitVec 32 := Scalar.shrsi v11 c7_i32_2
  let v15 : BitVec 32 := Scalar.addi v12 c0_i32_3
  let v16 : BitVec 32 := Scalar.maxsi c0_i32_4 v15
  let v17 : BitVec 32 := Scalar.minsi c93_i32 v16
  let c128_i32_5 : BitVec 32 := 128#32
  let v18 : BitVec 32 := Scalar.muli v17 c128_i32_5
  let v19 : BitVec 32 := v18
  let v20 : Index := Scalar.indexCast v19
  ![0, 0, v20.toNat]
def k0_mult2 (i : grid0.Coords) : BitVec 32 :=
  let c93_i32_9 : BitVec 32 := 93#32
  let c0_i32_8 : BitVec 32 := 0#32
  let arg1 : BitVec 32 := BitVec.ofNat 32 (i 1).val
  let c7_i32 : BitVec 32 := 7#32
  let v8 : BitVec 32 := Scalar.muli arg1 c7_i32
  let c0_i32_1 : BitVec 32 := 0#32
  let v9 : BitVec 32 := Scalar.addi v8 c0_i32_1
  let c1_i32 : BitVec 32 := 1#32
  let v10 : BitVec 32 := Scalar.subi v9 c1_i32
  let c125_i32 : BitVec 32 := 125#32
  let v11 : BitVec 32 := Scalar.muli v10 c125_i32
  let c7_i32_2 : BitVec 32 := 7#32
  let v12 : BitVec 32 := Scalar.shrsi v11 c7_i32_2
  let c1_i32_7 : BitVec 32 := 1#32
  let v25 : BitVec 32 := Scalar.addi v12 c1_i32_7
  let v26 : BitVec 32 := Scalar.maxsi c0_i32_8 v25
  let v27 : BitVec 32 := Scalar.minsi c93_i32_9 v26
  let c128_i32_10 : BitVec 32 := 128#32
  let v28 : BitVec 32 := Scalar.muli v27 c128_i32_10
  v28
def k0_mult3 (i : grid0.Coords) : BitVec 32 :=
  let c93_i32_14 : BitVec 32 := 93#32
  let c0_i32_13 : BitVec 32 := 0#32
  let arg1 : BitVec 32 := BitVec.ofNat 32 (i 1).val
  let c7_i32 : BitVec 32 := 7#32
  let v8 : BitVec 32 := Scalar.muli arg1 c7_i32
  let c0_i32_1 : BitVec 32 := 0#32
  let v9 : BitVec 32 := Scalar.addi v8 c0_i32_1
  let c1_i32 : BitVec 32 := 1#32
  let v10 : BitVec 32 := Scalar.subi v9 c1_i32
  let c125_i32 : BitVec 32 := 125#32
  let v11 : BitVec 32 := Scalar.muli v10 c125_i32
  let c7_i32_2 : BitVec 32 := 7#32
  let v12 : BitVec 32 := Scalar.shrsi v11 c7_i32_2
  let c2_i32 : BitVec 32 := 2#32
  let v35 : BitVec 32 := Scalar.addi v12 c2_i32
  let v36 : BitVec 32 := Scalar.maxsi c0_i32_13 v35
  let v37 : BitVec 32 := Scalar.minsi c93_i32_14 v36
  let c128_i32_15 : BitVec 32 := 128#32
  let v38 : BitVec 32 := Scalar.muli v37 c128_i32_15
  v38
def k0_mult4 (i : grid0.Coords) : BitVec 32 :=
  let c93_i32_234 : BitVec 32 := 93#32
  let c0_i32_233 : BitVec 32 := 0#32
  let arg1 : BitVec 32 := BitVec.ofNat 32 (i 1).val
  let c7_i32_225 : BitVec 32 := 7#32
  let v623 : BitVec 32 := Scalar.muli arg1 c7_i32_225
  let c1_i32_226 : BitVec 32 := 1#32
  let v624 : BitVec 32 := Scalar.addi v623 c1_i32_226
  let c1_i32_227 : BitVec 32 := 1#32
  let v625 : BitVec 32 := Scalar.subi v624 c1_i32_227
  let c125_i32_228 : BitVec 32 := 125#32
  let v626 : BitVec 32 := Scalar.muli v625 c125_i32_228
  let c7_i32_229 : BitVec 32 := 7#32
  let v627 : BitVec 32 := Scalar.shrsi v626 c7_i32_229
  let c0_i32_232 : BitVec 32 := 0#32
  let v630 : BitVec 32 := Scalar.addi v627 c0_i32_232
  let v631 : BitVec 32 := Scalar.maxsi c0_i32_233 v630
  let v632 : BitVec 32 := Scalar.minsi c93_i32_234 v631
  let c128_i32_235 : BitVec 32 := 128#32
  let v633 : BitVec 32 := Scalar.muli v632 c128_i32_235
  v633
def k0_mult5 (i : grid0.Coords) : BitVec 32 :=
  let c93_i32_240 : BitVec 32 := 93#32
  let c0_i32_239 : BitVec 32 := 0#32
  let arg1 : BitVec 32 := BitVec.ofNat 32 (i 1).val
  let c7_i32_225 : BitVec 32 := 7#32
  let v623 : BitVec 32 := Scalar.muli arg1 c7_i32_225
  let c1_i32_226 : BitVec 32 := 1#32
  let v624 : BitVec 32 := Scalar.addi v623 c1_i32_226
  let c1_i32_227 : BitVec 32 := 1#32
  let v625 : BitVec 32 := Scalar.subi v624 c1_i32_227
  let c125_i32_228 : BitVec 32 := 125#32
  let v626 : BitVec 32 := Scalar.muli v625 c125_i32_228
  let c7_i32_229 : BitVec 32 := 7#32
  let v627 : BitVec 32 := Scalar.shrsi v626 c7_i32_229
  let c1_i32_238 : BitVec 32 := 1#32
  let v640 : BitVec 32 := Scalar.addi v627 c1_i32_238
  let v641 : BitVec 32 := Scalar.maxsi c0_i32_239 v640
  let v642 : BitVec 32 := Scalar.minsi c93_i32_240 v641
  let c128_i32_241 : BitVec 32 := 128#32
  let v643 : BitVec 32 := Scalar.muli v642 c128_i32_241
  v643
def k0_mult6 (i : grid0.Coords) : BitVec 32 :=
  let c93_i32_246 : BitVec 32 := 93#32
  let c0_i32_245 : BitVec 32 := 0#32
  let arg1 : BitVec 32 := BitVec.ofNat 32 (i 1).val
  let c7_i32_225 : BitVec 32 := 7#32
  let v623 : BitVec 32 := Scalar.muli arg1 c7_i32_225
  let c1_i32_226 : BitVec 32 := 1#32
  let v624 : BitVec 32 := Scalar.addi v623 c1_i32_226
  let c1_i32_227 : BitVec 32 := 1#32
  let v625 : BitVec 32 := Scalar.subi v624 c1_i32_227
  let c125_i32_228 : BitVec 32 := 125#32
  let v626 : BitVec 32 := Scalar.muli v625 c125_i32_228
  let c7_i32_229 : BitVec 32 := 7#32
  let v627 : BitVec 32 := Scalar.shrsi v626 c7_i32_229
  let c2_i32_244 : BitVec 32 := 2#32
  let v650 : BitVec 32 := Scalar.addi v627 c2_i32_244
  let v651 : BitVec 32 := Scalar.maxsi c0_i32_245 v650
  let v652 : BitVec 32 := Scalar.minsi c93_i32_246 v651
  let c128_i32_247 : BitVec 32 := 128#32
  let v653 : BitVec 32 := Scalar.muli v652 c128_i32_247
  v653
def k0_mult7 (i : grid0.Coords) : BitVec 32 :=
  let c93_i32_485 : BitVec 32 := 93#32
  let c0_i32_484 : BitVec 32 := 0#32
  let arg1 : BitVec 32 := BitVec.ofNat 32 (i 1).val
  let c7_i32_476 : BitVec 32 := 7#32
  let v1238 : BitVec 32 := Scalar.muli arg1 c7_i32_476
  let c2_i32_477 : BitVec 32 := 2#32
  let v1239 : BitVec 32 := Scalar.addi v1238 c2_i32_477
  let c1_i32_478 : BitVec 32 := 1#32
  let v1240 : BitVec 32 := Scalar.subi v1239 c1_i32_478
  let c125_i32_479 : BitVec 32 := 125#32
  let v1241 : BitVec 32 := Scalar.muli v1240 c125_i32_479
  let c7_i32_480 : BitVec 32 := 7#32
  let v1242 : BitVec 32 := Scalar.shrsi v1241 c7_i32_480
  let c0_i32_483 : BitVec 32 := 0#32
  let v1245 : BitVec 32 := Scalar.addi v1242 c0_i32_483
  let v1246 : BitVec 32 := Scalar.maxsi c0_i32_484 v1245
  let v1247 : BitVec 32 := Scalar.minsi c93_i32_485 v1246
  let c128_i32_486 : BitVec 32 := 128#32
  let v1248 : BitVec 32 := Scalar.muli v1247 c128_i32_486
  v1248
def k0_mult8 (i : grid0.Coords) : BitVec 32 :=
  let c93_i32_491 : BitVec 32 := 93#32
  let c0_i32_490 : BitVec 32 := 0#32
  let arg1 : BitVec 32 := BitVec.ofNat 32 (i 1).val
  let c7_i32_476 : BitVec 32 := 7#32
  let v1238 : BitVec 32 := Scalar.muli arg1 c7_i32_476
  let c2_i32_477 : BitVec 32 := 2#32
  let v1239 : BitVec 32 := Scalar.addi v1238 c2_i32_477
  let c1_i32_478 : BitVec 32 := 1#32
  let v1240 : BitVec 32 := Scalar.subi v1239 c1_i32_478
  let c125_i32_479 : BitVec 32 := 125#32
  let v1241 : BitVec 32 := Scalar.muli v1240 c125_i32_479
  let c7_i32_480 : BitVec 32 := 7#32
  let v1242 : BitVec 32 := Scalar.shrsi v1241 c7_i32_480
  let c1_i32_489 : BitVec 32 := 1#32
  let v1255 : BitVec 32 := Scalar.addi v1242 c1_i32_489
  let v1256 : BitVec 32 := Scalar.maxsi c0_i32_490 v1255
  let v1257 : BitVec 32 := Scalar.minsi c93_i32_491 v1256
  let c128_i32_492 : BitVec 32 := 128#32
  let v1258 : BitVec 32 := Scalar.muli v1257 c128_i32_492
  v1258
def k0_mult9 (i : grid0.Coords) : BitVec 32 :=
  let c93_i32_497 : BitVec 32 := 93#32
  let c0_i32_496 : BitVec 32 := 0#32
  let arg1 : BitVec 32 := BitVec.ofNat 32 (i 1).val
  let c7_i32_476 : BitVec 32 := 7#32
  let v1238 : BitVec 32 := Scalar.muli arg1 c7_i32_476
  let c2_i32_477 : BitVec 32 := 2#32
  let v1239 : BitVec 32 := Scalar.addi v1238 c2_i32_477
  let c1_i32_478 : BitVec 32 := 1#32
  let v1240 : BitVec 32 := Scalar.subi v1239 c1_i32_478
  let c125_i32_479 : BitVec 32 := 125#32
  let v1241 : BitVec 32 := Scalar.muli v1240 c125_i32_479
  let c7_i32_480 : BitVec 32 := 7#32
  let v1242 : BitVec 32 := Scalar.shrsi v1241 c7_i32_480
  let c2_i32_495 : BitVec 32 := 2#32
  let v1265 : BitVec 32 := Scalar.addi v1242 c2_i32_495
  let v1266 : BitVec 32 := Scalar.maxsi c0_i32_496 v1265
  let v1267 : BitVec 32 := Scalar.minsi c93_i32_497 v1266
  let c128_i32_498 : BitVec 32 := 128#32
  let v1268 : BitVec 32 := Scalar.muli v1267 c128_i32_498
  v1268
def k0_mult10 (i : grid0.Coords) : BitVec 32 :=
  let c93_i32_736 : BitVec 32 := 93#32
  let c0_i32_735 : BitVec 32 := 0#32
  let arg1 : BitVec 32 := BitVec.ofNat 32 (i 1).val
  let c7_i32_727 : BitVec 32 := 7#32
  let v1853 : BitVec 32 := Scalar.muli arg1 c7_i32_727
  let c3_i32_728 : BitVec 32 := 3#32
  let v1854 : BitVec 32 := Scalar.addi v1853 c3_i32_728
  let c1_i32_729 : BitVec 32 := 1#32
  let v1855 : BitVec 32 := Scalar.subi v1854 c1_i32_729
  let c125_i32_730 : BitVec 32 := 125#32
  let v1856 : BitVec 32 := Scalar.muli v1855 c125_i32_730
  let c7_i32_731 : BitVec 32 := 7#32
  let v1857 : BitVec 32 := Scalar.shrsi v1856 c7_i32_731
  let c0_i32_734 : BitVec 32 := 0#32
  let v1860 : BitVec 32 := Scalar.addi v1857 c0_i32_734
  let v1861 : BitVec 32 := Scalar.maxsi c0_i32_735 v1860
  let v1862 : BitVec 32 := Scalar.minsi c93_i32_736 v1861
  let c128_i32_737 : BitVec 32 := 128#32
  let v1863 : BitVec 32 := Scalar.muli v1862 c128_i32_737
  v1863
def k0_mult11 (i : grid0.Coords) : BitVec 32 :=
  let c93_i32_742 : BitVec 32 := 93#32
  let c0_i32_741 : BitVec 32 := 0#32
  let arg1 : BitVec 32 := BitVec.ofNat 32 (i 1).val
  let c7_i32_727 : BitVec 32 := 7#32
  let v1853 : BitVec 32 := Scalar.muli arg1 c7_i32_727
  let c3_i32_728 : BitVec 32 := 3#32
  let v1854 : BitVec 32 := Scalar.addi v1853 c3_i32_728
  let c1_i32_729 : BitVec 32 := 1#32
  let v1855 : BitVec 32 := Scalar.subi v1854 c1_i32_729
  let c125_i32_730 : BitVec 32 := 125#32
  let v1856 : BitVec 32 := Scalar.muli v1855 c125_i32_730
  let c7_i32_731 : BitVec 32 := 7#32
  let v1857 : BitVec 32 := Scalar.shrsi v1856 c7_i32_731
  let c1_i32_740 : BitVec 32 := 1#32
  let v1870 : BitVec 32 := Scalar.addi v1857 c1_i32_740
  let v1871 : BitVec 32 := Scalar.maxsi c0_i32_741 v1870
  let v1872 : BitVec 32 := Scalar.minsi c93_i32_742 v1871
  let c128_i32_743 : BitVec 32 := 128#32
  let v1873 : BitVec 32 := Scalar.muli v1872 c128_i32_743
  v1873
def k0_mult12 (i : grid0.Coords) : BitVec 32 :=
  let c93_i32_748 : BitVec 32 := 93#32
  let c0_i32_747 : BitVec 32 := 0#32
  let arg1 : BitVec 32 := BitVec.ofNat 32 (i 1).val
  let c7_i32_727 : BitVec 32 := 7#32
  let v1853 : BitVec 32 := Scalar.muli arg1 c7_i32_727
  let c3_i32_728 : BitVec 32 := 3#32
  let v1854 : BitVec 32 := Scalar.addi v1853 c3_i32_728
  let c1_i32_729 : BitVec 32 := 1#32
  let v1855 : BitVec 32 := Scalar.subi v1854 c1_i32_729
  let c125_i32_730 : BitVec 32 := 125#32
  let v1856 : BitVec 32 := Scalar.muli v1855 c125_i32_730
  let c7_i32_731 : BitVec 32 := 7#32
  let v1857 : BitVec 32 := Scalar.shrsi v1856 c7_i32_731
  let c2_i32_746 : BitVec 32 := 2#32
  let v1880 : BitVec 32 := Scalar.addi v1857 c2_i32_746
  let v1881 : BitVec 32 := Scalar.maxsi c0_i32_747 v1880
  let v1882 : BitVec 32 := Scalar.minsi c93_i32_748 v1881
  let c128_i32_749 : BitVec 32 := 128#32
  let v1883 : BitVec 32 := Scalar.muli v1882 c128_i32_749
  v1883
def k0_mult13 (i : grid0.Coords) : BitVec 32 :=
  let c93_i32_987 : BitVec 32 := 93#32
  let c0_i32_986 : BitVec 32 := 0#32
  let arg1 : BitVec 32 := BitVec.ofNat 32 (i 1).val
  let c7_i32_978 : BitVec 32 := 7#32
  let v2468 : BitVec 32 := Scalar.muli arg1 c7_i32_978
  let c4_i32_979 : BitVec 32 := 4#32
  let v2469 : BitVec 32 := Scalar.addi v2468 c4_i32_979
  let c1_i32_980 : BitVec 32 := 1#32
  let v2470 : BitVec 32 := Scalar.subi v2469 c1_i32_980
  let c125_i32_981 : BitVec 32 := 125#32
  let v2471 : BitVec 32 := Scalar.muli v2470 c125_i32_981
  let c7_i32_982 : BitVec 32 := 7#32
  let v2472 : BitVec 32 := Scalar.shrsi v2471 c7_i32_982
  let c0_i32_985 : BitVec 32 := 0#32
  let v2475 : BitVec 32 := Scalar.addi v2472 c0_i32_985
  let v2476 : BitVec 32 := Scalar.maxsi c0_i32_986 v2475
  let v2477 : BitVec 32 := Scalar.minsi c93_i32_987 v2476
  let c128_i32_988 : BitVec 32 := 128#32
  let v2478 : BitVec 32 := Scalar.muli v2477 c128_i32_988
  v2478
def k0_mult14 (i : grid0.Coords) : BitVec 32 :=
  let c93_i32_993 : BitVec 32 := 93#32
  let c0_i32_992 : BitVec 32 := 0#32
  let arg1 : BitVec 32 := BitVec.ofNat 32 (i 1).val
  let c7_i32_978 : BitVec 32 := 7#32
  let v2468 : BitVec 32 := Scalar.muli arg1 c7_i32_978
  let c4_i32_979 : BitVec 32 := 4#32
  let v2469 : BitVec 32 := Scalar.addi v2468 c4_i32_979
  let c1_i32_980 : BitVec 32 := 1#32
  let v2470 : BitVec 32 := Scalar.subi v2469 c1_i32_980
  let c125_i32_981 : BitVec 32 := 125#32
  let v2471 : BitVec 32 := Scalar.muli v2470 c125_i32_981
  let c7_i32_982 : BitVec 32 := 7#32
  let v2472 : BitVec 32 := Scalar.shrsi v2471 c7_i32_982
  let c1_i32_991 : BitVec 32 := 1#32
  let v2485 : BitVec 32 := Scalar.addi v2472 c1_i32_991
  let v2486 : BitVec 32 := Scalar.maxsi c0_i32_992 v2485
  let v2487 : BitVec 32 := Scalar.minsi c93_i32_993 v2486
  let c128_i32_994 : BitVec 32 := 128#32
  let v2488 : BitVec 32 := Scalar.muli v2487 c128_i32_994
  v2488
def k0_mult15 (i : grid0.Coords) : BitVec 32 :=
  let c93_i32_999 : BitVec 32 := 93#32
  let c0_i32_998 : BitVec 32 := 0#32
  let arg1 : BitVec 32 := BitVec.ofNat 32 (i 1).val
  let c7_i32_978 : BitVec 32 := 7#32
  let v2468 : BitVec 32 := Scalar.muli arg1 c7_i32_978
  let c4_i32_979 : BitVec 32 := 4#32
  let v2469 : BitVec 32 := Scalar.addi v2468 c4_i32_979
  let c1_i32_980 : BitVec 32 := 1#32
  let v2470 : BitVec 32 := Scalar.subi v2469 c1_i32_980
  let c125_i32_981 : BitVec 32 := 125#32
  let v2471 : BitVec 32 := Scalar.muli v2470 c125_i32_981
  let c7_i32_982 : BitVec 32 := 7#32
  let v2472 : BitVec 32 := Scalar.shrsi v2471 c7_i32_982
  let c2_i32_997 : BitVec 32 := 2#32
  let v2495 : BitVec 32 := Scalar.addi v2472 c2_i32_997
  let v2496 : BitVec 32 := Scalar.maxsi c0_i32_998 v2495
  let v2497 : BitVec 32 := Scalar.minsi c93_i32_999 v2496
  let c128_i32_1000 : BitVec 32 := 128#32
  let v2498 : BitVec 32 := Scalar.muli v2497 c128_i32_1000
  v2498
def k0_mult16 (i : grid0.Coords) : BitVec 32 :=
  let c93_i32_1238 : BitVec 32 := 93#32
  let c0_i32_1237 : BitVec 32 := 0#32
  let arg1 : BitVec 32 := BitVec.ofNat 32 (i 1).val
  let c7_i32_1229 : BitVec 32 := 7#32
  let v3083 : BitVec 32 := Scalar.muli arg1 c7_i32_1229
  let c5_i32_1230 : BitVec 32 := 5#32
  let v3084 : BitVec 32 := Scalar.addi v3083 c5_i32_1230
  let c1_i32_1231 : BitVec 32 := 1#32
  let v3085 : BitVec 32 := Scalar.subi v3084 c1_i32_1231
  let c125_i32_1232 : BitVec 32 := 125#32
  let v3086 : BitVec 32 := Scalar.muli v3085 c125_i32_1232
  let c7_i32_1233 : BitVec 32 := 7#32
  let v3087 : BitVec 32 := Scalar.shrsi v3086 c7_i32_1233
  let c0_i32_1236 : BitVec 32 := 0#32
  let v3090 : BitVec 32 := Scalar.addi v3087 c0_i32_1236
  let v3091 : BitVec 32 := Scalar.maxsi c0_i32_1237 v3090
  let v3092 : BitVec 32 := Scalar.minsi c93_i32_1238 v3091
  let c128_i32_1239 : BitVec 32 := 128#32
  let v3093 : BitVec 32 := Scalar.muli v3092 c128_i32_1239
  v3093
def k0_mult17 (i : grid0.Coords) : BitVec 32 :=
  let c93_i32_1244 : BitVec 32 := 93#32
  let c0_i32_1243 : BitVec 32 := 0#32
  let arg1 : BitVec 32 := BitVec.ofNat 32 (i 1).val
  let c7_i32_1229 : BitVec 32 := 7#32
  let v3083 : BitVec 32 := Scalar.muli arg1 c7_i32_1229
  let c5_i32_1230 : BitVec 32 := 5#32
  let v3084 : BitVec 32 := Scalar.addi v3083 c5_i32_1230
  let c1_i32_1231 : BitVec 32 := 1#32
  let v3085 : BitVec 32 := Scalar.subi v3084 c1_i32_1231
  let c125_i32_1232 : BitVec 32 := 125#32
  let v3086 : BitVec 32 := Scalar.muli v3085 c125_i32_1232
  let c7_i32_1233 : BitVec 32 := 7#32
  let v3087 : BitVec 32 := Scalar.shrsi v3086 c7_i32_1233
  let c1_i32_1242 : BitVec 32 := 1#32
  let v3100 : BitVec 32 := Scalar.addi v3087 c1_i32_1242
  let v3101 : BitVec 32 := Scalar.maxsi c0_i32_1243 v3100
  let v3102 : BitVec 32 := Scalar.minsi c93_i32_1244 v3101
  let c128_i32_1245 : BitVec 32 := 128#32
  let v3103 : BitVec 32 := Scalar.muli v3102 c128_i32_1245
  v3103
def k0_mult18 (i : grid0.Coords) : BitVec 32 :=
  let c93_i32_1250 : BitVec 32 := 93#32
  let c0_i32_1249 : BitVec 32 := 0#32
  let arg1 : BitVec 32 := BitVec.ofNat 32 (i 1).val
  let c7_i32_1229 : BitVec 32 := 7#32
  let v3083 : BitVec 32 := Scalar.muli arg1 c7_i32_1229
  let c5_i32_1230 : BitVec 32 := 5#32
  let v3084 : BitVec 32 := Scalar.addi v3083 c5_i32_1230
  let c1_i32_1231 : BitVec 32 := 1#32
  let v3085 : BitVec 32 := Scalar.subi v3084 c1_i32_1231
  let c125_i32_1232 : BitVec 32 := 125#32
  let v3086 : BitVec 32 := Scalar.muli v3085 c125_i32_1232
  let c7_i32_1233 : BitVec 32 := 7#32
  let v3087 : BitVec 32 := Scalar.shrsi v3086 c7_i32_1233
  let c2_i32_1248 : BitVec 32 := 2#32
  let v3110 : BitVec 32 := Scalar.addi v3087 c2_i32_1248
  let v3111 : BitVec 32 := Scalar.maxsi c0_i32_1249 v3110
  let v3112 : BitVec 32 := Scalar.minsi c93_i32_1250 v3111
  let c128_i32_1251 : BitVec 32 := 128#32
  let v3113 : BitVec 32 := Scalar.muli v3112 c128_i32_1251
  v3113
def k0_mult19 (i : grid0.Coords) : BitVec 32 :=
  let c93_i32_1488 : BitVec 32 := 93#32
  let c0_i32_1487 : BitVec 32 := 0#32
  let arg1 : BitVec 32 := BitVec.ofNat 32 (i 1).val
  let c7_i32_1480 : BitVec 32 := 7#32
  let v3698 : BitVec 32 := Scalar.muli arg1 c7_i32_1480
  let c6_i32 : BitVec 32 := 6#32
  let v3699 : BitVec 32 := Scalar.addi v3698 c6_i32
  let c1_i32_1481 : BitVec 32 := 1#32
  let v3700 : BitVec 32 := Scalar.subi v3699 c1_i32_1481
  let c125_i32_1482 : BitVec 32 := 125#32
  let v3701 : BitVec 32 := Scalar.muli v3700 c125_i32_1482
  let c7_i32_1483 : BitVec 32 := 7#32
  let v3702 : BitVec 32 := Scalar.shrsi v3701 c7_i32_1483
  let c0_i32_1486 : BitVec 32 := 0#32
  let v3705 : BitVec 32 := Scalar.addi v3702 c0_i32_1486
  let v3706 : BitVec 32 := Scalar.maxsi c0_i32_1487 v3705
  let v3707 : BitVec 32 := Scalar.minsi c93_i32_1488 v3706
  let c128_i32_1489 : BitVec 32 := 128#32
  let v3708 : BitVec 32 := Scalar.muli v3707 c128_i32_1489
  v3708
def k0_mult20 (i : grid0.Coords) : BitVec 32 :=
  let c93_i32_1494 : BitVec 32 := 93#32
  let c0_i32_1493 : BitVec 32 := 0#32
  let arg1 : BitVec 32 := BitVec.ofNat 32 (i 1).val
  let c7_i32_1480 : BitVec 32 := 7#32
  let v3698 : BitVec 32 := Scalar.muli arg1 c7_i32_1480
  let c6_i32 : BitVec 32 := 6#32
  let v3699 : BitVec 32 := Scalar.addi v3698 c6_i32
  let c1_i32_1481 : BitVec 32 := 1#32
  let v3700 : BitVec 32 := Scalar.subi v3699 c1_i32_1481
  let c125_i32_1482 : BitVec 32 := 125#32
  let v3701 : BitVec 32 := Scalar.muli v3700 c125_i32_1482
  let c7_i32_1483 : BitVec 32 := 7#32
  let v3702 : BitVec 32 := Scalar.shrsi v3701 c7_i32_1483
  let c1_i32_1492 : BitVec 32 := 1#32
  let v3715 : BitVec 32 := Scalar.addi v3702 c1_i32_1492
  let v3716 : BitVec 32 := Scalar.maxsi c0_i32_1493 v3715
  let v3717 : BitVec 32 := Scalar.minsi c93_i32_1494 v3716
  let c128_i32_1495 : BitVec 32 := 128#32
  let v3718 : BitVec 32 := Scalar.muli v3717 c128_i32_1495
  v3718
def k0_mult21 (i : grid0.Coords) : BitVec 32 :=
  let c93_i32_1500 : BitVec 32 := 93#32
  let c0_i32_1499 : BitVec 32 := 0#32
  let arg1 : BitVec 32 := BitVec.ofNat 32 (i 1).val
  let c7_i32_1480 : BitVec 32 := 7#32
  let v3698 : BitVec 32 := Scalar.muli arg1 c7_i32_1480
  let c6_i32 : BitVec 32 := 6#32
  let v3699 : BitVec 32 := Scalar.addi v3698 c6_i32
  let c1_i32_1481 : BitVec 32 := 1#32
  let v3700 : BitVec 32 := Scalar.subi v3699 c1_i32_1481
  let c125_i32_1482 : BitVec 32 := 125#32
  let v3701 : BitVec 32 := Scalar.muli v3700 c125_i32_1482
  let c7_i32_1483 : BitVec 32 := 7#32
  let v3702 : BitVec 32 := Scalar.shrsi v3701 c7_i32_1483
  let c2_i32_1498 : BitVec 32 := 2#32
  let v3725 : BitVec 32 := Scalar.addi v3702 c2_i32_1498
  let v3726 : BitVec 32 := Scalar.maxsi c0_i32_1499 v3725
  let v3727 : BitVec 32 := Scalar.minsi c93_i32_1500 v3726
  let c128_i32_1501 : BitVec 32 := 128#32
  let v3728 : BitVec 32 := Scalar.muli v3727 c128_i32_1501
  v3728
def k0_cond2 (i : grid0.Coords) : BitVec 1 :=
  let arg1 : BitVec 32 := BitVec.ofNat 32 (i 1).val
  let c13_i32 : BitVec 32 := 13#32
  let v4313 : BitVec 1 := Scalar.cmpi .eq arg1 c13_i32
  let v4314 : BitVec 32 := Scalar.extui v4313
  let c0_i32_1729 : BitVec 32 := 0#32
  let v4315 : BitVec 1 := Scalar.cmpi .ne v4314 c0_i32_1729
  v4315

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_12 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_13 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x192x12032 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S4x192x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S576x192 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S192x192 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S576x192 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x7x192x250 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x7x192x250 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x7x192x250 .fp8e4m3 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x2x98 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x2x98 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x2x98 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1x7x192x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x7x192x256 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x6x8x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]
-- ==== KernelIdeal.lean ====
variable {F : FTy → Type} [FloatOps F] [Named F]
def κ : String → Option EReal := fun
  | "inv_d" => some ((1 / 192 : ℝ) : EReal)
  | "score_scale" => some (((Real.sqrt 96)⁻¹ * (Real.log 2)⁻¹ : ℝ) : EReal)
  | _ => none
-- ==== ReferenceIdeal.lean ====
abbrev S6x12032x192 : Shape := ⟨3, ![6, 12032, 192]⟩
abbrev S192 : Shape := ⟨1, ![192]⟩
abbrev S192x3x2x96 : Shape := ⟨4, ![192, 3, 2, 96]⟩
abbrev S2x96x192 : Shape := ⟨3, ![2, 96, 192]⟩
abbrev S_ : Shape := ⟨0, ![]⟩
abbrev S6x12375x192 : Shape := ⟨3, ![6, 12375, 192]⟩
abbrev S6x99x125x192 : Shape := ⟨4, ![6, 99, 125, 192]⟩
abbrev S6x98x125x192 : Shape := ⟨4, ![6, 98, 125, 192]⟩
abbrev S6x98x250x192 : Shape := ⟨4, ![6, 98, 250, 192]⟩
abbrev S6x98x250 : Shape := ⟨3, ![6, 98, 250]⟩
abbrev S6x98x250x1 : Shape := ⟨4, ![6, 98, 250, 1]⟩
abbrev S1x1x1x192 : Shape := ⟨4, ![1, 1, 1, 192]⟩
abbrev S192x1x2x96 : Shape := ⟨4, ![192, 1, 2, 96]⟩
abbrev S192x2x96 : Shape := ⟨3, ![192, 2, 96]⟩
abbrev S2x96x6x98x250 : Shape := ⟨5, ![2, 96, 6, 98, 250]⟩
abbrev S6x98x2x96x250 : Shape := ⟨5, ![6, 98, 2, 96, 250]⟩
abbrev S6x98x2 : Shape := ⟨3, ![6, 98, 2]⟩
abbrev S6x98x2x1x1 : Shape := ⟨5, ![6, 98, 2, 1, 1]⟩
abbrev S6x98x192x250 : Shape := ⟨4, ![6, 98, 192, 250]⟩
abbrev S1176x1x1 : Shape := ⟨3, ![1176, 1, 1]⟩
abbrev S1x192x192 : Shape := ⟨3, ![1, 192, 192]⟩
abbrev S6x98x192x256 : Shape := ⟨4, ![6, 98, 192, 256]⟩
abbrev S1176x96x250 : Shape := ⟨3, ![1176, 96, 250]⟩
abbrev S1176x250x250 : Shape := ⟨3, ![1176, 250, 250]⟩
abbrev S1176x250 : Shape := ⟨2, ![1176, 250]⟩
abbrev S1176x250x1 : Shape := ⟨3, ![1176, 250, 1]⟩
abbrev S588x192x250 : Shape := ⟨3, ![588, 192, 250]⟩
abbrev S588x192x192 : Shape := ⟨3, ![588, 192, 192]⟩
abbrev S6x98x192x6 : Shape := ⟨4, ![6, 98, 192, 6]⟩

abbrev nBuf : Space → Nat
  | .hbm => 178
  | .vmem => 14
  | .smem => 0
  | _ => 0

abbrev hbmTy0_0 (i : Nat) : BufTy := match i % 128 with
  | 0 => ⟨S6x12032x192, .bf16⟩
  | 1 => ⟨S192, .f32⟩
  | 2 => ⟨S192, .f32⟩
  | 3 => ⟨S192x3x2x96, .bf16⟩
  | 4 => ⟨S2x96x192, .bf16⟩
  | 5 => ⟨S192, .f32⟩
  | 6 => ⟨S192, .f32⟩
  | 7 => ⟨S192x3x2x96, .bf16⟩
  | 8 => ⟨S2x96x192, .bf16⟩
  | 9 => ⟨S_, .i32⟩
  | 10 => ⟨S_, .bf16⟩
  | 11 => ⟨S6x12375x192, .bf16⟩
  | 12 => ⟨S6x99x125x192, .bf16⟩
  | 13 => ⟨S6x98x125x192, .bf16⟩
  | 14 => ⟨S6x98x125x192, .bf16⟩
  | 15 => ⟨S6x98x250x192, .bf16⟩
  | 16 => ⟨S6x98x250x192, .f32⟩
  | 17 => ⟨S_, .f32⟩
  | 18 => ⟨S6x98x250, .f32⟩
  | 19 => ⟨S6x98x250x1, .f32⟩
  | 20 => ⟨S_, .f32⟩
  | 21 => ⟨S6x98x250x1, .f32⟩
  | 22 => ⟨S6x98x250x1, .f32⟩
  | 23 => ⟨S6x98x250x192, .f32⟩
  | 24 => ⟨S6x98x250x192, .f32⟩
  | 25 => ⟨S6x98x250x192, .f32⟩
  | 26 => ⟨S_, .f32⟩
  | 27 => ⟨S6x98x250, .f32⟩
  | 28 => ⟨S6x98x250x1, .f32⟩
  | 29 => ⟨S_, .f32⟩
  | 30 => ⟨S6x98x250x1, .f32⟩
  | 31 => ⟨S6x98x250x1, .f32⟩
  | 32 => ⟨S6x98x250x192, .f32⟩
  | 33 => ⟨S6x98x250x192, .f32⟩
  | 34 => ⟨S_, .f32⟩
  | 35 => ⟨S6x98x250x1, .f32⟩
  | 36 => ⟨S6x98x250x1, .f32⟩
  | 37 => ⟨S6x98x250x1, .f32⟩
  | 38 => ⟨S6x98x250x192, .f32⟩
  | 39 => ⟨S6x98x250x192, .f32⟩
  | 40 => ⟨S1x1x1x192, .f32⟩
  | 41 => ⟨S6x98x250x192, .f32⟩
  | 42 => ⟨S6x98x250x192, .f32⟩
  | 43 => ⟨S1x1x1x192, .f32⟩
  | 44 => ⟨S6x98x250x192, .f32⟩
  | 45 => ⟨S6x98x250x192, .f32⟩
  | 46 => ⟨S6x98x250x192, .bf16⟩
  | 47 => ⟨S192x1x2x96, .bf16⟩
  | 48 => ⟨S192x2x96, .bf16⟩
  | 49 => ⟨S2x96x6x98x250, .f32⟩
  | 50 => ⟨S6x98x2x96x250, .f32⟩
  | 51 => ⟨S192x1x2x96, .bf16⟩
  | 52 => ⟨S192x2x96, .bf16⟩
  | 53 => ⟨S2x96x6x98x250, .f32⟩
  | 54 => ⟨S6x98x2x96x250, .f32⟩
  | 55 => ⟨S192x1x2x96, .bf16⟩
  | 56 => ⟨S192x2x96, .bf16⟩
  | 57 => ⟨S2x96x6x98x250, .f32⟩
  | 58 => ⟨S6x98x2x96x250, .f32⟩
  | 59 => ⟨S6x98x2x96x250, .f32⟩
  | 60 => ⟨S_, .f32⟩
  | 61 => ⟨S6x98x2, .f32⟩
  | 62 => ⟨S6x98x2x1x1, .f32⟩
  | 63 => ⟨S_, .f32⟩
  | 64 => ⟨S6x98x2x1x1, .f32⟩
  | 65 => ⟨S6x98x2x1x1, .f32⟩
  | 66 => ⟨S6x98x2x1x1, .f32⟩
  | 67 => ⟨S_, .f32⟩
  | 68 => ⟨S_, .f32⟩
  | 69 => ⟨S6x98x2x1x1, .f32⟩
  | 70 => ⟨S6x98x2x1x1, .f32⟩
  | 71 => ⟨S6x98x2x1x1, .f32⟩
  | 72 => ⟨S_, .f32⟩
  | 73 => ⟨S6x98x2x1x1, .f32⟩
  | 74 => ⟨S6x98x2x1x1, .f32⟩
  | 75 => ⟨S_, .f32⟩
  | 76 => ⟨S6x98x2x1x1, .f32⟩
  | 77 => ⟨S6x98x2x1x1, .i1⟩
  | 78 => ⟨S_, .f32⟩
  | 79 => ⟨S6x98x2x1x1, .f32⟩
  | 80 => ⟨S6x98x2x1x1, .i1⟩
  | 81 => ⟨S6x98x2x1x1, .i1⟩
  | 82 => ⟨S_, .f32⟩
  | 83 => ⟨S_, .f32⟩
  | 84 => ⟨S6x98x2x1x1, .f32⟩
  | 85 => ⟨S6x98x2x1x1, .f32⟩
  | 86 => ⟨S6x98x2x96x250, .f32⟩
  | 87 => ⟨S_, .f32⟩
  | 88 => ⟨S6x98x2, .f32⟩
  | 89 => ⟨S6x98x2x1x1, .f32⟩
  | 90 => ⟨S_, .f32⟩
  | 91 => ⟨S6x98x2x1x1, .f32⟩
  | 92 => ⟨S6x98x2x1x1, .f32⟩
  | 93 => ⟨S6x98x2x1x1, .f32⟩
  | 94 => ⟨S_, .f32⟩
  | 95 => ⟨S_, .f32⟩
  | 96 => ⟨S6x98x2x1x1, .f32⟩
  | 97 => ⟨S6x98x2x1x1, .f32⟩
  | 98 => ⟨S6x98x2x1x1, .f32⟩
  | 99 => ⟨S_, .f32⟩
  | 100 => ⟨S6x98x2x1x1, .f32⟩
  | 101 => ⟨S6x98x2x1x1, .f32⟩
  | 102 => ⟨S_, .f32⟩
  | 103 => ⟨S6x98x2x1x1, .f32⟩
  | 104 => ⟨S6x98x2x1x1, .i1⟩
  | 105 => ⟨S_, .f32⟩
  | 106 => ⟨S6x98x2x1x1, .f32⟩
  | 107 => ⟨S6x98x2x1x1, .i1⟩
  | 108 => ⟨S6x98x2x1x1, .i1⟩
  | 109 => ⟨S_, .f32⟩
  | 110 => ⟨S_, .f32⟩
  | 111 => ⟨S6x98x2x1x1, .f32⟩
  | 112 => ⟨S6x98x2x1x1, .f32⟩
  | 113 => ⟨S6x98x2x96x250, .f32⟩
  | 114 => ⟨S_, .f32⟩
  | 115 => ⟨S6x98x2, .f32⟩
  | 116 => ⟨S6x98x2x1x1, .f32⟩
  | 117 => ⟨S_, .f32⟩
  | 118 => ⟨S6x98x2x1x1, .f32⟩
  | 119 => ⟨S6x98x2x1x1, .f32⟩
  | 120 => ⟨S6x98x2x1x1, .f32⟩
  | 121 => ⟨S_, .f32⟩
  | 122 => ⟨S_, .f32⟩
  | 123 => ⟨S6x98x2x1x1, .f32⟩
  | 124 => ⟨S6x98x2x1x1, .f32⟩
  | 125 => ⟨S6x98x2x1x1, .f32⟩
  | 126 => ⟨S_, .f32⟩
  | 127 => ⟨S6x98x2x1x1, .f32⟩
  | _ => ⟨S6x12032x192, .bf16⟩

abbrev hbmTy0_1 (i : Nat) : BufTy := match i % 128 with
  | 0 => ⟨S6x98x2x1x1, .f32⟩
  | 1 => ⟨S_, .f32⟩
  | 2 => ⟨S6x98x2x1x1, .f32⟩
  | 3 => ⟨S6x98x2x1x1, .i1⟩
  | 4 => ⟨S_, .f32⟩
  | 5 => ⟨S6x98x2x1x1, .f32⟩
  | 6 => ⟨S6x98x2x1x1, .i1⟩
  | 7 => ⟨S6x98x2x1x1, .i1⟩
  | 8 => ⟨S_, .f32⟩
  | 9 => ⟨S_, .f32⟩
  | 10 => ⟨S6x98x2x1x1, .f32⟩
  | 11 => ⟨S6x98x2x1x1, .f32⟩
  | 12 => ⟨S_, .f32⟩
  | 13 => ⟨S6x98x2x1x1, .f32⟩
  | 14 => ⟨S6x98x2x1x1, .f32⟩
  | 15 => ⟨S_, .f32⟩
  | 16 => ⟨S6x98x2x1x1, .f32⟩
  | 17 => ⟨S6x98x2x1x1, .f32⟩
  | 18 => ⟨S6x98x2x1x1, .f32⟩
  | 19 => ⟨S_, .f32⟩
  | 20 => ⟨S_, .f32⟩
  | 21 => ⟨S6x98x2x1x1, .f32⟩
  | 22 => ⟨S6x98x2x1x1, .f32⟩
  | 23 => ⟨S_, .f32⟩
  | 24 => ⟨S6x98x2x1x1, .f32⟩
  | 25 => ⟨S6x98x2x1x1, .f32⟩
  | 26 => ⟨S_, .f32⟩
  | 27 => ⟨S6x98x2x1x1, .f32⟩
  | 28 => ⟨S6x98x2x1x1, .f32⟩
  | 29 => ⟨S6x98x192x250, .bf16⟩
  | 30 => ⟨S6x98x192x250, .f32⟩
  | 31 => ⟨S6x98x2x1x1, .f32⟩
  | 32 => ⟨S_, .f32⟩
  | 33 => ⟨S6x98x2x1x1, .f32⟩
  | 34 => ⟨S6x98x2x1x1, .f32⟩
  | 35 => ⟨S6x98x2x1x1, .f32⟩
  | 36 => ⟨S_, .f32⟩
  | 37 => ⟨S6x98x2x1x1, .f32⟩
  | 38 => ⟨S6x98x2x1x1, .f32⟩
  | 39 => ⟨S6x98x2x1x1, .f32⟩
  | 40 => ⟨S_, .f32⟩
  | 41 => ⟨S6x98x2x1x1, .f32⟩
  | 42 => ⟨S6x98x2x1x1, .f32⟩
  | 43 => ⟨S1176x1x1, .f32⟩
  | 44 => ⟨S1176x1x1, .f32⟩
  | 45 => ⟨S1x192x192, .bf16⟩
  | 46 => ⟨S6x98x192x250, .fp8e4m3⟩
  | 47 => ⟨S6x98x192x250, .fp8e4m3⟩
  | 48 => ⟨S6x98x192x250, .fp8e4m3⟩
  | 49 => ⟨S6x98x192x256, .f32⟩
  | _ => ⟨S6x12032x192, .bf16⟩

abbrev hbmTy (i : Nat) : BufTy := match i / 128 with
  | 0 => hbmTy0_0 i
  | 1 => hbmTy0_1 i
  | _ => ⟨S6x12032x192, .bf16⟩

abbrev bufTy : (tb : Table) → Fin (tcTables nBuf tb) → BufTy
  | .hbm, ⟨i, _⟩ => hbmTy i
  | .local _ .vmem, ⟨0, _⟩ => ⟨S6x98x192x250, .f32⟩
  | .local _ .vmem, ⟨1, _⟩ => ⟨S6x98x2x96x250, .f32⟩
  | .local _ .vmem, ⟨2, _⟩ => ⟨S6x98x2x96x250, .f32⟩
  | .local _ .vmem, ⟨3, _⟩ => ⟨S6x98x2x96x250, .f32⟩
  | .local _ .vmem, ⟨4, _⟩ => ⟨S6x98x2x1x1, .f32⟩
  | .local _ .vmem, ⟨5, _⟩ => ⟨S6x98x2x1x1, .f32⟩
  | .local _ .vmem, ⟨6, _⟩ => ⟨S6x98x2x1x1, .f32⟩
  | .local _ .vmem, ⟨7, _⟩ => ⟨S1176x1x1, .f32⟩
  | .local _ .vmem, ⟨8, _⟩ => ⟨S1176x1x1, .f32⟩
  | .local _ .vmem, ⟨9, _⟩ => ⟨S1x192x192, .bf16⟩
  | .local _ .vmem, ⟨10, _⟩ => ⟨S6x98x192x250, .fp8e4m3⟩
  | .local _ .vmem, ⟨11, _⟩ => ⟨S6x98x192x250, .fp8e4m3⟩
  | .local _ .vmem, ⟨12, _⟩ => ⟨S6x98x192x250, .fp8e4m3⟩
  | .local _ .vmem, ⟨13, _⟩ => ⟨S6x98x192x256, .f32⟩
  | _, _ => ⟨S6x12032x192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_call0_v0 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_cst : Ref sig .tc := ⟨.hbm, 17, rfl⟩
abbrev main_v6 : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_cst_1 : Ref sig .tc := ⟨.hbm, 26, rfl⟩
abbrev main_v13 : Ref sig .tc := ⟨.hbm, 27, rfl⟩
abbrev main_v14 : Ref sig .tc := ⟨.hbm, 28, rfl⟩
abbrev main_cst_2 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_cst_3 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_cst_4 : Ref sig .tc := ⟨.hbm, 60, rfl⟩
abbrev main_v44 : Ref sig .tc := ⟨.hbm, 61, rfl⟩
abbrev main_v45 : Ref sig .tc := ⟨.hbm, 62, rfl⟩
abbrev main_cst_5 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_cst_6 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_cst_7 : Ref sig .tc := ⟨.hbm, 72, rfl⟩
abbrev main_v53 : Ref sig .tc := ⟨.hbm, 73, rfl⟩
abbrev main_v54 : Ref sig .tc := ⟨.hbm, 74, rfl⟩
abbrev main_cst_8 : Ref sig .tc := ⟨.hbm, 75, rfl⟩
abbrev main_v55 : Ref sig .tc := ⟨.hbm, 76, rfl⟩
abbrev main_v56 : Ref sig .tc := ⟨.hbm, 77, rfl⟩
abbrev main_cst_9 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_cst_10 : Ref sig .tc := ⟨.hbm, 82, rfl⟩
abbrev main_call1_v0 : Ref sig .tc := ⟨.hbm, 83, rfl⟩
abbrev main_call1_v1 : Ref sig .tc := ⟨.hbm, 84, rfl⟩
abbrev main_v60 : Ref sig .tc := ⟨.hbm, 85, rfl⟩
abbrev main_v61 : Ref sig .tc := ⟨.hbm, 86, rfl⟩
abbrev main_cst_11 : Ref sig .tc := ⟨.hbm, 87, rfl⟩
abbrev main_v62 : Ref sig .tc := ⟨.hbm, 88, rfl⟩
abbrev main_v63 : Ref sig .tc := ⟨.hbm, 89, rfl⟩
abbrev main_cst_12 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_cst_13 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_cst_14 : Ref sig .tc := ⟨.hbm, 99, rfl⟩
abbrev main_v71 : Ref sig .tc := ⟨.hbm, 100, rfl⟩
abbrev main_v72 : Ref sig .tc := ⟨.hbm, 101, rfl⟩
abbrev main_cst_15 : Ref sig .tc := ⟨.hbm, 102, rfl⟩
abbrev main_v73 : Ref sig .tc := ⟨.hbm, 103, rfl⟩
abbrev main_v74 : Ref sig .tc := ⟨.hbm, 104, rfl⟩
abbrev main_cst_16 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_cst_17 : Ref sig .tc := ⟨.hbm, 109, rfl⟩
abbrev main_call2_v0 : Ref sig .tc := ⟨.hbm, 110, rfl⟩
abbrev main_call2_v1 : Ref sig .tc := ⟨.hbm, 111, rfl⟩
abbrev main_v78 : Ref sig .tc := ⟨.hbm, 112, rfl⟩
abbrev main_v79 : Ref sig .tc := ⟨.hbm, 113, rfl⟩
abbrev main_cst_18 : Ref sig .tc := ⟨.hbm, 114, rfl⟩
abbrev main_v80 : Ref sig .tc := ⟨.hbm, 115, rfl⟩
abbrev main_v81 : Ref sig .tc := ⟨.hbm, 116, rfl⟩
abbrev main_cst_19 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_cst_20 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_cst_21 : Ref sig .tc := ⟨.hbm, 126, rfl⟩
abbrev main_v89 : Ref sig .tc := ⟨.hbm, 127, rfl⟩
abbrev main_v90 : Ref sig .tc := ⟨.hbm, 128, rfl⟩
abbrev main_cst_22 : Ref sig .tc := ⟨.hbm, 129, rfl⟩
abbrev main_v91 : Ref sig .tc := ⟨.hbm, 130, rfl⟩
abbrev main_v92 : Ref sig .tc := ⟨.hbm, 131, rfl⟩
abbrev main_cst_23 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩
abbrev main_cst_24 : Ref sig .tc := ⟨.hbm, 136, rfl⟩
abbrev main_call3_v0 : Ref sig .tc := ⟨.hbm, 137, rfl⟩
abbrev main_call3_v1 : Ref sig .tc := ⟨.hbm, 138, rfl⟩
abbrev main_v96 : Ref sig .tc := ⟨.hbm, 139, rfl⟩
abbrev main_cst_25 : Ref sig .tc := ⟨.hbm, 140, rfl⟩
abbrev main_v97 : Ref sig .tc := ⟨.hbm, 141, rfl⟩
abbrev main_v98 : Ref sig .tc := ⟨.hbm, 142, rfl⟩
abbrev main_cst_26 : Ref sig .tc := ⟨.hbm, 143, rfl⟩
abbrev main_v99 : Ref sig .tc := ⟨.hbm, 144, rfl⟩
abbrev main_v100 : Ref sig .tc := ⟨.hbm, 145, rfl⟩
abbrev main_v101 : Ref sig .tc := ⟨.hbm, 146, rfl⟩
abbrev main_cst_27 : Ref sig .tc := ⟨.hbm, 147, rfl⟩
abbrev main_v102 : Ref sig .tc := ⟨.hbm, 148, rfl⟩
abbrev main_v103 : Ref sig .tc := ⟨.hbm, 149, rfl⟩
abbrev main_v104 : Ref sig .tc := ⟨.hbm, 150, rfl⟩
abbrev main_cst_28 : Ref sig .tc := ⟨.hbm, 151, rfl⟩
abbrev main_v105 : Ref sig .tc := ⟨.hbm, 152, rfl⟩
abbrev main_v106 : Ref sig .tc := ⟨.hbm, 153, rfl⟩
abbrev main_cst_29 : Ref sig .tc := ⟨.hbm, 154, rfl⟩
abbrev main_v107 : Ref sig .tc := ⟨.hbm, 155, rfl⟩
abbrev main_v108 : Ref sig .tc := ⟨.hbm, 156, rfl⟩
abbrev main_v109 : Ref sig .tc := ⟨.hbm, 157, rfl⟩
abbrev main_v110 : Ref sig .tc := ⟨.hbm, 158, rfl⟩
abbrev main_v111 : Ref sig .tc := ⟨.hbm, 159, rfl⟩
abbrev main_cst_30 : Ref sig .tc := ⟨.hbm, 160, rfl⟩
abbrev main_v112 : Ref sig .tc := ⟨.hbm, 161, rfl⟩
abbrev main_v113 : Ref sig .tc := ⟨.hbm, 162, rfl⟩
abbrev main_v114 : Ref sig .tc := ⟨.hbm, 163, rfl⟩
abbrev main_cst_31 : Ref sig .tc := ⟨.hbm, 164, rfl⟩
abbrev main_v115 : Ref sig .tc := ⟨.hbm, 165, rfl⟩
abbrev main_v116 : Ref sig .tc := ⟨.hbm, 166, rfl⟩
abbrev main_v117 : Ref sig .tc := ⟨.hbm, 167, rfl⟩
abbrev main_cst_32 : Ref sig .tc := ⟨.hbm, 168, rfl⟩
abbrev main_v118 : Ref sig .tc := ⟨.hbm, 169, rfl⟩
abbrev main_v119 : Ref sig .tc := ⟨.hbm, 170, rfl⟩
abbrev main_v120 : Ref sig .tc := ⟨.hbm, 171, rfl⟩
abbrev main_v121 : Ref sig .tc := ⟨.hbm, 172, rfl⟩
abbrev main_v122 : Ref sig .tc := ⟨.hbm, 173, rfl⟩
abbrev main_v123_0 : Ref sig .tc := ⟨.hbm, 174, rfl⟩
abbrev main_v123_1 : Ref sig .tc := ⟨.hbm, 175, rfl⟩
abbrev main_v123_2 : Ref sig .tc := ⟨.hbm, 176, rfl⟩
abbrev main_v123_3 : Ref sig .tc := ⟨.hbm, 177, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13

abbrev nD : Nat := 1
abbrev τ : Topo := Topo.v7x

variable {F : FTy → Type} [FloatOps F]

abbrev grid0 : Pipeline.Grid := .none

abbrev stage0_0 : Fin 1 → Memref sig .tc .vmem S6x98x192x250 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S6x98x2x96x250 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S6x98x2x96x250 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S6x98x2x96x250 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S6x98x2x1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S6x98x2x1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S6x98x2x1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1176x1x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1176x1x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x192x192 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S6x98x192x250 .fp8e4m3 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S6x98x192x250 .fp8e4m3 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S6x98x192x250 .fp8e4m3 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S6x98x192x256 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
-- ==== Proof.Preserves.lean ====
/-
  The rewriting rules used between the kernel and its idealized form hold.
-/
module

public import proofs.«01_k».proof.Defs
public import proofs.«01_k».proof.Proof.Gen.KernelIdeal
public import Idealize.ShloMosaic.Lib.Bf16Pair

@[expose] public section

noncomputable section

namespace Cert.Chunks

open Idealize.ShloMosaic

theorem preserves : Cert.preserves_Kernel_KernelIdeal :=
  ⟨IdealRules.bf16_pair.statement _ _ (by decide +kernel), IdealRules.bf16_pair.selectZeroStatement _,
    IdealRules.named_const.statement Cert.KernelIdeal.κ "inv_d" .f32 0x3BAAAAAB#32 ((1 / 192 : ℝ) : EReal) rfl,
    IdealRules.named_const.statement Cert.KernelIdeal.κ "score_scale" .f32 0x3E16C740#32
      (((Real.sqrt 96)⁻¹ * (Real.log 2)⁻¹ : ℝ) : EReal) rfl⟩

end Cert.Chunks
-- ==== Proof.Chunk.lean ====
/-
  The arithmetic of one chunk of the kernel, written once as functions of the loaded tiles and weights: the kernel's
  body repeats it seven times per grid point, and the payloads of each repetition are these functions by unfolding.
-/
module

public import proofs.«01_k».proof.Proof.Gen.KernelIdeal.Skeleton

@[expose] public section

noncomputable section

namespace Cert.KernelIdeal.Chunk

open Idealize.ShloMosaic Cert.KernelIdeal.Gen

variable {F : FTy → Type} [FloatOps F] [Named F]

/-- The lane number of each element of a 96 × 128 vector. -/
def lane : IVec S96x128 32 := iota .tc S96x128 32 [1] iota_S96x128_d1_w32

/-- The row number of each element of an 8 × 128 vector. -/
def row8 : IVec S8x128 32 := iota .tc S8x128 32 [0] iota_S8x128_d0_w32

/-- The first position of chunk `j` of the grid point `i`, as a word. -/
def start (i : grid0.Coords) (j : BitVec 32) : BitVec 32 :=
  Scalar.muli (Scalar.subi (Scalar.addi (Scalar.muli (BitVec.ofNat 32 (i 1).val) 7#32) j) 1#32) 125#32

/-- By how much the tiles are rotated to bring the chunk's first position to lane 0. -/
def shift (i : grid0.Coords) (j : BitVec 32) : BitVec 32 := Scalar.subi 128#32 (Scalar.andi (start i j) 127#32)

/-- A loaded tile without its unit axis. -/
def flat (w : Vec F S1x192x128 .bf16) : FVec F S192x128 .bf16 := shapeCast S192x128 w shapeCasts_S1x192x128_S192x128

/-- The rows of one parity of a tile, rotated. -/
def turned (p : Fin 2) (s : BitVec 32) (w : FVec F S192x128 .bf16) : FVec F S96x128 .bf16 :=
  dynamicRotate 1 s none (rowsOfParity p S96x128 w bitcasts_S192x128_w16_S96x128_w32) rotates_S96x128_d1

/-- Where the positions from `a` on lie in the sequence. -/
def inRange (a : BitVec 32) : IVec S96x128 1 :=
  andi (cmpi .sge (addi lane (broadcast S96x128 a)) (broadcast S96x128 0#32))
    (cmpi .slt (addi lane (broadcast S96x128 a)) (broadcast S96x128 12032#32))

/-- One parity of 128 columns of the chunk: two neighbouring rotated tiles joined, zero outside the sequence. -/
def part (p : Fin 2) (s a : BitVec 32) (w w' : FVec F S192x128 .bf16) : FVec F S96x128 .bf16 :=
  select (inRange a) (select (cmpi .slt lane (broadcast S96x128 s)) (turned p s w) (turned p s w'))
    (constant S96x128 .bf16 0x0000#16)

/-- 128 columns of the chunk. -/
def half (s a : BitVec 32) (w w' : FVec F S192x128 .bf16) : FVec F S192x128 .f32 :=
  extf .f32 (interleaveRows S192x128 (part 0 s a w w') (part 1 s a w w') bitcasts_S192x128_w16_S96x128_w32) bitsLt_bf16_f32

/-- The chunk's 256 columns, from the three tiles that hold them. -/
def cols (i : grid0.Coords) (j : BitVec 32) (w0 w1 w2 : Vec F S1x192x128 .bf16) : FVec F S192x256 .f32 :=
  concatenate S192x256 1
    [⟨S192x128, half (shift i j) (Scalar.addi (start i j) 0#32) (flat w0) (flat w1)⟩,
      ⟨S192x128, half (shift i j) (Scalar.addi (start i j) 128#32) (flat w1) (flat w2)⟩]
    concatenates_S192x128_S192x128_S192x256_d1

/-- The mean of each column. -/
def mean (u : FVec F S192x256 .f32) : FVec F S1x256 .f32 :=
  mulf (shapeCast S1x256 (multiReduction .add [0] S256 u 0x00000000#32 reduces_S192x256_S256 (.inl rfl) rfl) shapeCasts_S256_S1x256)
    (broadcast S1x256 (Named.named κ "inv_d" 0x3BAAAAAB#32))

/-- The columns less their means. -/
def centred (u : FVec F S192x256 .f32) : FVec F S192x256 .f32 := subf u (broadcastTo S192x256 (mean u) broadcasts_S1x256_S192x256)

/-- Layer normalisation of each column. -/
def norm (u : FVec F S192x256 .f32) (g b : Vec F S1x192x256 .f32) : FVec F S192x256 .bf16 :=
  truncf .bf16
    (addf
      (mulf
        (mulf (centred u)
          (broadcastTo S192x256 (rsqrt (addf (mean (mulf (centred u) (centred u))) (broadcast S1x256 (Scalar.ofBits .f32 0x3727C5AC#32))))
            broadcasts_S1x256_S192x256))
        (shapeCast S192x256 g shapeCasts_S1x192x256_S192x256))
      (shapeCast S192x256 b shapeCasts_S1x192x256_S192x256))
    bitsLt_bf16_f32

/-- One parity of the normalised columns from 128 on, with the columns from 250 on set to zero. -/
def kept (p : Fin 2) (n : FVec F S192x256 .bf16) : FVec F S96x128 .bf16 :=
  select (cmpi .slt lane (broadcast S96x128 122#32))
    (rowsOfParity p S96x128 (extractStridedSlice S192x128 ![0, 128] n slices_S192x256_o0_128_S192x128) bitcasts_S192x128_w16_S96x128_w32)
    (constant S96x128 .bf16 0x0000#16)

/-- The normalised columns, zero from column 250 on. -/
def masked (n : FVec F S192x256 .bf16) : FVec F S192x256 .bf16 :=
  concatenate S192x256 1
    [⟨S192x128, extractStridedSlice S192x128 ![0, 0] n slices_S192x256_o0_0_S192x128⟩,
      ⟨S192x128, interleaveRows S192x128 (kept 0 n) (kept 1 n) bitcasts_S192x128_w16_S96x128_w32⟩]
    concatenates_S192x128_S192x128_S192x256_d1

/-- The queries, keys and values of the chunk, all heads stacked. -/
def qkv (u : FVec F S192x256 .f32) (w : Vec F S576x192 .bf16) (g b : Vec F S1x192x256 .f32) : FVec F S576x256 .f32 :=
  matmul dot_S576x192_S192x256_S576x256_1_0_0_1_n_n none (shapeCast S576x192 w shapeCasts_S576x192_S576x192) (masked (norm u g b))
    (constant S576x256 .f32 0x00000000#32)

/-- The largest absolute value of one head's block, per lane. -/
def top (t : FVec F S96x256 .f32) : FVec F S128 .f32 :=
  multiReduction .maximumf [0] S128
    (maximumf
      (extractStridedSlice S8x128 ![0, 0]
        (multiReduction .maximumf [0] S8x256 (shapeCast S12x8x256 (absf t) shapeCasts_S96x256_S12x8x256) 0xFF800000#32 reduces_S12x8x256_S8x256 (.inl rfl) rfl)
        slices_S8x256_o0_0_S8x128)
      (extractStridedSlice S8x128 ![0, 128]
        (multiReduction .maximumf [0] S8x256 (shapeCast S12x8x256 (absf t) shapeCasts_S96x256_S12x8x256) 0xFF800000#32 reduces_S12x8x256_S8x256 (.inl rfl) rfl)
        slices_S8x256_o0_128_S8x128))
    0xFF800000#32 reduces_S8x128_S128 (.inl rfl) rfl

/-- Row `a` of the table of largest values is replaced by `t`. -/
def put (a : BitVec 32) (t : FVec F S128 .f32) (old : FVec F S8x128 .f32) : FVec F S8x128 .f32 :=
  select (cmpi .eq row8 (broadcast S8x128 a))
    (broadcastTo S8x128 (shapeCast S1x128 (shapeCast S1x128 t shapeCasts_S128_S1x128) shapeCasts_S1x128_S1x128) broadcasts_S1x128_S8x128) old

/-- The largest absolute value of each of the six blocks, one per row, the same in every lane. -/
def amax (b0 b1 b2 b3 b4 b5 : FVec F S96x256 .f32) : FVec F S8x128 .f32 :=
  broadcastTo S8x128
    (shapeCast S8x1
      (shapeCast S8x1
        (multiReduction .maximumf [1] S8
          (put 5#32 (top b5) (put 4#32 (top b4) (put 3#32 (top b3) (put 2#32 (top b2) (put 1#32 (top b1) (put 0#32 (top b0)
            (broadcast S8x128 (Scalar.ofBits .f32 0x00000000#32))))))))
          0xFF800000#32 reduces_S8x128_S8 (.inl rfl) rfl)
        shapeCasts_S8_S8x1)
      shapeCasts_S8x1_S8x1)
    broadcasts_S8x1_S8x128

/-- One step of the search for the exponent field: the bit `b` is kept if the power of two it gives is not above `x`. -/
def probe (x : FVec F S8x128 .f32) (b : BitVec 32) (t : IVec S8x128 32) : IVec S8x128 32 :=
  select (cmpf .oge x (bitcastToFloat .f32 (shli (addi t (broadcast S8x128 b)) (broadcast S8x128 23#32)))) (addi t (broadcast S8x128 b)) t

/-- The exponent field of a scale: that of the largest value over 448, and the field of one where that is 0 or not finite. -/
def field (a : FVec F S8x128 .f32) : IVec S8x128 32 :=
  let x := mulf a (broadcast S8x128 (Scalar.ofBits .f32 0x3B124925#32))
  let t := probe x 1#32 (probe x 2#32 (probe x 4#32 (probe x 8#32 (probe x 16#32 (probe x 32#32 (probe x 64#32
    (probe x 128#32 (broadcast S8x128 0#32))))))))
  let f := select (cmpf .ogt a (broadcast S8x128 (Scalar.ofBits .f32 0x7F7FFFFF#32))) (broadcast S8x128 255#32) t
  select (ori (cmpi .eq f (broadcast S8x128 0#32)) (cmpi .eq f (broadcast S8x128 255#32))) (broadcast S8x128 126#32) f

/-- The inverse scales. -/
def inv (f : IVec S8x128 32) : FVec F S8x128 .f32 :=
  bitcastToFloat .f32 (shli (subi (broadcast S8x128 253#32) f) (broadcast S8x128 23#32))

/-- The scales. -/
def scale (f : IVec S8x128 32) : FVec F S8x128 .f32 :=
  bitcastToFloat .f32 (shli (addi f (broadcast S8x128 1#32)) (broadcast S8x128 23#32))

/-- The codes of one block: scaled by the inverse scale of its row and clipped. -/
def code (r : FVec F S1x1 .f32) (t : FVec F S96x256 .f32) : FVec F S96x256 .fp8e4m3 :=
  truncf .fp8e4m3
    (minimumf (broadcast S96x256 (Scalar.ofBits .f32 0x43E00000#32))
      (maximumf (broadcast S96x256 (Scalar.ofBits .f32 0xC3E00000#32)) (mulf t (broadcastTo S96x256 r broadcasts_S1x1_S96x256))))
    bitsLt_fp8e4m3_f32

/-- The stored columns of a block of codes. -/
def stored (t : FVec F S96x256 .fp8e4m3) : FVec F S1x1x96x250 .fp8e4m3 :=
  shapeCast S1x1x96x250 (extractStridedSlice S96x250 ![0, 0] t slices_S96x256_o0_0_S96x250) shapeCasts_S96x250_S1x1x96x250

/-- The factor of the scores of a head. -/
def scoreScale (sq sk : FVec F S1x128 .f32) : FVec F S1x128 .f32 :=
  mulf (mulf sq sk) (broadcast S1x128 (Named.named κ "score_scale" 0x3E16C740#32))

/-- The factor of the sums of values of a head. -/
def outScale (sv : FVec F S1x128 .f32) : FVec F S1x128 .f32 := mulf sv (broadcast S1x128 (Scalar.ofBits .f32 0x3B800000#32))

/-- The scores of 128 queries: keys down, queries across. -/
def scores (q : FVec F S96x128 .fp8e4m3) (k : FVec F S96x256 .fp8e4m3) : FVec F S256x128 .f32 :=
  transpose S256x128 [1, 0]
    (matmul dot_S96x128_S96x256_S128x256_0_0_1_1_n_n none q k (constant S128x256 .f32 0x00000000#32)) transposes_S128x256_p1_0_S256x128

/-- Of the last eight keys only the first two are keys of the chunk. -/
def ok : IVec S8x128 1 := cmpi .slt row8 (broadcast S8x128 2#32)

/-- The last eight rows are replaced by `c` where they are no keys of the chunk. -/
def capped (c : F .f32) (t : FVec F S256x128 .f32) : FVec F S256x128 .f32 :=
  concatenate S256x128 0
    [⟨S248x128, extractStridedSlice S248x128 ![0, 0] t slices_S256x128_o0_0_S248x128⟩,
      ⟨S8x128, select ok (extractStridedSlice S8x128 ![248, 0] t slices_S256x128_o248_0_S8x128) (broadcast S8x128 c)⟩]
    concatenates_S248x128_S8x128_S256x128_d0

/-- The numerators of the softmax. -/
def weights (s : FVec F S256x128 .f32) (cs : FVec F S1x128 .f32) : FVec F S256x128 .f32 :=
  capped (Scalar.ofBits .f32 0x00000000#32)
    (exp2
      (mulf
        (subf s
          (broadcastTo S256x128
            (shapeCast S1x128
              (multiReduction .maximumf [0] S128 (capped (Scalar.ofBits .f32 0xFF800000#32) s) 0xFF800000#32 reduces_S256x128_S128 (.inl rfl) rfl)
              shapeCasts_S128_S1x128)
            broadcasts_S1x128_S256x128))
        (broadcastTo S256x128 cs broadcasts_S1x128_S256x128)))

/-- 256 over the sum of the numerators. -/
def share (p : FVec F S256x128 .f32) : FVec F S1x128 .f32 :=
  divf (broadcast S1x128 (Scalar.ofBits .f32 0x43800000#32))
    (shapeCast S1x128 (multiReduction .add [0] S128 p 0x00000000#32 reduces_S256x128_S128 (.inl rfl) rfl) shapeCasts_S128_S1x128)

/-- The values summed with the codes of the softmax. -/
def mixed (p : FVec F S256x128 .f32) (v : FVec F S96x256 .fp8e4m3) (ov : FVec F S1x128 .f32) : FVec F S96x128 .bf16 :=
  truncf .bf16
    (mulf
      (transpose S96x128 [1, 0]
        (matmul dot_S128x256_S96x256_S128x96_1_1_0_0_n_n none
          (truncf .fp8e4m3
            (transpose S128x256 [1, 0] (mulf p (broadcastTo S256x128 (share p) broadcasts_S1x128_S256x128)) transposes_S256x128_p1_0_S128x256)
            bitsLt_fp8e4m3_f32)
          v (constant S128x96 .f32 0x00000000#32))
        transposes_S128x96_p1_0_S96x128)
      (broadcastTo S96x128 ov broadcasts_S1x128_S96x128))
    bitsLt_bf16_f32

/-- Attention of 128 queries of one head. -/
def tile (q : FVec F S96x128 .fp8e4m3) (k v : FVec F S96x256 .fp8e4m3) (cs ov : FVec F S1x128 .f32) : FVec F S96x128 .bf16 :=
  mixed (weights (scores q k) cs) v ov

/-- Attention of one head. -/
def head (q k v : FVec F S96x256 .fp8e4m3) (cs ov : FVec F S1x128 .f32) : FVec F S96x256 .bf16 :=
  concatenate S96x256 1
    [⟨S96x128, tile (extractStridedSlice S96x128 ![0, 0] q slices_S96x256_o0_0_S96x128) k v cs ov⟩,
      ⟨S96x128, tile (extractStridedSlice S96x128 ![0, 128] q slices_S96x256_o0_128_S96x128) k v cs ov⟩]
    concatenates_S96x128_S96x128_S96x256_d1

/-- The chunk plus its projected attention. -/
def residual (u : FVec F S192x256 .f32) (w : Vec F S192x192 .bf16) (h0 h1 : FVec F S96x256 .bf16) : FVec F S192x256 .f32 :=
  addf u
    (matmul dot_S192x192_S192x256_S192x256_1_0_0_1_n_n none (shapeCast S192x192 w shapeCasts_S192x192_S192x192)
      (concatenate S192x256 0 [⟨S96x256, h0⟩, ⟨S96x256, h1⟩] concatenates_S96x256_S96x256_S192x256_d0)
      (constant S192x256 .f32 0x00000000#32))

/-- Block `a` of the stacked queries, keys and values. -/
def block0 (t : FVec F S576x256 .f32) : FVec F S96x256 .f32 := extractStridedSlice S96x256 ![0, 0] t slices_S576x256_o0_0_S96x256
@[inherit_doc block0] def block1 (t : FVec F S576x256 .f32) : FVec F S96x256 .f32 := extractStridedSlice S96x256 ![96, 0] t slices_S576x256_o96_0_S96x256
@[inherit_doc block0] def block2 (t : FVec F S576x256 .f32) : FVec F S96x256 .f32 := extractStridedSlice S96x256 ![192, 0] t slices_S576x256_o192_0_S96x256
@[inherit_doc block0] def block3 (t : FVec F S576x256 .f32) : FVec F S96x256 .f32 := extractStridedSlice S96x256 ![288, 0] t slices_S576x256_o288_0_S96x256
@[inherit_doc block0] def block4 (t : FVec F S576x256 .f32) : FVec F S96x256 .f32 := extractStridedSlice S96x256 ![384, 0] t slices_S576x256_o384_0_S96x256
@[inherit_doc block0] def block5 (t : FVec F S576x256 .f32) : FVec F S96x256 .f32 := extractStridedSlice S96x256 ![480, 0] t slices_S576x256_o480_0_S96x256

/-- The exponent fields of the six blocks. -/
def fields (t : FVec F S576x256 .f32) : IVec S8x128 32 := field (amax (block0 t) (block1 t) (block2 t) (block3 t) (block4 t) (block5 t))

/-- The codes of block `a`. -/
def code0 (t : FVec F S576x256 .f32) : FVec F S96x256 .fp8e4m3 := code (extractStridedSlice S1x1 ![0, 0] (inv (fields t)) slices_S8x128_o0_0_S1x1) (block0 t)
@[inherit_doc code0] def code1 (t : FVec F S576x256 .f32) : FVec F S96x256 .fp8e4m3 := code (extractStridedSlice S1x1 ![1, 0] (inv (fields t)) slices_S8x128_o1_0_S1x1) (block1 t)
@[inherit_doc code0] def code2 (t : FVec F S576x256 .f32) : FVec F S96x256 .fp8e4m3 := code (extractStridedSlice S1x1 ![2, 0] (inv (fields t)) slices_S8x128_o2_0_S1x1) (block2 t)
@[inherit_doc code0] def code3 (t : FVec F S576x256 .f32) : FVec F S96x256 .fp8e4m3 := code (extractStridedSlice S1x1 ![3, 0] (inv (fields t)) slices_S8x128_o3_0_S1x1) (block3 t)
@[inherit_doc code0] def code4 (t : FVec F S576x256 .f32) : FVec F S96x256 .fp8e4m3 := code (extractStridedSlice S1x1 ![4, 0] (inv (fields t)) slices_S8x128_o4_0_S1x1) (block4 t)
@[inherit_doc code0] def code5 (t : FVec F S576x256 .f32) : FVec F S96x256 .fp8e4m3 := code (extractStridedSlice S1x1 ![5, 0] (inv (fields t)) slices_S8x128_o5_0_S1x1) (block5 t)

/-- The attention of head 0 and of head 1. -/
def head0 (t : FVec F S576x256 .f32) : FVec F S96x256 .bf16 :=
  head (code0 t) (code2 t) (code4 t)
    (scoreScale (extractStridedSlice S1x128 ![0, 0] (scale (fields t)) slices_S8x128_o0_0_S1x128) (extractStridedSlice S1x128 ![2, 0] (scale (fields t)) slices_S8x128_o2_0_S1x128))
    (outScale (extractStridedSlice S1x128 ![4, 0] (scale (fields t)) slices_S8x128_o4_0_S1x128))
@[inherit_doc head0] def head1 (t : FVec F S576x256 .f32) : FVec F S96x256 .bf16 :=
  head (code1 t) (code3 t) (code5 t)
    (scoreScale (extractStridedSlice S1x128 ![1, 0] (scale (fields t)) slices_S8x128_o1_0_S1x128) (extractStridedSlice S1x128 ![3, 0] (scale (fields t)) slices_S8x128_o3_0_S1x128))
    (outScale (extractStridedSlice S1x128 ![5, 0] (scale (fields t)) slices_S8x128_o5_0_S1x128))

/-- What the chunk stores as its result `u1`. -/
def out (u : FVec F S192x256 .f32) (t : FVec F S576x256 .f32) (w : Vec F S192x192 .bf16) : FVec F S1x1x192x256 .f32 :=
  shapeCast S1x1x192x256 (residual u w (head0 t) (head1 t)) shapeCasts_S192x256_S1x1x192x256

end Cert.KernelIdeal.Chunk
-- ==== Proof.ReadAmax.lean ====
/-
  The largest absolute values of the six blocks, read as suprema.
-/
module

public import proofs.«01_k».proof.Proof.Chunk
public import Idealize.ShloMosaic.Lib.Pointwise

@[expose] public section

noncomputable section

namespace Cert.KernelIdeal.Chunk

open Idealize.ShloMosaic Cert.KernelIdeal.Gen

/-- The largest absolute value of a block with all its 256 columns. -/
def peak256 (b : FVec Ideal S96x256 .f32) : EReal :=
  Finset.univ.sup fun p : Fin 96 × Fin 256 => max (b (ix2 p.1 p.2)) (-b (ix2 p.1 p.2))

theorem ofBits_bot : Ideal.ofBits .f32 4286578688#32 = ⊥ := by simp [Ideal.ofBits, Ideal.ieee]

theorem top_le (t : FVec Ideal S96x256 .f32) (l : Fin 128) : top t (ix1 l) ≤ peak256 t := by
  pointwise [top]
  rw [ofBits_bot, Finset.fold_max_le]
  refine ⟨bot_le, fun x _ => max_le ?_ ?_⟩
  all_goals
    rw [Finset.fold_max_le]
    refine ⟨bot_le, fun y _ => ?_⟩
    exact Finset.le_sup (f := fun p : Fin 96 × Fin 256 => max (t (ix2 p.1 p.2)) (-t (ix2 p.1 p.2))) (Finset.mem_univ (_, _))

theorem le_top (t : FVec Ideal S96x256 .f32) (k : Fin 96) (c : Fin 256) :
    max (t (ix2 k c)) (-t (ix2 k c)) ≤ top t (ix1 ⟨c.val % 128, by omega⟩) := by
  pointwise [top]
  rw [ofBits_bot, Finset.le_fold_max]
  refine Or.inr ⟨⟨k.val % 8, by omega⟩, Finset.mem_univ _, ?_⟩
  by_cases h : c.val < 128
  · refine le_max_of_le_left ?_
    rw [Finset.le_fold_max]
    refine Or.inr ⟨⟨k.val / 8, by omega⟩, Finset.mem_univ _, le_of_eq ?_⟩
    have e : (ix2 k c : S96x256.Idx) = ix2 ⟨k.val / 8 * 8 + k.val % 8, by omega⟩ ⟨c.val % 128, by omega⟩ := by
      congr 1 <;> apply Fin.ext <;> simp only <;> omega
    exact congrArg (fun i => max (t i) (-t i)) e
  · refine le_max_of_le_right ?_
    rw [Finset.le_fold_max]
    refine Or.inr ⟨⟨k.val / 8, by omega⟩, Finset.mem_univ _, le_of_eq ?_⟩
    have e : (ix2 k c : S96x256.Idx) = ix2 ⟨k.val / 8 * 8 + k.val % 8, by omega⟩ ⟨128 + c.val % 128, by omega⟩ := by
      congr 1 <;> apply Fin.ext <;> simp only <;> omega
    exact congrArg (fun i => max (t i) (-t i)) e

/-- The largest over the lanes. -/
theorem fold_top (t : FVec Ideal S96x256 .f32) : (Finset.univ : Finset (Fin 128)).fold max ⊥ (fun x => top t (ix1 x)) = peak256 t := by
  apply le_antisymm
  · rw [Finset.fold_max_le]
    exact ⟨bot_le, fun x _ => top_le t x⟩
  · refine Finset.sup_le fun p _ => ?_
    rw [Finset.le_fold_max]
    exact Or.inr ⟨_, Finset.mem_univ _, le_top t p.1 p.2⟩

section
variable (b0 b1 b2 b3 b4 b5 : FVec Ideal S96x256 .f32) (l : Fin 128)

theorem amax_0 : amax b0 b1 b2 b3 b4 b5 (ix2 0 l) = peak256 b0 := by
  pointwise [amax, put, row8]
  rw [ofBits_bot, ← fold_top b0]; rfl
theorem amax_1 : amax b0 b1 b2 b3 b4 b5 (ix2 1 l) = peak256 b1 := by
  pointwise [amax, put, row8]
  rw [ofBits_bot, ← fold_top b1]; rfl
theorem amax_2 : amax b0 b1 b2 b3 b4 b5 (ix2 2 l) = peak256 b2 := by
  pointwise [amax, put, row8]
  rw [ofBits_bot, ← fold_top b2]; rfl
theorem amax_3 : amax b0 b1 b2 b3 b4 b5 (ix2 3 l) = peak256 b3 := by
  pointwise [amax, put, row8]
  rw [ofBits_bot, ← fold_top b3]; rfl
theorem amax_4 : amax b0 b1 b2 b3 b4 b5 (ix2 4 l) = peak256 b4 := by
  pointwise [amax, put, row8]
  rw [ofBits_bot, ← fold_top b4]; rfl
theorem amax_5 : amax b0 b1 b2 b3 b4 b5 (ix2 5 l) = peak256 b5 := by
  pointwise [amax, put, row8]
  rw [ofBits_bot, ← fold_top b5]

end

end Cert.KernelIdeal.Chunk
-- ==== Proof.Exponent.lean ====
/-
  The power-of-two scale of a block. The kernel searches the exponent field of the largest value over 448 bit by bit; the
  reference takes the floor of a logarithm. Both give the exponent `expo` below, for every extended real that is not negative.
-/
module

public import Idealize.ShloMosaic.Lib.Pointwise
public import Idealize.ShloMosaic.Lib.IdealHost

@[expose] public section

noncomputable section

namespace Cert.Chunks

open Idealize.ShloMosaic

/-- The largest finite value, above which the scale is one. -/
def huge : EReal := Ideal.ofBits .f32 0x7F7FFFFF#32

/-- The smallest normal value, below which the scale is one. -/
def tiny : EReal := Ideal.ofBits .f32 0x00800000#32

/-- The largest absolute value over 448. -/
def ratio (a : EReal) : EReal := a * Ideal.ofBits .f32 0x3B124925#32

open Classical in
/-- The exponent of the scale of a block whose largest absolute value is `a`. -/
def expo (a : EReal) : ℤ :=
  if ratio a < tiny ∨ huge < a then 0 else ⌊Real.log (ratio a).toReal / Real.log 2⌋ + 1

/-- A power of two. -/
def pow2 (e : ℤ) : ℝ := (2 : ℝ) ^ e

/-- The pattern whose exponent field is `n` and whose other bits are zero. -/
def fld (n : ℕ) : BitVec 32 := IntOp.shli .vector (BitVec.ofNat 32 n) 23#32

theorem fld_parts : ∀ n : Fin 255, (BitVec.extractLsb' (8 + 23) 1 (fld n.val) == 1#1) = false ∧
    (BitVec.extractLsb' 23 8 (fld n.val)).toNat = n.val ∧ (BitVec.extractLsb' 0 23 (fld n.val)).toNat = 0 := by
  decide +kernel

/-- The pattern with field `n` is a power of two. -/
theorem ofBits_field (n : ℕ) (h1 : 1 ≤ n) (h2 : n ≤ 254) :
    Ideal.ofBits .f32 (fld n) = ((pow2 ((n : ℤ) - 127) : ℝ) : EReal) := by
  obtain ⟨hs, he, hf⟩ := fld_parts ⟨n, by omega⟩
  simp only at hs he hf
  show Ideal.ieee 8 23 (fld n) = _
  unfold Ideal.ieee
  simp only [hs, he, hf]
  rw [if_neg (by omega), if_neg (by omega)]
  refine congrArg (fun r : ℝ => (r : EReal)) ?_
  unfold pow2
  have : ((n : ℤ) - 127) = 23 + ((n : ℤ) - (2 ^ (8 - 1) - 1) - (23 : ℕ)) := by norm_num
  rw [this, zpow_add₀ (by norm_num)]
  norm_num

/-- The pattern with all exponent bits set is infinity. -/
theorem ofBits_field_top : Ideal.ofBits .f32 (fld 255) = ⊤ := by
  have e : fld 255 = 0x7F800000#32 := by decide +kernel
  rw [e]; simp [Ideal.ofBits, Ideal.ieee]

theorem tiny_eq : tiny = ((pow2 (-126) : ℝ) : EReal) := by
  have h := ofBits_field 1 le_rfl (by norm_num)
  have e : fld 1 = 0x00800000#32 := by decide +kernel
  rw [e] at h
  unfold tiny
  rw [h]; norm_num

theorem huge_lt : huge < ((pow2 128 : ℝ) : EReal) := by
  unfold huge
  have e : Ideal.ofBits .f32 0x7F7FFFFF#32 = ((16777215 * 2 ^ 104 : ℝ) : EReal) := by
    simp [Ideal.ofBits, Ideal.ieee, -EReal.coe_mul]
  rw [e, EReal.coe_lt_coe_iff]; unfold pow2; norm_num

theorem ratio_const : ∃ r : ℝ, Ideal.ofBits .f32 0x3B124925#32 = (r : EReal) ∧ 0 < r ∧ r < 1 := by
  refine ⟨(2 ^ 23 + 1198373 : ℕ) * (2:ℝ) ^ ((118 : ℤ) - 127 - 23), ?_, by positivity, by norm_num⟩
  simp [Ideal.ofBits, Ideal.ieee, -EReal.coe_mul]

/-- One step of the search on a single value. -/
def probe1 (x : EReal) (b t : BitVec 32) : BitVec 32 :=
  Scalar.select (Ideal.cmp .oge x (Ideal.ofBits .f32 (IntOp.shli .vector (IntOp.addi t b) 23#32))) (IntOp.addi t b) t

/-- The search on a single value. -/
def search (x : EReal) : BitVec 32 :=
  probe1 x 1#32 (probe1 x 2#32 (probe1 x 4#32 (probe1 x 8#32 (probe1 x 16#32 (probe1 x 32#32 (probe1 x 64#32
    (probe1 x 128#32 0#32)))))))

/-- The field of a single value. -/
def field1 (a : EReal) : BitVec 32 :=
  let f := Scalar.select (Ideal.cmp .ogt a huge) 255#32 (search (ratio a))
  Scalar.select (IntOp.ori (IntOp.cmpi .eq f 0#32) (IntOp.cmpi .eq f 255#32)) 126#32 f

/-- `T` is the greatest field whose power of two is not above `x`. -/
def Tops (x : EReal) (T : ℕ) : Prop :=
  ∀ n : ℕ, 1 ≤ n → n ≤ 255 → (Ideal.ofBits .f32 (fld n) ≤ x ↔ n ≤ T)

theorem probe_step {x : EReal} {T : ℕ} (h : Tops x T) (hT : T ≤ 254) (b t t' : ℕ) (hb : 1 ≤ b) (hs : t + b ≤ 255)
    (e : t' = if t + b ≤ T then t + b else t) :
    probe1 x (BitVec.ofNat 32 b) (BitVec.ofNat 32 t) = BitVec.ofNat 32 t' := by
  have ha : IntOp.addi (BitVec.ofNat 32 t) (BitVec.ofNat 32 b) = BitVec.ofNat 32 (t + b) := by
    simp [IntOp.addi, BitVec.ofNat_add]
  have hsh : IntOp.shli .vector (BitVec.ofNat 32 (t + b)) 23#32 = fld (t + b) := rfl
  unfold probe1
  rw [ha, hsh]
  have := h (t + b) (by omega) hs
  by_cases hc : t + b ≤ T
  · have hx := this.2 hc
    rw [e, if_pos hc]
    simp [Ideal.cmp, hx, Scalar.select]
  · have hx : ¬ _ := fun q => hc (this.1 q)
    rw [e, if_neg hc]
    simp [Ideal.cmp, hx, Scalar.select]

theorem search_eq {x : EReal} {T : ℕ} (h : Tops x T) (hT : T ≤ 254) : search x = BitVec.ofNat 32 T := by
  have s1 : probe1 x 128#32 0#32 = BitVec.ofNat 32 (T - T % 128) :=
    probe_step h hT 128 0 (T - T % 128) (by norm_num) (by omega) (by split_ifs <;> omega)
  have s2 := (congrArg (probe1 x 64#32) s1).trans
    (probe_step h hT 64 (T - T % 128) (T - T % 64) (by norm_num) (by omega) (by split_ifs <;> omega))
  have s3 := (congrArg (probe1 x 32#32) s2).trans
    (probe_step h hT 32 (T - T % 64) (T - T % 32) (by norm_num) (by omega) (by split_ifs <;> omega))
  have s4 := (congrArg (probe1 x 16#32) s3).trans
    (probe_step h hT 16 (T - T % 32) (T - T % 16) (by norm_num) (by omega) (by split_ifs <;> omega))
  have s5 := (congrArg (probe1 x 8#32) s4).trans
    (probe_step h hT 8 (T - T % 16) (T - T % 8) (by norm_num) (by omega) (by split_ifs <;> omega))
  have s6 := (congrArg (probe1 x 4#32) s5).trans
    (probe_step h hT 4 (T - T % 8) (T - T % 4) (by norm_num) (by omega) (by split_ifs <;> omega))
  have s7 := (congrArg (probe1 x 2#32) s6).trans
    (probe_step h hT 2 (T - T % 4) (T - T % 2) (by norm_num) (by omega) (by split_ifs <;> omega))
  have s8 := (congrArg (probe1 x 1#32) s7).trans
    (probe_step h hT 1 (T - T % 2) (T) (by norm_num) (by omega) (by split_ifs <;> omega))
  exact s8

/-- The field found is the exponent plus 126, and lies in 1 … 252. -/
theorem field1_eq (a : EReal) (ha : 0 ≤ a) :
    ∃ n : ℕ, 1 ≤ n ∧ n ≤ 252 ∧ field1 a = BitVec.ofNat 32 n ∧ expo a = (n : ℤ) - 126 := by
  by_cases hbig : huge < a
  · refine ⟨126, by norm_num, by norm_num, ?_, ?_⟩
    · simp only [field1, Ideal.cmp, decide_eq_true hbig]
      have e : ∀ w : BitVec 32, Scalar.select (BitVec.ofBool true) 255#32 w = 255#32 := fun w => by simp [Scalar.select]
      rw [e]
      decide
    · unfold expo; rw [if_pos (Or.inr hbig)]; norm_num
  · have hle : a ≤ huge := not_lt.1 hbig
    obtain ⟨r, hr, r0, r1⟩ := ratio_const
    have hfin : a < ((pow2 128 : ℝ) : EReal) := lt_of_le_of_lt hle huge_lt
    induction a using EReal.rec with
    | bot => exact absurd ha (by simp)
    | top => exact absurd hfin (by simp)
    | coe z =>
      have z0 : 0 ≤ z := by exact_mod_cast ha
      have z1 : z < pow2 128 := by exact_mod_cast hfin
      have hx : ratio (z : EReal) = ((z * r : ℝ) : EReal) := by unfold ratio; rw [hr, EReal.coe_mul]
      have hmain : ∀ T : ℕ, T ≤ 254 → Tops (ratio (z : EReal)) T → field1 (z : EReal) = if T = 0 then 126#32 else BitVec.ofNat 32 T := by
        intro T hT h
        have hs := search_eq h hT
        simp only [field1, Ideal.cmp, decide_eq_false hbig, hs]
        change Scalar.select (IntOp.ori (IntOp.cmpi .eq (BitVec.ofNat 32 T) 0#32) (IntOp.cmpi .eq (BitVec.ofNat 32 T) 255#32)) 126#32 (BitVec.ofNat 32 T) = _
        have : ∀ T : Fin 255, Scalar.select (IntOp.ori (IntOp.cmpi .eq (BitVec.ofNat 32 T.val) 0#32) (IntOp.cmpi .eq (BitVec.ofNat 32 T.val) 255#32)) 126#32 (BitVec.ofNat 32 T.val)
          = if T.val = 0 then 126#32 else BitVec.ofNat 32 T.val := by decide +kernel
        exact this ⟨T, by omega⟩
      by_cases hsm : ratio (z : EReal) < tiny
      · have hsm' : z * r < pow2 (-126) := by rw [hx, tiny_eq] at hsm; exact_mod_cast hsm
        refine ⟨126, by norm_num, by norm_num, ?_, ?_⟩
        · rw [hmain 0 (by norm_num)]
          · rfl
          · intro n n1 n2
            refine ⟨fun q => ?_, fun q => by omega⟩
            exfalso
            rcases Nat.lt_or_ge n 255 with hn | hn
            · rw [ofBits_field n n1 (by omega), hx] at q
              have q' : pow2 ((n : ℤ) - 127) ≤ z * r := by exact_mod_cast q
              have : pow2 (-126) ≤ pow2 ((n : ℤ) - 127) := zpow_le_zpow_right₀ (by norm_num) (by omega)
              linarith
            · obtain rfl : n = 255 := by omega
              rw [ofBits_field_top, hx] at q
              exact absurd q (not_le.2 (EReal.coe_lt_top _))
        · unfold expo; rw [if_pos (Or.inl hsm)]; norm_num
      · have hsm' : pow2 (-126) ≤ z * r := by rw [hx, tiny_eq, not_lt] at hsm; exact_mod_cast hsm
        have p126 : 0 < pow2 (-126) := by unfold pow2; positivity
        have xpos : 0 < z * r := lt_of_lt_of_le p126 hsm'
        have xlt : z * r < pow2 126 := by
          -- the constant is below one quarter
          have : r < 1 / 4 := by
            have h := hr
            have e : Ideal.ofBits .f32 0x3B124925#32 = (((2 ^ 23 + 1198373 : ℕ) * (2:ℝ) ^ ((118 : ℤ) - 127 - 23) : ℝ) : EReal) := by
              simp [Ideal.ofBits, Ideal.ieee, -EReal.coe_mul]
            rw [e] at h
            have h' := EReal.coe_eq_coe_iff.1 h
            rw [← h']; norm_num
          have p : pow2 128 = 4 * pow2 126 := by unfold pow2; norm_num
          nlinarith
        set L := ⌊Real.log (z * r) / Real.log 2⌋ with hL
        have log2 : 0 < Real.log 2 := Real.log_pos (by norm_num)
        have key : ∀ m : ℤ, m ≤ L ↔ pow2 m ≤ z * r := by
          intro m
          rw [hL, Int.le_floor, le_div_iff₀ log2]
          have : (m : ℝ) * Real.log 2 = Real.log (pow2 m) := by unfold pow2; rw [Real.log_zpow]
          rw [this]
          exact Real.log_le_log_iff (by unfold pow2; positivity) xpos
        have l1 : -126 ≤ L := (key _).2 hsm'
        have l2 : L < 126 := by
          by_contra hc
          have := (key 126).1 (by omega)
          linarith
        refine ⟨(L + 127).toNat, by omega, by omega, ?_, ?_⟩
        · rw [hmain (L + 127).toNat (by omega), if_neg (by omega)]
          intro n n1 n2
          rcases Nat.lt_or_ge n 255 with hn | hn
          · rw [ofBits_field n n1 (by omega), hx, EReal.coe_le_coe_iff, ← key]
            omega
          · obtain rfl : n = 255 := by omega
            rw [ofBits_field_top, hx]
            refine ⟨fun q => absurd q (not_le.2 (EReal.coe_lt_top _)), fun q => by omega⟩
        · unfold expo
          rw [if_neg (by rintro (h | h); exacts [hsm h, hbig h]), hx, EReal.toReal_coe, ← hL]
          omega

/-- The inverse scale that the kernel builds. -/
theorem inv_eq (a : EReal) (ha : 0 ≤ a) :
    Ideal.ofBits .f32 (IntOp.shli .vector (IntOp.subi 253#32 (field1 a)) 23#32) = ((pow2 (-expo a) : ℝ) : EReal) := by
  obtain ⟨n, n1, n2, hn, he⟩ := field1_eq a ha
  rw [hn, he]
  have : IntOp.shli .vector (IntOp.subi 253#32 (BitVec.ofNat 32 n)) 23#32 = fld (253 - n) := by
    unfold fld
    congr 1
    apply BitVec.eq_of_toNat_eq
    simp [IntOp.subi]
    omega
  rw [this, ofBits_field (253 - n) (by omega) (by omega)]
  congr 2
  omega

/-- The scale that the kernel builds. -/
theorem scale_eq (a : EReal) (ha : 0 ≤ a) :
    Ideal.ofBits .f32 (IntOp.shli .vector (IntOp.addi (field1 a) 1#32) 23#32) = ((pow2 (expo a) : ℝ) : EReal) := by
  obtain ⟨n, n1, n2, hn, he⟩ := field1_eq a ha
  rw [hn, he]
  have : IntOp.shli .vector (IntOp.addi (BitVec.ofNat 32 n) 1#32) 23#32 = fld (n + 1) := by
    unfold fld
    congr 1
    apply BitVec.eq_of_toNat_eq
    simp [IntOp.addi]
  rw [this, ofBits_field (n + 1) (by omega) (by omega)]
  congr 2
  omega

end Cert.Chunks
-- ==== Proof.Form.lean ====
/-
  The mathematics of one chunk over the extended reals: layer normalisation, the projections, the codes, attention and the
  residual. Both programs are read to these functions.
-/
module

public import proofs.«01_k».proof.Proof.Exponent

@[expose] public section

noncomputable section

namespace Cert.Chunks

open Idealize.ShloMosaic

/-- The mean of 192 values. -/
def avg (f : Fin 192 → EReal) : EReal := (∑ d, f d) * ((1 / 192 : ℝ) : EReal)

/-- Layer normalisation of one column. -/
def normed (u g b : Fin 192 → EReal) (d : Fin 192) : EReal :=
  (u d - avg u) * Ideal.rsqrt (avg (fun e => (u e - avg u) * (u e - avg u)) + Ideal.ofBits .f32 0x3727C5AC#32) * g d + b d

/-- The largest absolute value of one head's block. -/
def peak (Q : Fin 96 → Fin 250 → EReal) : EReal := Finset.univ.sup fun p : Fin 96 × Fin 250 => max (Q p.1 p.2) (-Q p.1 p.2)

/-- The codes of a block: scaled by the inverse scale and clipped. -/
def coded (Q : Fin 96 → Fin 250 → EReal) (k : Fin 96) (c : Fin 250) : EReal :=
  min (Ideal.ofBits .f32 0x43E00000#32) (max (Ideal.ofBits .f32 0xC3E00000#32) (Q k c * ((pow2 (-expo (peak Q)) : ℝ) : EReal)))

/-- The codes as reals. -/
def codeR (Q : Fin 96 → Fin 250 → EReal) (k : Fin 96) (c : Fin 250) : ℝ := (coded Q k c).toReal

theorem ofBits_448 : Ideal.ofBits .f32 0x43E00000#32 = ((448 : ℝ) : EReal) := by
  simp [Ideal.ofBits, Ideal.ieee, -EReal.coe_mul]; norm_num

theorem ofBits_neg_448 : Ideal.ofBits .f32 0xC3E00000#32 = ((-448 : ℝ) : EReal) := by
  simp [Ideal.ofBits, Ideal.ieee, -EReal.coe_mul]; norm_num

/-- A clipped value is a real number. -/
theorem clip_real (x : EReal) : ∃ r : ℝ, min (Ideal.ofBits .f32 0x43E00000#32) (max (Ideal.ofBits .f32 0xC3E00000#32) x) = (r : EReal) := by
  rw [ofBits_448, ofBits_neg_448]
  induction x using EReal.rec with
  | bot => exact ⟨-448, by rw [max_eq_left bot_le]; exact min_eq_right (by exact_mod_cast (by norm_num : (-448:ℝ) ≤ 448))⟩
  | top => exact ⟨448, by rw [max_eq_right le_top]; exact min_eq_left le_top⟩
  | coe z => exact ⟨min 448 (max (-448) z), by push_cast; rfl⟩

theorem coded_coe (Q : Fin 96 → Fin 250 → EReal) (k : Fin 96) (c : Fin 250) : coded Q k c = ((codeR Q k c : ℝ) : EReal) := by
  obtain ⟨r, hr⟩ := clip_real (Q k c * ((pow2 (-expo (peak Q)) : ℝ) : EReal))
  unfold codeR coded
  rw [hr, EReal.toReal_coe]

theorem peak_nonneg (Q : Fin 96 → Fin 250 → EReal) : 0 ≤ peak Q := by
  refine le_trans ?_ (Finset.le_sup (f := fun p : Fin 96 × Fin 250 => max (Q p.1 p.2) (-Q p.1 p.2)) (Finset.mem_univ ((0 : Fin 96), (0 : Fin 250))))
  rcases le_total 0 (Q 0 0) with h | h
  · exact le_max_of_le_left h
  · exact le_max_of_le_right (EReal.neg_nonneg.2 h)

/-- The scaled score of query `c` with key `x`. -/
def scoreR (q k : Fin 96 → Fin 250 → ℝ) (cs : ℝ) (c x : Fin 250) : ℝ := (∑ d, q d c * k d x) * cs

/-- Attention of one head on real codes: the values summed with 256 times the softmax of the scores, times a factor. -/
def attnR (q k v : Fin 96 → Fin 250 → ℝ) (cs ov : ℝ) (d : Fin 96) (c : Fin 250) : ℝ :=
  (∑ x, v d x * (Real.exp (scoreR q k cs c x) / (∑ y, Real.exp (scoreR q k cs c y)) * 256)) * ov

/-- The factor of the scores of a head. -/
def csOf (Q K : Fin 96 → Fin 250 → EReal) : ℝ := pow2 (expo (peak Q)) * pow2 (expo (peak K)) * (Real.sqrt 96)⁻¹

/-- The factor of the sums of values of a head. -/
def ovOf (V : Fin 96 → Fin 250 → EReal) : ℝ := pow2 (expo (peak V)) * (1 / 256)

/-- Attention of one head of a chunk. -/
def attnOf (Q K V : Fin 96 → Fin 250 → EReal) (d : Fin 96) (c : Fin 250) : ℝ :=
  attnR (codeR Q) (codeR K) (codeR V) (csOf Q K) (ovOf V) d c

/-- The chunk plus its projected attention, at row `d` and column `c`; `o0` and `o1` are the projection's weights for that row. -/
def resid (u : EReal) (o0 o1 : Fin 96 → EReal) (Q0 K0 V0 Q1 K1 V1 : Fin 96 → Fin 250 → EReal) (c : Fin 250) : EReal :=
  u + (∑ k, o0 k * ((attnOf Q0 K0 V0 k c : ℝ) : EReal) + ∑ k, o1 k * ((attnOf Q1 K1 V1 k c : ℝ) : EReal))

end Cert.Chunks
-- ==== Proof.ReadQkv.lean ====
/-
  The queries, keys and values of a chunk, read as projections of the normalised columns, and the codes of their six blocks.
-/
module

public import proofs.«01_k».proof.Proof.ReadAmax
public import proofs.«01_k».proof.Proof.Form
public import Idealize.ShloMosaic.Lib.Pointwise
public import Idealize.ShloMosaic.Lib.Tactic.WordOmega

@[expose] public section

noncomputable section

namespace Cert.KernelIdeal.Chunk

open Idealize.ShloMosaic Cert.KernelIdeal.Gen Cert.Chunks

theorem inv_d : Named.named (F := Ideal) (φ := .f32) κ "inv_d" 0x3BAAAAAB#32 = ((1 / 192 : ℝ) : EReal) :=
  IdealRules.named_const.ideal_named_scalar _ _ _ _ rfl

theorem norm_apply (u : FVec Ideal S192x256 .f32) (g b : Vec Ideal S1x192x256 .f32) (r : Fin 192) (l : Fin 256) :
    norm u g b (ix2 r l) = normed (fun d => u (ix2 d l)) (fun d => g (ix3 0 d l)) (fun d => b (ix3 0 d l)) r := by
  pointwise [norm, centred, mean]
  rw [inv_d]
  rfl

theorem lane_lt : ∀ m : Fin 128, IntOp.cmpi .slt (BitVec.ofNat 32 m.val) 122#32 = BitVec.ofBool (decide (m.val < 122)) := by
  decide +kernel

theorem masked_apply (n : FVec Ideal S192x256 .bf16) (r : Fin 192) (l : Fin 256) :
    masked n (ix2 r l) = if l.val < 250 then n (ix2 r l) else 0 := by
  pointwise [masked, kept, lane]
  by_cases hl : l.val < 250
  · rw [if_pos hl]
    split_ifs with h1 h2 h3 h4
    all_goals first
      | rfl
      | omega
      | (have e := lane_lt ⟨l.val - 128, by omega⟩
         simp only at e
         rw [e, WordCmp.select_ofBool, if_pos (by simp; omega)]
         refine congrArg n ?_
         exact congrArg₂ ix2 (Fin.ext (by simp only; omega)) (Fin.ext (by simp only; omega)))
      | (rename_i hh; exact absurd rfl hh)
  · rw [if_neg hl]
    split_ifs with h1 h2 h3 h4
    all_goals first
      | (exfalso; omega)
      | (have e := lane_lt ⟨l.val - 128, by omega⟩
         simp only at e
         rw [e, WordCmp.select_ofBool, if_neg (by simp; omega)])
      | (rename_i hh; exact absurd rfl hh)

theorem qkv_apply (u : FVec Ideal S192x256 .f32) (w : Vec Ideal S576x192 .bf16) (g b : Vec Ideal S1x192x256 .f32) (r : Fin 576) (l : Fin 256) :
    qkv u w g b (ix2 r l) = if l.val < 250 then
      ∑ x, w (ix2 r x) * normed (fun d => u (ix2 d l)) (fun d => g (ix3 0 d l)) (fun d => b (ix3 0 d l)) x else 0 := by
  have h : qkv u w g b (ix2 r l) = ∑ x, w (ix2 r x) * masked (norm u g b) (ix2 x l) := by
    pointwise [qkv]
  rw [h]
  simp only [masked_apply, norm_apply]
  split_ifs
  · rfl
  · simp

/-- A block that holds `Q` in its first 250 columns and zeros in the others. -/
def Holds (b : FVec Ideal S96x256 .f32) (Q : Fin 96 → Fin 250 → EReal) : Prop :=
  ∀ (k : Fin 96) (c : Fin 256), b (ix2 k c) = if h : c.val < 250 then Q k ⟨c.val, h⟩ else 0

theorem peak256_eq {b : FVec Ideal S96x256 .f32} {Q : Fin 96 → Fin 250 → EReal} (h : Holds b Q) : peak256 b = peak Q := by
  apply le_antisymm
  · refine Finset.sup_le fun p _ => ?_
    rw [h p.1 p.2]
    split_ifs with hc
    · exact Finset.le_sup (f := fun p : Fin 96 × Fin 250 => max (Q p.1 p.2) (-Q p.1 p.2)) (Finset.mem_univ (p.1, (⟨p.2.val, hc⟩ : Fin 250)))
    · simpa using peak_nonneg Q
  · refine Finset.sup_le fun p _ => ?_
    have e := h p.1 ⟨p.2.val, by omega⟩
    rw [dif_pos p.2.isLt] at e
    refine le_trans (le_of_eq ?_) (Finset.le_sup (f := fun p : Fin 96 × Fin 256 => max (b (ix2 p.1 p.2)) (-b (ix2 p.1 p.2)))
      (Finset.mem_univ (p.1, (⟨p.2.val, by omega⟩ : Fin 256))))
    simp only [e]

theorem probe_apply {x : FVec Ideal S8x128 .f32} {t : IVec S8x128 32} {i : S8x128.Idx} {y : EReal} {f : BitVec 32} (b : BitVec 32)
    (hx : x i = y) (ht : t i = f) : probe x b t i = probe1 y b f := by
  subst hx ht
  rfl

/-- What is made of the field that the search finds. -/
def settle (a : EReal) (t : BitVec 32) : BitVec 32 :=
  let f := Scalar.select (Ideal.cmp .ogt a huge) 255#32 t
  Scalar.select (IntOp.ori (IntOp.cmpi .eq f 0#32) (IntOp.cmpi .eq f 255#32)) 126#32 f

theorem settle_apply (a : FVec Ideal S8x128 .f32) (t : IVec S8x128 32) (i : S8x128.Idx) :
    (let f := select (cmpf .ogt a (broadcast S8x128 (Scalar.ofBits .f32 0x7F7FFFFF#32))) (broadcast S8x128 255#32) t
     select (ori (cmpi .eq f (broadcast S8x128 0#32)) (cmpi .eq f (broadcast S8x128 255#32))) (broadcast S8x128 126#32) f) i
      = settle (a i) (t i) := rfl

theorem field_apply (a : FVec Ideal S8x128 .f32) (i : S8x128.Idx) : field a i = field1 (a i) := by
  refine (settle_apply a _ i).trans ?_
  refine congrArg (settle (a i)) ?_
  have hx : (mulf a (broadcast S8x128 (Scalar.ofBits .f32 0x3B124925#32)) : FVec Ideal S8x128 .f32) i = ratio (a i) := rfl
  exact probe_apply _ hx (probe_apply _ hx (probe_apply _ hx (probe_apply _ hx (probe_apply _ hx (probe_apply _ hx
    (probe_apply _ hx (probe_apply _ hx rfl)))))))

/-- The first 250 columns of a block of codes, and zeros after them. -/
def codeX (Q : Fin 96 → Fin 250 → EReal) (k : Fin 96) (c : Fin 256) : ℝ := if h : c.val < 250 then codeR Q k ⟨c.val, h⟩ else 0

theorem code_apply {b : FVec Ideal S96x256 .f32} {Q : Fin 96 → Fin 250 → EReal} (h : Holds b Q) (r : FVec Ideal S1x1 .f32)
    (hr : r (ix2 0 0) = ((pow2 (-expo (peak Q)) : ℝ) : EReal)) (k : Fin 96) (c : Fin 256) :
    code r b (ix2 k c) = ((codeX Q k c : ℝ) : EReal) := by
  have e : code r b (ix2 k c) = min (Ideal.ofBits .f32 0x43E00000#32) (max (Ideal.ofBits .f32 0xC3E00000#32) (b (ix2 k c) * r (ix2 0 0))) := by
    pointwise [code]
  rw [e, hr, h k c]
  unfold codeX
  split_ifs with hc
  · exact coded_coe Q k ⟨c.val, hc⟩
  · rw [zero_mul, ofBits_448, ofBits_neg_448]
    rw [max_eq_right (by exact_mod_cast (by norm_num : (-448 : ℝ) ≤ 0)), min_eq_right (by exact_mod_cast (by norm_num : (0 : ℝ) ≤ 448))]
    rfl

section
variable (T : FVec Ideal S576x256 .f32) (Q : Fin 6 → Fin 96 → Fin 250 → EReal)

/-- The stacked blocks hold `Q`. -/
structure Stacks : Prop where
  h0 : Holds (block0 T) (Q 0)
  h1 : Holds (block1 T) (Q 1)
  h2 : Holds (block2 T) (Q 2)
  h3 : Holds (block3 T) (Q 3)
  h4 : Holds (block4 T) (Q 4)
  h5 : Holds (block5 T) (Q 5)

variable {T Q} (h : Stacks T Q)

include h in
theorem fields_0 (l : Fin 128) : fields T (ix2 0 l) = field1 (peak (Q 0)) := by
  unfold fields
  rw [field_apply, amax_0, peak256_eq h.h0]
include h in
theorem scale_0 (l : Fin 128) : scale (F := Ideal) (fields T) (ix2 0 l) = ((pow2 (expo (peak (Q 0))) : ℝ) : EReal) := by
  rw [← scale_eq _ (peak_nonneg (Q 0)), ← fields_0 h l]
  rfl
include h in
theorem code_0 (k : Fin 96) (c : Fin 256) : code0 T (ix2 k c) = ((codeX (Q 0) k c : ℝ) : EReal) := by
  unfold code0
  refine code_apply h.h0 _ ?_ k c
  have e : extractStridedSlice S1x1 ![0, 0] (inv (F := Ideal) (fields T)) slices_S8x128_o0_0_S1x1 (ix2 0 0) = inv (F := Ideal) (fields T) (ix2 0 0) := by
    pointwise []
  rw [e, ← inv_eq _ (peak_nonneg (Q 0)), ← fields_0 h 0]
  rfl

include h in
theorem fields_1 (l : Fin 128) : fields T (ix2 1 l) = field1 (peak (Q 1)) := by
  unfold fields
  rw [field_apply, amax_1, peak256_eq h.h1]
include h in
theorem scale_1 (l : Fin 128) : scale (F := Ideal) (fields T) (ix2 1 l) = ((pow2 (expo (peak (Q 1))) : ℝ) : EReal) := by
  rw [← scale_eq _ (peak_nonneg (Q 1)), ← fields_1 h l]
  rfl
include h in
theorem code_1 (k : Fin 96) (c : Fin 256) : code1 T (ix2 k c) = ((codeX (Q 1) k c : ℝ) : EReal) := by
  unfold code1
  refine code_apply h.h1 _ ?_ k c
  have e : extractStridedSlice S1x1 ![1, 0] (inv (F := Ideal) (fields T)) slices_S8x128_o1_0_S1x1 (ix2 0 0) = inv (F := Ideal) (fields T) (ix2 1 0) := by
    pointwise []
  rw [e, ← inv_eq _ (peak_nonneg (Q 1)), ← fields_1 h 0]
  rfl

include h in
theorem fields_2 (l : Fin 128) : fields T (ix2 2 l) = field1 (peak (Q 2)) := by
  unfold fields
  rw [field_apply, amax_2, peak256_eq h.h2]
include h in
theorem scale_2 (l : Fin 128) : scale (F := Ideal) (fields T) (ix2 2 l) = ((pow2 (expo (peak (Q 2))) : ℝ) : EReal) := by
  rw [← scale_eq _ (peak_nonneg (Q 2)), ← fields_2 h l]
  rfl
include h in
theorem code_2 (k : Fin 96) (c : Fin 256) : code2 T (ix2 k c) = ((codeX (Q 2) k c : ℝ) : EReal) := by
  unfold code2
  refine code_apply h.h2 _ ?_ k c
  have e : extractStridedSlice S1x1 ![2, 0] (inv (F := Ideal) (fields T)) slices_S8x128_o2_0_S1x1 (ix2 0 0) = inv (F := Ideal) (fields T) (ix2 2 0) := by
    pointwise []
  rw [e, ← inv_eq _ (peak_nonneg (Q 2)), ← fields_2 h 0]
  rfl

include h in
theorem fields_3 (l : Fin 128) : fields T (ix2 3 l) = field1 (peak (Q 3)) := by
  unfold fields
  rw [field_apply, amax_3, peak256_eq h.h3]
include h in
theorem scale_3 (l : Fin 128) : scale (F := Ideal) (fields T) (ix2 3 l) = ((pow2 (expo (peak (Q 3))) : ℝ) : EReal) := by
  rw [← scale_eq _ (peak_nonneg (Q 3)), ← fields_3 h l]
  rfl
include h in
theorem code_3 (k : Fin 96) (c : Fin 256) : code3 T (ix2 k c) = ((codeX (Q 3) k c : ℝ) : EReal) := by
  unfold code3
  refine code_apply h.h3 _ ?_ k c
  have e : extractStridedSlice S1x1 ![3, 0] (inv (F := Ideal) (fields T)) slices_S8x128_o3_0_S1x1 (ix2 0 0) = inv (F := Ideal) (fields T) (ix2 3 0) := by
    pointwise []
  rw [e, ← inv_eq _ (peak_nonneg (Q 3)), ← fields_3 h 0]
  rfl

include h in
theorem fields_4 (l : Fin 128) : fields T (ix2 4 l) = field1 (peak (Q 4)) := by
  unfold fields
  rw [field_apply, amax_4, peak256_eq h.h4]
include h in
theorem scale_4 (l : Fin 128) : scale (F := Ideal) (fields T) (ix2 4 l) = ((pow2 (expo (peak (Q 4))) : ℝ) : EReal) := by
  rw [← scale_eq _ (peak_nonneg (Q 4)), ← fields_4 h l]
  rfl
include h in
theorem code_4 (k : Fin 96) (c : Fin 256) : code4 T (ix2 k c) = ((codeX (Q 4) k c : ℝ) : EReal) := by
  unfold code4
  refine code_apply h.h4 _ ?_ k c
  have e : extractStridedSlice S1x1 ![4, 0] (inv (F := Ideal) (fields T)) slices_S8x128_o4_0_S1x1 (ix2 0 0) = inv (F := Ideal) (fields T) (ix2 4 0) := by
    pointwise []
  rw [e, ← inv_eq _ (peak_nonneg (Q 4)), ← fields_4 h 0]
  rfl

include h in
theorem fields_5 (l : Fin 128) : fields T (ix2 5 l) = field1 (peak (Q 5)) := by
  unfold fields
  rw [field_apply, amax_5, peak256_eq h.h5]
include h in
theorem scale_5 (l : Fin 128) : scale (F := Ideal) (fields T) (ix2 5 l) = ((pow2 (expo (peak (Q 5))) : ℝ) : EReal) := by
  rw [← scale_eq _ (peak_nonneg (Q 5)), ← fields_5 h l]
  rfl
include h in
theorem code_5 (k : Fin 96) (c : Fin 256) : code5 T (ix2 k c) = ((codeX (Q 5) k c : ℝ) : EReal) := by
  unfold code5
  refine code_apply h.h5 _ ?_ k c
  have e : extractStridedSlice S1x1 ![5, 0] (inv (F := Ideal) (fields T)) slices_S8x128_o5_0_S1x1 (ix2 0 0) = inv (F := Ideal) (fields T) (ix2 5 0) := by
    pointwise []
  rw [e, ← inv_eq _ (peak_nonneg (Q 5)), ← fields_5 h 0]
  rfl

end

end Cert.KernelIdeal.Chunk
-- ==== Proof.Softmax.lean ====
/-
  The softmax of a chunk on real scores: powers of two against exponentials, and sums over 256 keys of which six carry no weight.
-/
module

public import proofs.«01_k».proof.Proof.Form

@[expose] public section

noncomputable section

namespace Cert.Chunks

open Idealize.ShloMosaic

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A sum over 256 keys that is zero from key 250 on. -/
theorem sum_keys (f : Fin 256 → ℝ) (g : Fin 250 → ℝ) (h : ∀ x : Fin 250, f ⟨x.val, by omega⟩ = g x) (h0 : ∀ x : Fin 256, ¬ x.val < 250 → f x = 0) :
    ∑ x, f x = ∑ x, g x := by
  have e := Fin.sum_univ_add (a := 250) (b := 6) f
  refine Eq.trans e ?_
  rw [Finset.sum_eq_zero (s := (Finset.univ : Finset (Fin 6))) (fun x _ => h0 _ (by simp)), add_zero]
  exact Finset.sum_congr rfl fun x _ => h x

/-- The largest of finitely many reals is a real. -/
theorem fold_real {n : ℕ} (f : Fin n → EReal) (h : ∀ x, f x = ⊥ ∨ ∃ r : ℝ, f x = r) (x0 : Fin n) (r0 : ℝ) (h0 : f x0 = r0) :
    ∃ m : ℝ, (Finset.univ : Finset (Fin n)).fold max ⊥ f = (m : EReal) := by
  set M := (Finset.univ : Finset (Fin n)).fold max ⊥ f with hM
  have top : M ≠ ⊤ := by
    apply ne_of_lt
    rw [hM, Finset.fold_max_lt]
    refine ⟨bot_lt_top, fun x _ => ?_⟩
    rcases h x with e | ⟨r, e⟩ <;> rw [e]
    · exact bot_lt_top
    · exact EReal.coe_lt_top r
  have bot : M ≠ ⊥ := by
    apply ne_of_gt
    refine lt_of_lt_of_le (EReal.bot_lt_coe r0) ?_
    rw [hM, Finset.le_fold_max]
    exact Or.inr ⟨x0, Finset.mem_univ _, h0.ge⟩
  exact ⟨M.toReal, (EReal.coe_toReal top bot).symm⟩

/-- A row of attention with weights `2 ^ ((s - m) c)`, in terms of exponentials. -/
theorem attn_pow (s v : Fin 250 → ℝ) (p w : Fin 256 → ℝ) (m c cs ov : ℝ) (hc : c * Real.log 2 = cs)
    (hp : ∀ x : Fin 250, p ⟨x.val, by omega⟩ = Real.rpow 2 ((s x - m) * c)) (hp0 : ∀ x : Fin 256, ¬ x.val < 250 → p x = 0)
    (hw : ∀ x : Fin 250, w ⟨x.val, by omega⟩ = v x) :
    (∑ x, p x * (256 * (∑ y, p y)⁻¹) * w x) * ov = (∑ x, v x * (Real.exp (s x * cs) / (∑ y, Real.exp (s y * cs)) * 256)) * ov := by
  have hE : ∀ x : Fin 250, Real.rpow 2 ((s x - m) * c) = Real.exp (s x * cs) * Real.exp (-(m * cs)) := by
    intro x
    show (2 : ℝ) ^ ((s x - m) * c) = _
    rw [Real.rpow_def_of_pos (by norm_num), ← Real.exp_add, ← hc]
    congr 1
    ring
  have hS : ∑ y, p y = (∑ y, Real.exp (s y * cs)) * Real.exp (-(m * cs)) := by
    rw [sum_keys p (fun x => Real.exp (s x * cs) * Real.exp (-(m * cs))) (fun x => by rw [hp, hE]) hp0, Finset.sum_mul]
  have pos : 0 < ∑ y : Fin 250, Real.exp (s y * cs) := Finset.sum_pos (fun x _ => Real.exp_pos _) Finset.univ_nonempty
  congr 1
  refine sum_keys _ _ (fun x => ?_) (fun x hx => by rw [hp0 x hx]; ring)
  rw [hp, hE, hw, hS]
  have := Real.exp_pos (-(m * cs))
  field_simp

theorem sum_pow_ne (s : Fin 250 → ℝ) (p : Fin 256 → ℝ) (m c : ℝ)
    (hp : ∀ x : Fin 250, p ⟨x.val, by omega⟩ = Real.rpow 2 ((s x - m) * c)) (hp0 : ∀ x : Fin 256, ¬ x.val < 250 → p x = 0) :
    ∑ y, p y ≠ 0 := by
  rw [sum_keys p (fun x => Real.rpow 2 ((s x - m) * c)) hp hp0]
  exact ne_of_gt (Finset.sum_pos (fun x _ => Real.rpow_pos_of_pos (by norm_num) _) Finset.univ_nonempty)

end Cert.Chunks
-- ==== Proof.ReadHead.lean ====
/-
  Attention of one head of a chunk, and the chunk's result, read at an index.
-/
module

public import proofs.«01_k».proof.Proof.ReadQkv
public import proofs.«01_k».proof.Proof.Softmax
public import Idealize.ShloMosaic.Lib.Pointwise
public import Idealize.ShloMosaic.Lib.Tactic.WordOmega

@[expose] public section

noncomputable section

namespace Cert.KernelIdeal.Chunk

open Idealize.ShloMosaic Cert.KernelIdeal.Gen Cert.Chunks

theorem score_scale : Named.named (F := Ideal) (φ := .f32) κ "score_scale" 0x3E16C740#32 = (((Real.sqrt 96)⁻¹ * (Real.log 2)⁻¹ : ℝ) : EReal) :=
  IdealRules.named_const.ideal_named_scalar _ _ _ _ rfl

theorem ofBits_256 : Ideal.ofBits .f32 0x43800000#32 = ((256 : ℝ) : EReal) := by
  simp [Ideal.ofBits, Ideal.ieee, -EReal.coe_mul]; norm_num

theorem ofBits_inv256 : Ideal.ofBits .f32 0x3B800000#32 = ((1 / 256 : ℝ) : EReal) := by
  simp [Ideal.ofBits, Ideal.ieee, -EReal.coe_mul]; norm_num

theorem ofBits_zero : Ideal.ofBits .f32 0x00000000#32 = ((0 : ℝ) : EReal) := by
  simp [Ideal.ofBits, Ideal.ieee, -EReal.coe_mul]

theorem key_lt : ∀ m : Fin 8, IntOp.cmpi .slt (BitVec.ofNat 32 m.val) 2#32 = BitVec.ofBool (decide (m.val < 2)) := by
  decide +kernel

theorem capped_apply (c : EReal) (t : FVec Ideal S256x128 .f32) (x : Fin 256) (l : Fin 128) :
    capped (F := Ideal) c t (ix2 x l) = if x.val < 250 then t (ix2 x l) else c := by
  pointwise [capped, ok, row8]
  by_cases hx : x.val < 250
  · rw [if_pos hx]
    split_ifs with h1 h2
    all_goals first
      | rfl
      | (have e := key_lt ⟨x.val - 248, by omega⟩
         simp only at e
         rw [e, WordCmp.select_ofBool, if_pos (by simp; omega)]
         refine congrArg t ?_
         exact congrArg₂ ix2 (Fin.ext (by simp only; omega)) (Fin.ext (by simp only)))
      | (rename_i hh; exact absurd rfl hh)
  · rw [if_neg hx]
    split_ifs with h1 h2
    all_goals first
      | (exfalso; omega)
      | (have e := key_lt ⟨x.val - 248, by omega⟩
         simp only at e
         rw [e, WordCmp.select_ofBool, if_neg (by simp; omega)])
      | (rename_i hh; exact absurd rfl hh)

theorem weights_apply (s : FVec Ideal S256x128 .f32) (cs : FVec Ideal S1x128 .f32) (x : Fin 256) (l : Fin 128) :
    weights s cs (ix2 x l) = if x.val < 250 then
      Ideal.exp2 ((s (ix2 x l) - (Finset.univ : Finset (Fin 256)).fold max ⊥ (fun y => if y.val < 250 then s (ix2 y l) else ⊥)) * cs (ix2 0 l))
      else ((0 : ℝ) : EReal) := by
  unfold weights
  rw [capped_apply]
  split_ifs with h
  · have e : ∀ t : FVec Ideal S256x128 .f32, exp2 (mulf (subf s (broadcastTo S256x128
            (shapeCast S1x128 (multiReduction .maximumf [0] S128 t 0xFF800000#32 reduces_S256x128_S128 (.inl rfl) rfl)
              shapeCasts_S128_S1x128) broadcasts_S1x128_S256x128)) (broadcastTo S256x128 cs broadcasts_S1x128_S256x128)) (ix2 x l)
        = Ideal.exp2 ((s (ix2 x l) - (Finset.univ : Finset (Fin 256)).fold max ⊥ (fun y => t (ix2 y l))) * cs (ix2 0 l)) := by
      intro t
      pointwise []
      rw [ofBits_bot]
      rfl
    rw [e]
    simp only [capped_apply]
    refine congrArg (fun c => Ideal.exp2 ((s (ix2 x l) - (Finset.univ : Finset (Fin 256)).fold max ⊥ c) * cs (ix2 0 l))) ?_
    funext y
    exact congrArg (fun b => if y.val < 250 then s (ix2 y l) else b) ofBits_bot
  · exact ofBits_zero

theorem div_real (x y : ℝ) (h : y ≠ 0) : Ideal.div (x : EReal) (y : EReal) = ((x * y⁻¹ : ℝ) : EReal) := by
  unfold Ideal.div
  rw [if_neg (by exact_mod_cast h), EReal.coe_mul, EReal.coe_inv]

/-- Attention of 128 queries on real codes. -/
theorem tile_apply (q : FVec Ideal S96x128 .fp8e4m3) (k v : FVec Ideal S96x256 .fp8e4m3) (cs ov : FVec Ideal S1x128 .f32)
    (Q K V : Fin 96 → Fin 250 → EReal) (c : Fin 250) (l : Fin 128) (C O : ℝ) (d : Fin 96)
    (hq : ∀ x, q (ix2 x l) = ((codeR Q x c : ℝ) : EReal)) (hk : ∀ x y, k (ix2 x y) = ((codeX K x y : ℝ) : EReal))
    (hv : ∀ x y, v (ix2 x y) = ((codeX V x y : ℝ) : EReal)) (hc : cs (ix2 0 l) = (C : EReal)) (ho : ov (ix2 0 l) = (O : EReal)) :
    tile q k v cs ov (ix2 d l) = ((attnR (codeR Q) (codeR K) (codeR V) (C * Real.log 2) O d c : ℝ) : EReal) := by
  set sr : Fin 256 → ℝ := fun y => ∑ x, codeR Q x c * codeX K x y with hsr
  have hs : ∀ y, scores q k (ix2 y l) = ((sr y : ℝ) : EReal) := by
    intro y
    have e : scores q k (ix2 y l) = ∑ x, q (ix2 x l) * k (ix2 x y) := by pointwise [scores]
    rw [e, hsr, coe_sum]
    refine Finset.sum_congr rfl fun x _ => ?_
    rw [hq, hk, EReal.coe_mul]
  obtain ⟨m, hm⟩ := fold_real (fun y : Fin 256 => if y.val < 250 then scores q k (ix2 y l) else ⊥)
    (fun y => by
      by_cases h : y.val < 250
      · right; exact ⟨sr y, by simp only [if_pos h, hs]⟩
      · left; simp only [if_neg h]) ⟨0, by norm_num⟩ (sr ⟨0, by norm_num⟩) (by simp only [hs]; rfl)
  set p : Fin 256 → ℝ := fun y => if y.val < 250 then Real.rpow 2 ((sr y - m) * C) else 0 with hp
  have hw : ∀ y, weights (scores q k) cs (ix2 y l) = ((p y : ℝ) : EReal) := by
    intro y
    rw [weights_apply, hm, hs, hc, hp]
    simp only
    split_ifs
    · rw [← EReal.coe_sub, ← EReal.coe_mul]; rfl
    · rfl
  have p1 : ∀ x : Fin 250, p ⟨x.val, by omega⟩ = Real.rpow 2 ((sr ⟨x.val, by omega⟩ - m) * C) := fun x => by
    simp only [hp, if_pos x.isLt]
  have p0 : ∀ x : Fin 256, ¬ x.val < 250 → p x = 0 := fun x hx => by simp only [hp, if_neg hx]
  have hne := sum_pow_ne (fun x => sr ⟨x.val, by omega⟩) p m C p1 p0
  have e : ∀ t : FVec Ideal S256x128 .f32, mixed t v ov (ix2 d l)
      = (∑ x, t (ix2 x l) * Ideal.div (Ideal.ofBits .f32 0x43800000#32) (∑ x, t (ix2 x l)) * v (ix2 d x)) * ov (ix2 0 l) := by
    intro t
    pointwise [mixed, share]
  unfold tile
  rw [e]
  simp only [hw, hv, ho, ofBits_256, ← coe_sum]
  rw [div_real _ _ hne]
  simp only [← EReal.coe_mul, ← coe_sum]
  refine congrArg (fun r : ℝ => (r : EReal)) ?_
  refine (attn_pow (fun x => sr ⟨x.val, by omega⟩) (codeR V d) p (codeX V d) m C (C * Real.log 2) O rfl p1 p0
    (fun x => by unfold codeX; rw [dif_pos x.isLt])).trans ?_
  unfold attnR scoreR
  have hh : ∀ x : Fin 250, sr ⟨x.val, by omega⟩ = ∑ d, codeR Q d c * codeR K d x := fun x => by
    rw [hsr]
    refine Finset.sum_congr rfl fun d _ => ?_
    unfold codeX; rw [dif_pos x.isLt]
  simp only [hh]

section
variable (q k v : FVec Ideal S96x256 .fp8e4m3) (sq sk sv : FVec Ideal S1x128 .f32) (Q K V : Fin 96 → Fin 250 → EReal)

theorem head_apply (c : Fin 250) (d : Fin 96)
    (hq : ∀ x y, q (ix2 x y) = ((codeX Q x y : ℝ) : EReal)) (hk : ∀ x y, k (ix2 x y) = ((codeX K x y : ℝ) : EReal))
    (hv : ∀ x y, v (ix2 x y) = ((codeX V x y : ℝ) : EReal))
    (h1 : ∀ l, sq (ix2 0 l) = ((pow2 (expo (peak Q)) : ℝ) : EReal)) (h2 : ∀ l, sk (ix2 0 l) = ((pow2 (expo (peak K)) : ℝ) : EReal))
    (h3 : ∀ l, sv (ix2 0 l) = ((pow2 (expo (peak V)) : ℝ) : EReal)) :
    head q k v (scoreScale sq sk) (outScale sv) (ix2 d ⟨c.val, by omega⟩) = ((attnOf Q K V d c : ℝ) : EReal) := by
  have hc : ∀ l, scoreScale sq sk (ix2 0 l)
      = ((pow2 (expo (peak Q)) * pow2 (expo (peak K)) * ((Real.sqrt 96)⁻¹ * (Real.log 2)⁻¹) : ℝ) : EReal) := by
    intro l
    have e : scoreScale sq sk (ix2 0 l) = sq (ix2 0 l) * sk (ix2 0 l) * Named.named (F := Ideal) (φ := .f32) κ "score_scale" 0x3E16C740#32 := by
      pointwise [scoreScale]
    rw [e, h1, h2, score_scale, ← EReal.coe_mul, ← EReal.coe_mul]
  have ho : ∀ l, outScale sv (ix2 0 l) = ((ovOf V : ℝ) : EReal) := by
    intro l
    have e : outScale sv (ix2 0 l) = sv (ix2 0 l) * Ideal.ofBits .f32 0x3B800000#32 := by
      pointwise [outScale]
    rw [e, h3, ofBits_inv256, ← EReal.coe_mul]; rfl
  have hlog : pow2 (expo (peak Q)) * pow2 (expo (peak K)) * ((Real.sqrt 96)⁻¹ * (Real.log 2)⁻¹) * Real.log 2 = csOf Q K := by
    have : Real.log 2 ≠ 0 := ne_of_gt (Real.log_pos (by norm_num))
    unfold csOf
    field_simp
  have hcode : ∀ x : Fin 96, codeX Q x ⟨c.val, by omega⟩ = codeR Q x c := fun x => by unfold codeX; rw [dif_pos c.isLt]
  unfold attnOf
  rw [← hlog]
  by_cases h : c.val < 128
  · have e : head q k v (scoreScale sq sk) (outScale sv) (ix2 d ⟨c.val, by omega⟩)
        = tile (extractStridedSlice S96x128 ![0, 0] q slices_S96x256_o0_0_S96x128) k v (scoreScale sq sk) (outScale sv) (ix2 d ⟨c.val, h⟩) := by
      pointwise [head]
      rw [dif_pos h]
    rw [e]
    refine tile_apply _ k v _ _ Q K V c ⟨c.val, h⟩ _ _ d (fun x => ?_) hk hv (hc _) (ho _)
    have e : extractStridedSlice S96x128 ![0, 0] q slices_S96x256_o0_0_S96x128 (ix2 x ⟨c.val, h⟩) = q (ix2 x ⟨c.val, by omega⟩) := by
      pointwise []
    rw [e, hq, hcode]
  · have e : head q k v (scoreScale sq sk) (outScale sv) (ix2 d ⟨c.val, by omega⟩)
        = tile (extractStridedSlice S96x128 ![0, 128] q slices_S96x256_o0_128_S96x128) k v (scoreScale sq sk) (outScale sv) (ix2 d ⟨c.val - 128, by omega⟩) := by
      pointwise [head]
      rw [dif_neg h]
    rw [e]
    refine tile_apply _ k v _ _ Q K V c ⟨c.val - 128, by omega⟩ _ _ d (fun x => ?_) hk hv (hc _) (ho _)
    have e : extractStridedSlice S96x128 ![0, 128] q slices_S96x256_o0_128_S96x128 (ix2 x ⟨c.val - 128, by omega⟩) = q (ix2 x ⟨128 + (c.val - 128), by omega⟩) := by
      pointwise []
    rw [e, hq]
    refine congrArg (fun r : ℝ => (r : EReal)) ((congrArg (codeX Q x) (Fin.ext ?_)).trans (hcode x))
    simp only; omega

end

section
variable {T : FVec Ideal S576x256 .f32} {Q : Fin 6 → Fin 96 → Fin 250 → EReal} (h : Stacks T Q)
include h

theorem head0_apply (d : Fin 96) (c : Fin 250) : head0 T (ix2 d ⟨c.val, by omega⟩) = ((attnOf (Q 0) (Q 2) (Q 4) d c : ℝ) : EReal) := by
  unfold head0
  refine head_apply _ _ _ _ _ _ _ _ _ c d (code_0 h) (code_2 h) (code_4 h) (fun l => ?_) (fun l => ?_) (fun l => ?_)
  · rw [← scale_0 h l]; pointwise []
  · rw [← scale_2 h l]; pointwise []
  · rw [← scale_4 h l]; pointwise []

theorem head1_apply (d : Fin 96) (c : Fin 250) : head1 T (ix2 d ⟨c.val, by omega⟩) = ((attnOf (Q 1) (Q 3) (Q 5) d c : ℝ) : EReal) := by
  unfold head1
  refine head_apply _ _ _ _ _ _ _ _ _ c d (code_1 h) (code_3 h) (code_5 h) (fun l => ?_) (fun l => ?_) (fun l => ?_)
  · rw [← scale_1 h l]; pointwise []
  · rw [← scale_3 h l]; pointwise []
  · rw [← scale_5 h l]; pointwise []

theorem out_apply (u : FVec Ideal S192x256 .f32) (w : Vec Ideal S192x192 .bf16) (r : Fin 192) (c : Fin 250) :
    out u T w (ix4 0 0 r ⟨c.val, by omega⟩) = resid (u (ix2 r ⟨c.val, by omega⟩)) (fun k => w (ix2 r ⟨k.val, by omega⟩))
      (fun k => w (ix2 r ⟨96 + k.val, by omega⟩)) (Q 0) (Q 2) (Q 4) (Q 1) (Q 3) (Q 5) c := by
  have e : ∀ h0 h1 : FVec Ideal S96x256 .bf16, residual u w h0 h1 (ix2 r ⟨c.val, by omega⟩)
      = u (ix2 r ⟨c.val, by omega⟩) + (∑ x : Fin 96, w (ix2 r ⟨x.val, by omega⟩) * h0 (ix2 x ⟨c.val, by omega⟩)
        + ∑ x : Fin 96, w (ix2 r ⟨96 + x.val, by omega⟩) * h1 (ix2 x ⟨c.val, by omega⟩)) := by
    intro h0 h1
    pointwise [residual]
  have e' : out u T w (ix4 0 0 r ⟨c.val, by omega⟩) = residual u w (head0 T) (head1 T) (ix2 r ⟨c.val, by omega⟩) := by
    pointwise [out]
  rw [e', e]
  simp only [head0_apply h, head1_apply h]
  rfl

end

end Cert.KernelIdeal.Chunk
-- ==== Proof.Place.lean ====
/-
  Where the chunks lie: the words that the kernel computes from the grid point, as numbers of the chunk.
-/
module

public import proofs.«01_k».proof.Proof.Chunk
public import Idealize.ShloMosaic.Lib.Tactic.WordOmega
public import Idealize.ShloMosaic.Lib.Pointwise

@[expose] public section

noncomputable section

namespace Cert.KernelIdeal.Chunk

open Idealize.ShloMosaic Cert.KernelIdeal.Gen

/-- The number of chunk `j` of grid point `t` in its batch. -/
def number (t : Fin grid0.N) (j : Fin 7) : ℕ := 7 * (t.val % 14) + j.val

theorem number_lt (t : Fin grid0.N) (j : Fin 7) : number t j < 98 := by unfold number; omega

/-- The chunk's first position, read as a signed word, is 125 before its number times 125. -/
theorem start_toInt : ∀ (t : Fin grid0.N) (j : Fin 7),
    (start (grid0.coords t) (BitVec.ofNat 32 j.val)).toInt = 125 * (number t j : ℤ) - 125 := by
  decide +kernel

/-- The rotation in lanes. -/
theorem shift_toNat : ∀ (t : Fin grid0.N) (j : Fin 7),
    (shift (grid0.coords t) (BitVec.ofNat 32 j.val)).toNat = 128 - (125 * number t j + 3) % 128 := by
  decide +kernel

/-- The first lane of each of the three tiles. -/
theorem off_val : ∀ (t : Fin grid0.N) (j : Fin 7) (a : Fin 3),
    k0_off1 (grid0.coords t) (BitVec.ofNat 32 j.val) (BitVec.ofNat 32 a.val) = ![0, 0, 128 * min 93 ((125 * number t j + 3) / 128 + a.val - 1)] := by
  decide +kernel

/-- A lane of one half of the chunk: whether it lies in the sequence. -/
theorem inside (s : ℕ) (hs : s < 98) (st : BitVec 32) (h : st.toInt = 125 * (s : ℤ) - 125) (k : ℕ) (hk : k = 0 ∨ k = 128) (l : ℕ) (hl : l < 128) :
    IntOp.andi (IntOp.cmpi .sge (IntOp.addi (BitVec.ofNat 32 l) (IntOp.addi st (BitVec.ofNat 32 k))) 0#32)
      (IntOp.cmpi .slt (IntOp.addi (BitVec.ofNat 32 l) (IntOp.addi st (BitVec.ofNat 32 k))) 12032#32)
    = BitVec.ofBool (decide (125 ≤ 125 * s + k + l ∧ 125 * s + k + l < 12157)) := by
  have e : (IntOp.addi (BitVec.ofNat 32 l) (IntOp.addi st (BitVec.ofNat 32 k))).toInt = 125 * (s : ℤ) - 125 + k + l := by
    have hl' : (BitVec.ofNat 32 l).toInt = l := by
      have e : (BitVec.ofNat 32 l).toNat = l := by rw [BitVec.toNat_ofNat]; exact Nat.mod_eq_of_lt (by omega)
      rw [BitVec.toInt_eq_toNat_of_lt (by omega), e]
    have hk' : (BitVec.ofNat 32 k).toInt = k := by rcases hk with rfl | rfl <;> rfl
    have hi : (st + BitVec.ofNat 32 k).toInt = 125 * (s : ℤ) - 125 + k := by
      rw [BitVec.toInt_add, h, hk']
      rcases hk with rfl | rfl <;> exact Int.bmod_eq_of_le (by omega) (by omega)
    show (BitVec.ofNat 32 l + (st + BitVec.ofNat 32 k)).toInt = _
    rw [BitVec.toInt_add, hl', hi, Int.bmod_eq_of_le (by rcases hk with rfl | rfl <;> omega) (by rcases hk with rfl | rfl <;> omega)]
    ring
  rw [WordCmp.cmpi_sge_eq, WordCmp.cmpi_slt_eq, e]
  have z : (0#32).toInt = 0 := rfl
  have z' : (12032#32).toInt = 12032 := rfl
  rw [z, z']
  by_cases h1 : 125 ≤ 125 * s + k + l <;> by_cases h2 : 125 * s + k + l < 12157
  all_goals
    rw [show decide ((0:ℤ) ≤ 125 * (s : ℤ) - 125 + k + l) = decide (125 ≤ 125 * s + k + l) by apply decide_eq_decide.2; omega,
      show decide (125 * (s : ℤ) - 125 + k + l < 12032) = decide (125 * s + k + l < 12157) by apply decide_eq_decide.2; omega]
    simp [h1, h2, IntOp.andi]

end Cert.KernelIdeal.Chunk
-- ==== Proof.Stores.lean ====
/-
  What the kernel's body stores at one grid point, as lists of rectangles and contents: two stores of codes per chunk and result,
  and one store of the chunk's `u1`.
-/
module

public import proofs.«01_k».proof.Proof.Chunk
public import Idealize.ShloMosaic.Lib.Pipeline.ValueKit

@[expose] public section

noncomputable section

namespace Cert.KernelIdeal.Chunk

open Idealize.ShloMosaic Cert.KernelIdeal.Gen

variable {F : FTy → Type} [FloatOps F] [Named F]

section
variable (i : grid0.Coords) (arg2 : Memref sig .tc .vmem S1x192x12032 .bf16) (harg2 : arg2.IsWhole)
  (arg3 : Memref sig .tc .vmem S4x192x256 .f32) (harg3 : arg3.IsWhole) (arg4 : Memref sig .tc .vmem S576x192 .bf16) (harg4 : arg4.IsWhole)
  (arg5 : Memref sig .tc .vmem S192x192 .bf16) (harg5 : arg5.IsWhole)
  (x0 : Vec F S1x192x12032 .bf16) (x1 : Vec F S4x192x256 .f32) (x2 : Vec F S576x192 .bf16) (x3 : Vec F S192x192 .bf16)

/-- Tile `a` of the three tiles loaded for chunk `j` of a grid point. -/
def tileAt (j : Fin 7) (a : Fin 3) : Vec F S1x192x128 .bf16 :=
  View.readAt (Elt F) arg2.view (Rect.unit (s := S1x192x12032) (k0_off1 i (BitVec.ofNat 32 j.val) (BitVec.ofNat 32 a.val)) S1x192x128.size (k0_off1_inb i j a)).toLoadRect (harg2.unread x0)

/-- The columns of chunk `j`. -/
def colsAt (j : Fin 7) : FVec F S192x256 .f32 :=
  cols i (BitVec.ofNat 32 j.val) (tileAt i arg2 harg2 x0 j 0) (tileAt i arg2 harg2 x0 j 1) (tileAt i arg2 harg2 x0 j 2)

/-- The queries, keys and values of chunk `j`. -/
def qkvAt (j : Fin 7) : FVec F S576x256 .f32 :=
  qkv (colsAt i arg2 harg2 x0 j)
    (View.readAt (Elt F) arg4.view (Rect.unit (s := S576x192) ![0, 0] S576x192.size inb_S576x192_S576x192_0_0).toLoadRect (harg4.unread x2))
    (View.readAt (Elt F) arg3.view (Rect.unit (s := S4x192x256) ![0, 0, 0] S1x192x256.size inb_S4x192x256_S1x192x256_0_0_0).toLoadRect (harg3.unread x1))
    (View.readAt (Elt F) arg3.view (Rect.unit (s := S4x192x256) ![1, 0, 0] S1x192x256.size inb_S4x192x256_S1x192x256_1_0_0).toLoadRect (harg3.unread x1))

/-- What chunk `j` stores as its result `u1`. -/
def outAt (j : Fin 7) : FVec F S1x1x192x256 .f32 :=
  out (colsAt i arg2 harg2 x0 j) (qkvAt i arg2 harg2 arg3 harg3 arg4 harg4 x0 x1 x2 j)
    (View.readAt (Elt F) arg5.view (Rect.unit (s := S192x192) ![0, 0] S192x192.size inb_S192x192_S192x192_0_0).toLoadRect (harg5.unread x3))

/-- The stores of the codes of the queries of one grid point, the last store first. -/
def pieces5 : List (View.Piece (Elt F) S1x7x192x250 .fp8e4m3) :=
  [⟨Rect.unit (s := S1x7x192x250) ![0, 6, 96, 0] S1x1x96x250.size (by decide), stored (code1 (qkvAt i arg2 harg2 arg3 harg3 arg4 harg4 x0 x1 x2 6))⟩,
    ⟨Rect.unit (s := S1x7x192x250) ![0, 6, 0, 0] S1x1x96x250.size (by decide), stored (code0 (qkvAt i arg2 harg2 arg3 harg3 arg4 harg4 x0 x1 x2 6))⟩,
    ⟨Rect.unit (s := S1x7x192x250) ![0, 5, 96, 0] S1x1x96x250.size (by decide), stored (code1 (qkvAt i arg2 harg2 arg3 harg3 arg4 harg4 x0 x1 x2 5))⟩,
    ⟨Rect.unit (s := S1x7x192x250) ![0, 5, 0, 0] S1x1x96x250.size (by decide), stored (code0 (qkvAt i arg2 harg2 arg3 harg3 arg4 harg4 x0 x1 x2 5))⟩,
    ⟨Rect.unit (s := S1x7x192x250) ![0, 4, 96, 0] S1x1x96x250.size (by decide), stored (code1 (qkvAt i arg2 harg2 arg3 harg3 arg4 harg4 x0 x1 x2 4))⟩,
    ⟨Rect.unit (s := S1x7x192x250) ![0, 4, 0, 0] S1x1x96x250.size (by decide), stored (code0 (qkvAt i arg2 harg2 arg3 harg3 arg4 harg4 x0 x1 x2 4))⟩,
    ⟨Rect.unit (s := S1x7x192x250) ![0, 3, 96, 0] S1x1x96x250.size (by decide), stored (code1 (qkvAt i arg2 harg2 arg3 harg3 arg4 harg4 x0 x1 x2 3))⟩,
    ⟨Rect.unit (s := S1x7x192x250) ![0, 3, 0, 0] S1x1x96x250.size (by decide), stored (code0 (qkvAt i arg2 harg2 arg3 harg3 arg4 harg4 x0 x1 x2 3))⟩,
    ⟨Rect.unit (s := S1x7x192x250) ![0, 2, 96, 0] S1x1x96x250.size (by decide), stored (code1 (qkvAt i arg2 harg2 arg3 harg3 arg4 harg4 x0 x1 x2 2))⟩,
    ⟨Rect.unit (s := S1x7x192x250) ![0, 2, 0, 0] S1x1x96x250.size (by decide), stored (code0 (qkvAt i arg2 harg2 arg3 harg3 arg4 harg4 x0 x1 x2 2))⟩,
    ⟨Rect.unit (s := S1x7x192x250) ![0, 1, 96, 0] S1x1x96x250.size (by decide), stored (code1 (qkvAt i arg2 harg2 arg3 harg3 arg4 harg4 x0 x1 x2 1))⟩,
    ⟨Rect.unit (s := S1x7x192x250) ![0, 1, 0, 0] S1x1x96x250.size (by decide), stored (code0 (qkvAt i arg2 harg2 arg3 harg3 arg4 harg4 x0 x1 x2 1))⟩,
    ⟨Rect.unit (s := S1x7x192x250) ![0, 0, 96, 0] S1x1x96x250.size (by decide), stored (code1 (qkvAt i arg2 harg2 arg3 harg3 arg4 harg4 x0 x1 x2 0))⟩,
    ⟨Rect.unit (s := S1x7x192x250) ![0, 0, 0, 0] S1x1x96x250.size (by decide), stored (code0 (qkvAt i arg2 harg2 arg3 harg3 arg4 harg4 x0 x1 x2 0))⟩]

/-- The stores of the codes of the keys of one grid point, the last store first. -/
def pieces6 : List (View.Piece (Elt F) S1x7x192x250 .fp8e4m3) :=
  [⟨Rect.unit (s := S1x7x192x250) ![0, 6, 96, 0] S1x1x96x250.size (by decide), stored (code3 (qkvAt i arg2 harg2 arg3 harg3 arg4 harg4 x0 x1 x2 6))⟩,
    ⟨Rect.unit (s := S1x7x192x250) ![0, 6, 0, 0] S1x1x96x250.size (by decide), stored (code2 (qkvAt i arg2 harg2 arg3 harg3 arg4 harg4 x0 x1 x2 6))⟩,
    ⟨Rect.unit (s := S1x7x192x250) ![0, 5, 96, 0] S1x1x96x250.size (by decide), stored (code3 (qkvAt i arg2 harg2 arg3 harg3 arg4 harg4 x0 x1 x2 5))⟩,
    ⟨Rect.unit (s := S1x7x192x250) ![0, 5, 0, 0] S1x1x96x250.size (by decide), stored (code2 (qkvAt i arg2 harg2 arg3 harg3 arg4 harg4 x0 x1 x2 5))⟩,
    ⟨Rect.unit (s := S1x7x192x250) ![0, 4, 96, 0] S1x1x96x250.size (by decide), stored (code3 (qkvAt i arg2 harg2 arg3 harg3 arg4 harg4 x0 x1 x2 4))⟩,
    ⟨Rect.unit (s := S1x7x192x250) ![0, 4, 0, 0] S1x1x96x250.size (by decide), stored (code2 (qkvAt i arg2 harg2 arg3 harg3 arg4 harg4 x0 x1 x2 4))⟩,
    ⟨Rect.unit (s := S1x7x192x250) ![0, 3, 96, 0] S1x1x96x250.size (by decide), stored (code3 (qkvAt i arg2 harg2 arg3 harg3 arg4 harg4 x0 x1 x2 3))⟩,
    ⟨Rect.unit (s := S1x7x192x250) ![0, 3, 0, 0] S1x1x96x250.size (by decide), stored (code2 (qkvAt i arg2 harg2 arg3 harg3 arg4 harg4 x0 x1 x2 3))⟩,
    ⟨Rect.unit (s := S1x7x192x250) ![0, 2, 96, 0] S1x1x96x250.size (by decide), stored (code3 (qkvAt i arg2 harg2 arg3 harg3 arg4 harg4 x0 x1 x2 2))⟩,
    ⟨Rect.unit (s := S1x7x192x250) ![0, 2, 0, 0] S1x1x96x250.size (by decide), stored (code2 (qkvAt i arg2 harg2 arg3 harg3 arg4 harg4 x0 x1 x2 2))⟩,
    ⟨Rect.unit (s := S1x7x192x250) ![0, 1, 96, 0] S1x1x96x250.size (by decide), stored (code3 (qkvAt i arg2 harg2 arg3 harg3 arg4 harg4 x0 x1 x2 1))⟩,
    ⟨Rect.unit (s := S1x7x192x250) ![0, 1, 0, 0] S1x1x96x250.size (by decide), stored (code2 (qkvAt i arg2 harg2 arg3 harg3 arg4 harg4 x0 x1 x2 1))⟩,
    ⟨Rect.unit (s := S1x7x192x250) ![0, 0, 96, 0] S1x1x96x250.size (by decide), stored (code3 (qkvAt i arg2 harg2 arg3 harg3 arg4 harg4 x0 x1 x2 0))⟩,
    ⟨Rect.unit (s := S1x7x192x250) ![0, 0, 0, 0] S1x1x96x250.size (by decide), stored (code2 (qkvAt i arg2 harg2 arg3 harg3 arg4 harg4 x0 x1 x2 0))⟩]

/-- The stores of the codes of the values of one grid point, the last store first. -/
def pieces7 : List (View.Piece (Elt F) S1x7x192x250 .fp8e4m3) :=
  [⟨Rect.unit (s := S1x7x192x250) ![0, 6, 96, 0] S1x1x96x250.size (by decide), stored (code5 (qkvAt i arg2 harg2 arg3 harg3 arg4 harg4 x0 x1 x2 6))⟩,
    ⟨Rect.unit (s := S1x7x192x250) ![0, 6, 0, 0] S1x1x96x250.size (by decide), stored (code4 (qkvAt i arg2 harg2 arg3 harg3 arg4 harg4 x0 x1 x2 6))⟩,
    ⟨Rect.unit (s := S1x7x192x250) ![0, 5, 96, 0] S1x1x96x250.size (by decide), stored (code5 (qkvAt i arg2 harg2 arg3 harg3 arg4 harg4 x0 x1 x2 5))⟩,
    ⟨Rect.unit (s := S1x7x192x250) ![0, 5, 0, 0] S1x1x96x250.size (by decide), stored (code4 (qkvAt i arg2 harg2 arg3 harg3 arg4 harg4 x0 x1 x2 5))⟩,
    ⟨Rect.unit (s := S1x7x192x250) ![0, 4, 96, 0] S1x1x96x250.size (by decide), stored (code5 (qkvAt i arg2 harg2 arg3 harg3 arg4 harg4 x0 x1 x2 4))⟩,
    ⟨Rect.unit (s := S1x7x192x250) ![0, 4, 0, 0] S1x1x96x250.size (by decide), stored (code4 (qkvAt i arg2 harg2 arg3 harg3 arg4 harg4 x0 x1 x2 4))⟩,
    ⟨Rect.unit (s := S1x7x192x250) ![0, 3, 96, 0] S1x1x96x250.size (by decide), stored (code5 (qkvAt i arg2 harg2 arg3 harg3 arg4 harg4 x0 x1 x2 3))⟩,
    ⟨Rect.unit (s := S1x7x192x250) ![0, 3, 0, 0] S1x1x96x250.size (by decide), stored (code4 (qkvAt i arg2 harg2 arg3 harg3 arg4 harg4 x0 x1 x2 3))⟩,
    ⟨Rect.unit (s := S1x7x192x250) ![0, 2, 96, 0] S1x1x96x250.size (by decide), stored (code5 (qkvAt i arg2 harg2 arg3 harg3 arg4 harg4 x0 x1 x2 2))⟩,
    ⟨Rect.unit (s := S1x7x192x250) ![0, 2, 0, 0] S1x1x96x250.size (by decide), stored (code4 (qkvAt i arg2 harg2 arg3 harg3 arg4 harg4 x0 x1 x2 2))⟩,
    ⟨Rect.unit (s := S1x7x192x250) ![0, 1, 96, 0] S1x1x96x250.size (by decide), stored (code5 (qkvAt i arg2 harg2 arg3 harg3 arg4 harg4 x0 x1 x2 1))⟩,
    ⟨Rect.unit (s := S1x7x192x250) ![0, 1, 0, 0] S1x1x96x250.size (by decide), stored (code4 (qkvAt i arg2 harg2 arg3 harg3 arg4 harg4 x0 x1 x2 1))⟩,
    ⟨Rect.unit (s := S1x7x192x250) ![0, 0, 96, 0] S1x1x96x250.size (by decide), stored (code5 (qkvAt i arg2 harg2 arg3 harg3 arg4 harg4 x0 x1 x2 0))⟩,
    ⟨Rect.unit (s := S1x7x192x250) ![0, 0, 0, 0] S1x1x96x250.size (by decide), stored (code4 (qkvAt i arg2 harg2 arg3 harg3 arg4 harg4 x0 x1 x2 0))⟩]

/-- The stores of the chunks' results `u1` of one grid point, the last store first. -/
def pieces11 : List (View.Piece (Elt F) S1x7x192x256 .f32) :=
  [⟨Rect.unit (s := S1x7x192x256) ![0, 6, 0, 0] S1x1x192x256.size (by decide), outAt i arg2 harg2 arg3 harg3 arg4 harg4 arg5 harg5 x0 x1 x2 x3 6⟩,
    ⟨Rect.unit (s := S1x7x192x256) ![0, 5, 0, 0] S1x1x192x256.size (by decide), outAt i arg2 harg2 arg3 harg3 arg4 harg4 arg5 harg5 x0 x1 x2 x3 5⟩,
    ⟨Rect.unit (s := S1x7x192x256) ![0, 4, 0, 0] S1x1x192x256.size (by decide), outAt i arg2 harg2 arg3 harg3 arg4 harg4 arg5 harg5 x0 x1 x2 x3 4⟩,
    ⟨Rect.unit (s := S1x7x192x256) ![0, 3, 0, 0] S1x1x192x256.size (by decide), outAt i arg2 harg2 arg3 harg3 arg4 harg4 arg5 harg5 x0 x1 x2 x3 3⟩,
    ⟨Rect.unit (s := S1x7x192x256) ![0, 2, 0, 0] S1x1x192x256.size (by decide), outAt i arg2 harg2 arg3 harg3 arg4 harg4 arg5 harg5 x0 x1 x2 x3 2⟩,
    ⟨Rect.unit (s := S1x7x192x256) ![0, 1, 0, 0] S1x1x192x256.size (by decide), outAt i arg2 harg2 arg3 harg3 arg4 harg4 arg5 harg5 x0 x1 x2 x3 1⟩,
    ⟨Rect.unit (s := S1x7x192x256) ![0, 0, 0, 0] S1x1x192x256.size (by decide), outAt i arg2 harg2 arg3 harg3 arg4 harg4 arg5 harg5 x0 x1 x2 x3 0⟩]

end

end Cert.KernelIdeal.Chunk
-- ==== Proof.ReadCols.lean ====
/-
  The columns of a chunk, read: column `c` of chunk `s` is position `125 s + c - 125` of the sequence, zero outside of it.
-/
module

public import proofs.«01_k».proof.Proof.Place
public import proofs.«01_k».proof.Proof.Stores
public import Idealize.ShloMosaic.Lib.WholeRead

@[expose] public section

noncomputable section

namespace Cert.KernelIdeal.Chunk

open Idealize.ShloMosaic Cert.KernelIdeal.Gen

/-- Position `p - 125` of row `d`, zero outside of the sequence. -/
def line (x0 : Vec Ideal S1x192x12032 .bf16) (d : Fin 192) (p : ℕ) : EReal :=
  if h : 125 ≤ p ∧ p < 12157 then x0 (ix3 0 d ⟨p - 125, by omega⟩) else 0

theorem flat_apply (w : Vec Ideal S1x192x128 .bf16) (d : Fin 192) (l : Fin 128) : flat w (ix2 d l) = w (ix3 0 d l) := by
  pointwise [flat]

section
variable (t : Fin grid0.N) (arg2 : Memref sig .tc .vmem S1x192x12032 .bf16) (harg2 : arg2.IsWhole) (x0 : Vec Ideal S1x192x12032 .bf16)

theorem tileAt_apply (j : Fin 7) (a : Fin 3) (d : Fin 192) (l : Fin 128) :
    tileAt (grid0.coords t) arg2 harg2 x0 j a (ix3 0 d l) = x0 (ix3 0 d ⟨128 * min 93 ((125 * number t j + 3) / 128 + a.val - 1) + l.val, by omega⟩) := by
  unfold tileAt
  rw [Memref.IsWhole.readAt_unread harg2]
  refine congrArg x0 (funext fun b => Fin.ext ?_)
  refine (Rect.idx_unit_val _ _ _ _ b).trans ?_
  refine (congrArg (· + _) (congrFun (off_val t j a) b)).trans ?_
  fin_cases b <;> simp [ix3]

theorem part_apply (j : Fin 7) (p : Fin 2) (k : Fin 2) (a : BitVec 32) (ha : a = IntOp.addi (start (grid0.coords t) (BitVec.ofNat 32 j.val)) (BitVec.ofNat 32 (128 * k.val)))
    (r : Fin 96) (l : Fin 128) :
    part p (shift (grid0.coords t) (BitVec.ofNat 32 j.val)) a (flat (tileAt (grid0.coords t) arg2 harg2 x0 j ⟨k.val, by omega⟩))
      (flat (tileAt (grid0.coords t) arg2 harg2 x0 j ⟨k.val + 1, by omega⟩)) (ix2 r l)
      = line x0 ⟨2 * r.val + p.val, by omega⟩ (125 * number t j + 128 * k.val + l.val) := by
  have hn := number_lt t j
  have hs := shift_toNat t j
  generalize hS : shift (grid0.coords t) (BitVec.ofNat 32 j.val) = S at hs ⊢
  pointwise [part, inRange, turned, lane]
  rw [ha, inside (number t j) hn _ (start_toInt t j) (128 * k.val) (by omega) l.val l.isLt, WordCmp.select_ofBool]
  have hc : IntOp.cmpi .slt (BitVec.ofNat 32 l.val) S = BitVec.ofBool (decide (l.val < S.toNat)) := by
    rw [WordCmp.cmpi_slt_of_lt (by rw [BitVec.toNat_ofNat]; omega) (by omega), BitVec.toNat_ofNat, Nat.mod_eq_of_lt (by omega)]
  rw [hc, WordCmp.select_ofBool, flat_apply, flat_apply, tileAt_apply, tileAt_apply]
  unfold line
  by_cases h : 125 ≤ 125 * number t j + 128 * k.val + l.val ∧ 125 * number t j + 128 * k.val + l.val < 12157
  · rw [dif_pos h, if_pos (by simpa using h)]
    by_cases h2 : l.val < S.toNat
    · rw [if_pos (by simpa using h2)]
      congr 2
      apply Fin.ext
      simp only
      omega
    · rw [if_neg (by simpa using h2)]
      congr 2
      apply Fin.ext
      simp only
      omega
  · rw [dif_neg h, if_neg (by simpa using h)]

theorem half_apply (j : Fin 7) (k : Fin 2) (a : BitVec 32) (ha : a = IntOp.addi (start (grid0.coords t) (BitVec.ofNat 32 j.val)) (BitVec.ofNat 32 (128 * k.val)))
    (d : Fin 192) (l : Fin 128) :
    half (shift (grid0.coords t) (BitVec.ofNat 32 j.val)) a (flat (tileAt (grid0.coords t) arg2 harg2 x0 j ⟨k.val, by omega⟩))
      (flat (tileAt (grid0.coords t) arg2 harg2 x0 j ⟨k.val + 1, by omega⟩)) (ix2 d l)
      = line x0 d (125 * number t j + 128 * k.val + l.val) := by
  pointwise [half]
  have h0 := part_apply t arg2 harg2 x0 j 0 k a ha ⟨d.val / 2, by omega⟩ l
  have h1 := part_apply t arg2 harg2 x0 j 1 k a ha ⟨d.val / 2, by omega⟩ l
  split_ifs with h
  · refine h0.trans (congrArg (fun e => line x0 e _) (Fin.ext ?_))
    simp only [Fin.val_zero]; omega
  · refine h1.trans (congrArg (fun e => line x0 e _) (Fin.ext ?_))
    simp only [Fin.val_one]; omega

/-- Column `c` of chunk `s`. -/
theorem colsAt_apply (j : Fin 7) (d : Fin 192) (c : Fin 256) :
    colsAt (grid0.coords t) arg2 harg2 x0 j (ix2 d c) = line x0 d (125 * number t j + c.val) := by
  unfold colsAt
  pointwise [cols]
  split_ifs with h
  · exact (half_apply t arg2 harg2 x0 j 0 _ rfl d ⟨c.val, h⟩)
  · refine (half_apply t arg2 harg2 x0 j 1 _ rfl d ⟨c.val - 128, by omega⟩).trans (congrArg (line x0 d) ?_)
    simp only [Fin.val_one]; omega
  · rename_i h1
    exact absurd rfl h1

end

end Cert.KernelIdeal.Chunk
-- ==== Proof.ReadStores.lean ====
/-
  What one grid point stores, read at an index of its block: the codes of the queries, keys and values of its seven chunks, and
  the chunks with their projected attention.
-/
module

public import proofs.«01_k».proof.Proof.ReadHead
public import proofs.«01_k».proof.Proof.ReadCols
public import Idealize.ShloMosaic.Lib.Pointwise
public import Idealize.ShloMosaic.Lib.WholeRead
public import Idealize.ShloMosaic.Lib.Pipeline.ValueKit

@[expose] public section

noncomputable section

namespace Cert.KernelIdeal.Chunk

open Idealize.ShloMosaic Cert.KernelIdeal.Gen Cert.Chunks

section
variable (t : Fin grid0.N) (arg2 : Memref sig .tc .vmem S1x192x12032 .bf16) (harg2 : arg2.IsWhole)
  (arg3 : Memref sig .tc .vmem S4x192x256 .f32) (harg3 : arg3.IsWhole) (arg4 : Memref sig .tc .vmem S576x192 .bf16) (harg4 : arg4.IsWhole)
  (arg5 : Memref sig .tc .vmem S192x192 .bf16) (harg5 : arg5.IsWhole)
  (x0 : Vec Ideal S1x192x12032 .bf16) (x1 : Vec Ideal S4x192x256 .f32) (x2 : Vec Ideal S576x192 .bf16) (x3 : Vec Ideal S192x192 .bf16)

/-- Queries, keys and values of chunk `j` of a grid point, per block. -/
def rows (j : Fin 7) (a : Fin 6) (k : Fin 96) (c : Fin 250) : EReal :=
  ∑ d, x2 (ix2 ⟨96 * a.val + k.val, by omega⟩ d) * normed (fun d => line x0 d (125 * number t j + c.val))
    (fun d => x1 (ix3 0 d ⟨c.val, by omega⟩)) (fun d => x1 (ix3 1 d ⟨c.val, by omega⟩)) d

theorem gain_apply (o : Fin 4) (inb : ∀ a, (![o.val, 0, 0] : Fin 3 → ℕ) a + S1x192x256.size a ≤ S4x192x256.size a) (d : Fin 192) (l : Fin 256) :
    (View.readAt (Elt Ideal) arg3.view (Rect.unit (s := S4x192x256) ![o.val, 0, 0] S1x192x256.size inb).toLoadRect (harg3.unread x1) : Vec Ideal S1x192x256 .f32) (ix3 0 d l)
      = x1 (ix3 o d l) := by
  refine (Memref.IsWhole.readAt_unread harg3 x1 _ _).trans (congrArg x1 ?_)
  refine Eq.trans (eq_ix3 _) ?_
  refine congr (congr (congrArg ix3 (Fin.ext ?_)) (Fin.ext ?_)) (Fin.ext ?_)
  · refine (Rect.idx_unit_val _ _ _ _ _).trans ?_; simp
  · refine (Rect.idx_unit_val _ _ _ _ _).trans ?_; simp
  · refine (Rect.idx_unit_val _ _ _ _ _).trans ?_; simp

theorem weight_apply (r : Fin 576) (d : Fin 192) :
    (View.readAt (Elt Ideal) arg4.view (Rect.unit (s := S576x192) ![0, 0] S576x192.size inb_S576x192_S576x192_0_0).toLoadRect (harg4.unread x2) : Vec Ideal S576x192 .bf16) (ix2 r d)
      = x2 (ix2 r d) := by
  refine (Memref.IsWhole.readAt_unread harg4 x2 _ _).trans (congrArg x2 ?_)
  refine Eq.trans (eq_ix2 _) ?_
  refine congr (congrArg ix2 (Fin.ext ?_)) (Fin.ext ?_)
  · refine (Rect.idx_unit_val _ _ _ _ _).trans ?_; simp
  · refine (Rect.idx_unit_val _ _ _ _ _).trans ?_; simp

theorem proj_apply (r : Fin 192) (d : Fin 192) :
    (View.readAt (Elt Ideal) arg5.view (Rect.unit (s := S192x192) ![0, 0] S192x192.size inb_S192x192_S192x192_0_0).toLoadRect (harg5.unread x3) : Vec Ideal S192x192 .bf16) (ix2 r d)
      = x3 (ix2 r d) := by
  refine (Memref.IsWhole.readAt_unread harg5 x3 _ _).trans (congrArg x3 ?_)
  refine Eq.trans (eq_ix2 _) ?_
  refine congr (congrArg ix2 (Fin.ext ?_)) (Fin.ext ?_)
  · refine (Rect.idx_unit_val _ _ _ _ _).trans ?_; simp
  · refine (Rect.idx_unit_val _ _ _ _ _).trans ?_; simp

theorem qkvAt_apply (j : Fin 7) (r : Fin 576) (l : Fin 256) :
    qkvAt (grid0.coords t) arg2 harg2 arg3 harg3 arg4 harg4 x0 x1 x2 j (ix2 r l) = if l.val < 250 then
      ∑ d, x2 (ix2 r d) * normed (fun d => line x0 d (125 * number t j + l.val)) (fun d => x1 (ix3 0 d l)) (fun d => x1 (ix3 1 d l)) d else 0 := by
  unfold qkvAt
  rw [qkv_apply]
  have e0 := gain_apply arg3 harg3 x1 0 inb_S4x192x256_S1x192x256_0_0_0
  have e1 := gain_apply arg3 harg3 x1 1 inb_S4x192x256_S1x192x256_1_0_0
  simp only [colsAt_apply]
  split_ifs
  · refine Finset.sum_congr rfl fun d _ => congrArg₂ (fun a b : EReal => a * b) (weight_apply arg4 harg4 x2 r d) ?_
    exact congrArg₂ (fun g b => normed (fun d => line x0 d (125 * number t j + l.val)) g b d) (funext fun d => e0 d l) (funext fun d => e1 d l)
  · rfl

theorem stacked (j : Fin 7) : Stacks (qkvAt (grid0.coords t) arg2 harg2 arg3 harg3 arg4 harg4 x0 x1 x2 j) (rows t x0 x1 x2 j) := by
  have key : ∀ (a : Fin 6) (r : Fin 576) (k : Fin 96) (c : Fin 256), r.val = 96 * a.val + k.val →
      qkvAt (grid0.coords t) arg2 harg2 arg3 harg3 arg4 harg4 x0 x1 x2 j (ix2 r c)
        = if h : c.val < 250 then rows t x0 x1 x2 j a k ⟨c.val, h⟩ else 0 := by
    intro a r k c h
    have hr : r = ⟨96 * a.val + k.val, by omega⟩ := Fin.ext h
    rw [hr, qkvAt_apply]
    split_ifs <;> rfl
  constructor
  · intro k c
    refine Eq.trans ?_ (key 0 ⟨0 + k.val, by omega⟩ k c (by simp))
    pointwise [block0]
  · intro k c
    refine Eq.trans ?_ (key 1 ⟨96 + k.val, by omega⟩ k c (by simp))
    pointwise [block1]
  · intro k c
    refine Eq.trans ?_ (key 2 ⟨192 + k.val, by omega⟩ k c (by simp))
    pointwise [block2]
  · intro k c
    refine Eq.trans ?_ (key 3 ⟨288 + k.val, by omega⟩ k c (by simp))
    pointwise [block3]
  · intro k c
    refine Eq.trans ?_ (key 4 ⟨384 + k.val, by omega⟩ k c (by simp))
    pointwise [block4]
  · intro k c
    refine Eq.trans ?_ (key 5 ⟨480 + k.val, by omega⟩ k c (by simp))
    pointwise [block5]

/-- The codes of one pair of blocks that a grid point stores. -/
def codesAt (a0 a1 : Fin 6) (y : S1x7x192x250.Idx) : EReal :=
  coded (rows t x0 x1 x2 (y 1) (if (y 2).val < 96 then a0 else a1)) ⟨(y 2).val % 96, Nat.mod_lt _ (by norm_num)⟩ (y 3)

/-- A stored half of the codes of one chunk. -/
theorem stored_eq (a0 a1 a : Fin 6) (j : Fin 7) (w : FVec Ideal S96x256 .fp8e4m3)
    (hw : ∀ (k : Fin 96) (c : Fin 256), w (ix2 k c) = ((codeX (rows t x0 x1 x2 j a) k c : ℝ) : EReal))
    (x : S1x1x96x250.Idx) (y : S1x7x192x250.Idx) (o : ℕ) (ho : o = 0 ∧ a = a0 ∨ o = 96 ∧ a = a1)
    (h1 : (y 1).val = j.val) (h2 : (y 2).val = o + (x 2).val) (h3 : (y 3).val = (x 3).val) :
    stored w x = codesAt t x0 x1 x2 a0 a1 y := by
  obtain ⟨x0', x1', k, c, rfl⟩ : ∃ (a b : Fin 1) (k : Fin 96) (c : Fin 250), x = ix4 a b k c := ⟨_, _, _, _, eq_ix4 x⟩
  obtain ⟨y0, y1, r, c', rfl⟩ : ∃ (a : Fin 1) (b : Fin 7) (k : Fin 192) (c : Fin 250), y = ix4 a b k c := ⟨_, _, _, _, eq_ix4 y⟩
  change y1.val = j.val at h1
  change r.val = o + k.val at h2
  change c'.val = c.val at h3
  have e : stored w (ix4 x0' x1' k c) = w (ix2 k ⟨c.val, by omega⟩) := by
    obtain rfl : x0' = 0 := Subsingleton.elim _ _
    obtain rfl : x1' = 0 := Subsingleton.elim _ _
    pointwise [stored]
  rw [e, hw]
  show _ = coded (rows t x0 x1 x2 y1 (if r.val < 96 then a0 else a1)) ⟨r.val % 96, Nat.mod_lt _ (by norm_num)⟩ c'
  obtain rfl : y1 = j := Fin.ext h1
  obtain rfl : c' = c := Fin.ext h3
  unfold codeX
  rw [dif_pos c'.isLt, ← coded_coe]
  have hk : k = (⟨r.val % 96, Nat.mod_lt _ (by norm_num)⟩ : Fin 96) := by
    refine Fin.ext ?_
    simp only
    rcases ho with ⟨rfl, _⟩ | ⟨rfl, _⟩ <;> omega
  have ha : a = if r.val < 96 then a0 else a1 := by
    rcases ho with ⟨rfl, h⟩ | ⟨rfl, h⟩
    · rw [if_pos (by omega), h]
    · rw [if_neg (by omega), h]
  rw [← hk, ← ha]

theorem canon5 (y : S1x7x192x250.Idx) : View.canon (pieces5 (grid0.coords t) arg2 harg2 arg3 harg3 arg4 harg4 x0 x1 x2) y = codesAt t x0 x1 x2 0 1 y := by
  unfold pieces5
  canon_tiles x h
  · exact stored_eq t x0 x1 x2 0 1 1 6 _ (code_1 (stacked t arg2 harg2 arg3 harg3 arg4 harg4 x0 x1 x2 6)) x y 96 (Or.inr ⟨rfl, rfl⟩) (by show (y 1).val = 6; omega) (by omega) h3
  · exact stored_eq t x0 x1 x2 0 1 0 6 _ (code_0 (stacked t arg2 harg2 arg3 harg3 arg4 harg4 x0 x1 x2 6)) x y 0 (Or.inl ⟨rfl, rfl⟩) (by show (y 1).val = 6; omega) (by omega) h3
  · exact stored_eq t x0 x1 x2 0 1 1 5 _ (code_1 (stacked t arg2 harg2 arg3 harg3 arg4 harg4 x0 x1 x2 5)) x y 96 (Or.inr ⟨rfl, rfl⟩) (by show (y 1).val = 5; omega) (by omega) h3
  · exact stored_eq t x0 x1 x2 0 1 0 5 _ (code_0 (stacked t arg2 harg2 arg3 harg3 arg4 harg4 x0 x1 x2 5)) x y 0 (Or.inl ⟨rfl, rfl⟩) (by show (y 1).val = 5; omega) (by omega) h3
  · exact stored_eq t x0 x1 x2 0 1 1 4 _ (code_1 (stacked t arg2 harg2 arg3 harg3 arg4 harg4 x0 x1 x2 4)) x y 96 (Or.inr ⟨rfl, rfl⟩) (by show (y 1).val = 4; omega) (by omega) h3
  · exact stored_eq t x0 x1 x2 0 1 0 4 _ (code_0 (stacked t arg2 harg2 arg3 harg3 arg4 harg4 x0 x1 x2 4)) x y 0 (Or.inl ⟨rfl, rfl⟩) (by show (y 1).val = 4; omega) (by omega) h3
  · exact stored_eq t x0 x1 x2 0 1 1 3 _ (code_1 (stacked t arg2 harg2 arg3 harg3 arg4 harg4 x0 x1 x2 3)) x y 96 (Or.inr ⟨rfl, rfl⟩) (by show (y 1).val = 3; omega) (by omega) h3
  · exact stored_eq t x0 x1 x2 0 1 0 3 _ (code_0 (stacked t arg2 harg2 arg3 harg3 arg4 harg4 x0 x1 x2 3)) x y 0 (Or.inl ⟨rfl, rfl⟩) (by show (y 1).val = 3; omega) (by omega) h3
  · exact stored_eq t x0 x1 x2 0 1 1 2 _ (code_1 (stacked t arg2 harg2 arg3 harg3 arg4 harg4 x0 x1 x2 2)) x y 96 (Or.inr ⟨rfl, rfl⟩) (by show (y 1).val = 2; omega) (by omega) h3
  · exact stored_eq t x0 x1 x2 0 1 0 2 _ (code_0 (stacked t arg2 harg2 arg3 harg3 arg4 harg4 x0 x1 x2 2)) x y 0 (Or.inl ⟨rfl, rfl⟩) (by show (y 1).val = 2; omega) (by omega) h3
  · exact stored_eq t x0 x1 x2 0 1 1 1 _ (code_1 (stacked t arg2 harg2 arg3 harg3 arg4 harg4 x0 x1 x2 1)) x y 96 (Or.inr ⟨rfl, rfl⟩) (by show (y 1).val = 1; omega) (by omega) h3
  · exact stored_eq t x0 x1 x2 0 1 0 1 _ (code_0 (stacked t arg2 harg2 arg3 harg3 arg4 harg4 x0 x1 x2 1)) x y 0 (Or.inl ⟨rfl, rfl⟩) (by show (y 1).val = 1; omega) (by omega) h3
  · exact stored_eq t x0 x1 x2 0 1 1 0 _ (code_1 (stacked t arg2 harg2 arg3 harg3 arg4 harg4 x0 x1 x2 0)) x y 96 (Or.inr ⟨rfl, rfl⟩) (by show (y 1).val = 0; omega) (by omega) h3
  · exact stored_eq t x0 x1 x2 0 1 0 0 _ (code_0 (stacked t arg2 harg2 arg3 harg3 arg4 harg4 x0 x1 x2 0)) x y 0 (Or.inl ⟨rfl, rfl⟩) (by show (y 1).val = 0; omega) (by omega) h3

theorem canon6 (y : S1x7x192x250.Idx) : View.canon (pieces6 (grid0.coords t) arg2 harg2 arg3 harg3 arg4 harg4 x0 x1 x2) y = codesAt t x0 x1 x2 2 3 y := by
  unfold pieces6
  canon_tiles x h
  · exact stored_eq t x0 x1 x2 2 3 3 6 _ (code_3 (stacked t arg2 harg2 arg3 harg3 arg4 harg4 x0 x1 x2 6)) x y 96 (Or.inr ⟨rfl, rfl⟩) (by show (y 1).val = 6; omega) (by omega) h3
  · exact stored_eq t x0 x1 x2 2 3 2 6 _ (code_2 (stacked t arg2 harg2 arg3 harg3 arg4 harg4 x0 x1 x2 6)) x y 0 (Or.inl ⟨rfl, rfl⟩) (by show (y 1).val = 6; omega) (by omega) h3
  · exact stored_eq t x0 x1 x2 2 3 3 5 _ (code_3 (stacked t arg2 harg2 arg3 harg3 arg4 harg4 x0 x1 x2 5)) x y 96 (Or.inr ⟨rfl, rfl⟩) (by show (y 1).val = 5; omega) (by omega) h3
  · exact stored_eq t x0 x1 x2 2 3 2 5 _ (code_2 (stacked t arg2 harg2 arg3 harg3 arg4 harg4 x0 x1 x2 5)) x y 0 (Or.inl ⟨rfl, rfl⟩) (by show (y 1).val = 5; omega) (by omega) h3
  · exact stored_eq t x0 x1 x2 2 3 3 4 _ (code_3 (stacked t arg2 harg2 arg3 harg3 arg4 harg4 x0 x1 x2 4)) x y 96 (Or.inr ⟨rfl, rfl⟩) (by show (y 1).val = 4; omega) (by omega) h3
  · exact stored_eq t x0 x1 x2 2 3 2 4 _ (code_2 (stacked t arg2 harg2 arg3 harg3 arg4 harg4 x0 x1 x2 4)) x y 0 (Or.inl ⟨rfl, rfl⟩) (by show (y 1).val = 4; omega) (by omega) h3
  · exact stored_eq t x0 x1 x2 2 3 3 3 _ (code_3 (stacked t arg2 harg2 arg3 harg3 arg4 harg4 x0 x1 x2 3)) x y 96 (Or.inr ⟨rfl, rfl⟩) (by show (y 1).val = 3; omega) (by omega) h3
  · exact stored_eq t x0 x1 x2 2 3 2 3 _ (code_2 (stacked t arg2 harg2 arg3 harg3 arg4 harg4 x0 x1 x2 3)) x y 0 (Or.inl ⟨rfl, rfl⟩) (by show (y 1).val = 3; omega) (by omega) h3
  · exact stored_eq t x0 x1 x2 2 3 3 2 _ (code_3 (stacked t arg2 harg2 arg3 harg3 arg4 harg4 x0 x1 x2 2)) x y 96 (Or.inr ⟨rfl, rfl⟩) (by show (y 1).val = 2; omega) (by omega) h3
  · exact stored_eq t x0 x1 x2 2 3 2 2 _ (code_2 (stacked t arg2 harg2 arg3 harg3 arg4 harg4 x0 x1 x2 2)) x y 0 (Or.inl ⟨rfl, rfl⟩) (by show (y 1).val = 2; omega) (by omega) h3
  · exact stored_eq t x0 x1 x2 2 3 3 1 _ (code_3 (stacked t arg2 harg2 arg3 harg3 arg4 harg4 x0 x1 x2 1)) x y 96 (Or.inr ⟨rfl, rfl⟩) (by show (y 1).val = 1; omega) (by omega) h3
  · exact stored_eq t x0 x1 x2 2 3 2 1 _ (code_2 (stacked t arg2 harg2 arg3 harg3 arg4 harg4 x0 x1 x2 1)) x y 0 (Or.inl ⟨rfl, rfl⟩) (by show (y 1).val = 1; omega) (by omega) h3
  · exact stored_eq t x0 x1 x2 2 3 3 0 _ (code_3 (stacked t arg2 harg2 arg3 harg3 arg4 harg4 x0 x1 x2 0)) x y 96 (Or.inr ⟨rfl, rfl⟩) (by show (y 1).val = 0; omega) (by omega) h3
  · exact stored_eq t x0 x1 x2 2 3 2 0 _ (code_2 (stacked t arg2 harg2 arg3 harg3 arg4 harg4 x0 x1 x2 0)) x y 0 (Or.inl ⟨rfl, rfl⟩) (by show (y 1).val = 0; omega) (by omega) h3

theorem canon7 (y : S1x7x192x250.Idx) : View.canon (pieces7 (grid0.coords t) arg2 harg2 arg3 harg3 arg4 harg4 x0 x1 x2) y = codesAt t x0 x1 x2 4 5 y := by
  unfold pieces7
  canon_tiles x h
  · exact stored_eq t x0 x1 x2 4 5 5 6 _ (code_5 (stacked t arg2 harg2 arg3 harg3 arg4 harg4 x0 x1 x2 6)) x y 96 (Or.inr ⟨rfl, rfl⟩) (by show (y 1).val = 6; omega) (by omega) h3
  · exact stored_eq t x0 x1 x2 4 5 4 6 _ (code_4 (stacked t arg2 harg2 arg3 harg3 arg4 harg4 x0 x1 x2 6)) x y 0 (Or.inl ⟨rfl, rfl⟩) (by show (y 1).val = 6; omega) (by omega) h3
  · exact stored_eq t x0 x1 x2 4 5 5 5 _ (code_5 (stacked t arg2 harg2 arg3 harg3 arg4 harg4 x0 x1 x2 5)) x y 96 (Or.inr ⟨rfl, rfl⟩) (by show (y 1).val = 5; omega) (by omega) h3
  · exact stored_eq t x0 x1 x2 4 5 4 5 _ (code_4 (stacked t arg2 harg2 arg3 harg3 arg4 harg4 x0 x1 x2 5)) x y 0 (Or.inl ⟨rfl, rfl⟩) (by show (y 1).val = 5; omega) (by omega) h3
  · exact stored_eq t x0 x1 x2 4 5 5 4 _ (code_5 (stacked t arg2 harg2 arg3 harg3 arg4 harg4 x0 x1 x2 4)) x y 96 (Or.inr ⟨rfl, rfl⟩) (by show (y 1).val = 4; omega) (by omega) h3
  · exact stored_eq t x0 x1 x2 4 5 4 4 _ (code_4 (stacked t arg2 harg2 arg3 harg3 arg4 harg4 x0 x1 x2 4)) x y 0 (Or.inl ⟨rfl, rfl⟩) (by show (y 1).val = 4; omega) (by omega) h3
  · exact stored_eq t x0 x1 x2 4 5 5 3 _ (code_5 (stacked t arg2 harg2 arg3 harg3 arg4 harg4 x0 x1 x2 3)) x y 96 (Or.inr ⟨rfl, rfl⟩) (by show (y 1).val = 3; omega) (by omega) h3
  · exact stored_eq t x0 x1 x2 4 5 4 3 _ (code_4 (stacked t arg2 harg2 arg3 harg3 arg4 harg4 x0 x1 x2 3)) x y 0 (Or.inl ⟨rfl, rfl⟩) (by show (y 1).val = 3; omega) (by omega) h3
  · exact stored_eq t x0 x1 x2 4 5 5 2 _ (code_5 (stacked t arg2 harg2 arg3 harg3 arg4 harg4 x0 x1 x2 2)) x y 96 (Or.inr ⟨rfl, rfl⟩) (by show (y 1).val = 2; omega) (by omega) h3
  · exact stored_eq t x0 x1 x2 4 5 4 2 _ (code_4 (stacked t arg2 harg2 arg3 harg3 arg4 harg4 x0 x1 x2 2)) x y 0 (Or.inl ⟨rfl, rfl⟩) (by show (y 1).val = 2; omega) (by omega) h3
  · exact stored_eq t x0 x1 x2 4 5 5 1 _ (code_5 (stacked t arg2 harg2 arg3 harg3 arg4 harg4 x0 x1 x2 1)) x y 96 (Or.inr ⟨rfl, rfl⟩) (by show (y 1).val = 1; omega) (by omega) h3
  · exact stored_eq t x0 x1 x2 4 5 4 1 _ (code_4 (stacked t arg2 harg2 arg3 harg3 arg4 harg4 x0 x1 x2 1)) x y 0 (Or.inl ⟨rfl, rfl⟩) (by show (y 1).val = 1; omega) (by omega) h3
  · exact stored_eq t x0 x1 x2 4 5 5 0 _ (code_5 (stacked t arg2 harg2 arg3 harg3 arg4 harg4 x0 x1 x2 0)) x y 96 (Or.inr ⟨rfl, rfl⟩) (by show (y 1).val = 0; omega) (by omega) h3
  · exact stored_eq t x0 x1 x2 4 5 4 0 _ (code_4 (stacked t arg2 harg2 arg3 harg3 arg4 harg4 x0 x1 x2 0)) x y 0 (Or.inl ⟨rfl, rfl⟩) (by show (y 1).val = 0; omega) (by omega) h3

/-- A chunk's result `u1` at a grid point. -/
def residAt (j : Fin 7) (r : Fin 192) (c : Fin 250) : EReal :=
  resid (line x0 r (125 * number t j + c.val)) (fun k => x3 (ix2 r ⟨k.val, by omega⟩)) (fun k => x3 (ix2 r ⟨96 + k.val, by omega⟩))
    (rows t x0 x1 x2 j 0) (rows t x0 x1 x2 j 2) (rows t x0 x1 x2 j 4) (rows t x0 x1 x2 j 1) (rows t x0 x1 x2 j 3) (rows t x0 x1 x2 j 5) c

theorem outAt_eq (j j' : Fin 7) (x : S1x1x192x256.Idx) (r : Fin 192) (c : Fin 250) (hj : j'.val = j.val)
    (h2 : r.val = (x 2).val) (h3 : c.val = (x 3).val) :
    outAt (grid0.coords t) arg2 harg2 arg3 harg3 arg4 harg4 arg5 harg5 x0 x1 x2 x3 j x = residAt t x0 x1 x2 x3 j' r c := by
  obtain rfl : j' = j := Fin.ext hj
  obtain ⟨a, b, k, l, rfl⟩ : ∃ (a b : Fin 1) (k : Fin 192) (c : Fin 256), x = ix4 a b k c := ⟨_, _, _, _, eq_ix4 x⟩
  change r.val = k.val at h2
  change c.val = l.val at h3
  obtain rfl : a = 0 := Subsingleton.elim _ _
  obtain rfl : b = 0 := Subsingleton.elim _ _
  obtain rfl : r = k := Fin.ext h2
  have hl : l = ⟨c.val, by omega⟩ := Fin.ext h3.symm
  rw [hl]
  unfold outAt
  rw [out_apply (stacked t arg2 harg2 arg3 harg3 arg4 harg4 x0 x1 x2 j'), colsAt_apply]
  exact congrArg₂ (fun f g => resid _ f g _ _ _ _ _ _ c) (funext fun k => proj_apply arg5 harg5 x3 r ⟨k.val, by omega⟩)
    (funext fun k => proj_apply arg5 harg5 x3 r ⟨96 + k.val, by omega⟩)

theorem canon11 (y0 : Fin 1) (y1 : Fin 7) (r : Fin 192) (c : Fin 250) :
    View.canon (pieces11 (grid0.coords t) arg2 harg2 arg3 harg3 arg4 harg4 arg5 harg5 x0 x1 x2 x3) (ix4 y0 y1 r ⟨c.val, by omega⟩)
      = residAt t x0 x1 x2 x3 y1 r c := by
  unfold pieces11
  generalize hy : (ix4 y0 y1 r ⟨c.val, by omega⟩ : S1x7x192x256.Idx) = y
  have e1 : (y 1).val = y1.val := by rw [← hy]; rfl
  have e2 : (y 2).val = r.val := by rw [← hy]; rfl
  have e3 : (y 3).val = c.val := by rw [← hy]; rfl
  canon_tiles x h
  · exact outAt_eq t arg2 harg2 arg3 harg3 arg4 harg4 arg5 harg5 x0 x1 x2 x3 6 y1 x r c (by show y1.val = 6; omega) (by omega) (by omega)
  · exact outAt_eq t arg2 harg2 arg3 harg3 arg4 harg4 arg5 harg5 x0 x1 x2 x3 5 y1 x r c (by show y1.val = 5; omega) (by omega) (by omega)
  · exact outAt_eq t arg2 harg2 arg3 harg3 arg4 harg4 arg5 harg5 x0 x1 x2 x3 4 y1 x r c (by show y1.val = 4; omega) (by omega) (by omega)
  · exact outAt_eq t arg2 harg2 arg3 harg3 arg4 harg4 arg5 harg5 x0 x1 x2 x3 3 y1 x r c (by show y1.val = 3; omega) (by omega) (by omega)
  · exact outAt_eq t arg2 harg2 arg3 harg3 arg4 harg4 arg5 harg5 x0 x1 x2 x3 2 y1 x r c (by show y1.val = 2; omega) (by omega) (by omega)
  · exact outAt_eq t arg2 harg2 arg3 harg3 arg4 harg4 arg5 harg5 x0 x1 x2 x3 1 y1 x r c (by show y1.val = 1; omega) (by omega) (by omega)
  · exact outAt_eq t arg2 harg2 arg3 harg3 arg4 harg4 arg5 harg5 x0 x1 x2 x3 0 y1 x r c (by show y1.val = 0; omega) (by omega) (by omega)

end

end Cert.KernelIdeal.Chunk
-- ==== Proof.Args.lean ====
/-
  The four results as functions of the arguments: what the kernel and the reference are both shown to leave.
-/
module

public import proofs.«01_k».proof.Proof.Form

@[expose] public section

noncomputable section

namespace Cert.Chunks

open Idealize.ShloMosaic

section
variable (X : Fin 6 → Fin 12032 → Fin 192 → EReal) (g be : Fin 192 → EReal) (W : Fin 192 → Fin 3 → Fin 2 → Fin 96 → EReal)
  (O : Fin 2 → Fin 96 → Fin 192 → EReal)

/-- Batch `b` of the sequence with 125 positions of zeros before and after it, at feature `d` and position `p`. -/
def padded (b : Fin 6) (d : Fin 192) (p : ℕ) : EReal :=
  if h : 125 ≤ p ∧ p < 12157 then X b ⟨p - 125, by omega⟩ d else 0

/-- Row `k` of projection `w` (0 queries, 1 keys, 2 values) of head `h`, at column `c` of chunk `s`. -/
def project (b : Fin 6) (s : Fin 98) (w : Fin 3) (h : Fin 2) (k : Fin 96) (c : Fin 250) : EReal :=
  ∑ d, W d w h k * normed (fun d => padded X b d (125 * s.val + c.val)) g be d

/-- The head of a row, and its place in the head. -/
def headOf (r : Fin 192) : Fin 2 := ⟨r.val / 96, by omega⟩
def rowOf (r : Fin 192) : Fin 96 := ⟨r.val % 96, Nat.mod_lt _ (by norm_num)⟩

/-- The codes of projection `w`. -/
def codeVal (w : Fin 3) (b : Fin 6) (s : Fin 98) (r : Fin 192) (c : Fin 250) : EReal :=
  coded (project X g be W b s w (headOf r)) (rowOf r) c

/-- The chunk with the projected attention of its two heads. -/
def outVal (b : Fin 6) (s : Fin 98) (r : Fin 192) (c : Fin 250) : EReal :=
  resid (padded X b r (125 * s.val + c.val)) (fun k => O 0 k r) (fun k => O 1 k r)
    (project X g be W b s 0 0) (project X g be W b s 1 0) (project X g be W b s 2 0)
    (project X g be W b s 0 1) (project X g be W b s 1 1) (project X g be W b s 2 1) c

end

end Cert.Chunks
-- ==== Proof.ReadBlocks.lean ====
/-
  What the kernel's input windows hold at a grid point, in the arguments.
-/
module

public import proofs.«01_k».proof.Proof.ReadStores
public import proofs.«01_k».proof.Proof.Args
public import proofs.«01_k».proof.Proof.Gen.KernelIdeal.Value
public import Idealize.ShloMosaic.Lib.Claim
public import Idealize.ShloMosaic.Lib.StableHlo.ReadAt
public import Idealize.ShloMosaic.Lib.Pipeline.ValueKit

@[expose] public section

noncomputable section

namespace Cert.KernelIdeal.Chunk

open Idealize.ShloMosaic Idealize.ShloMosaic.TcCoe Cert.KernelIdeal Cert.KernelIdeal.Gen Cert.Chunks

variable (m : (ℓ : Loc nD τ sig) → Buf (Elt Ideal) ℓ) (c : Dev nD)

/-- The arguments, by their indices. -/
def argX (b : Fin 6) (p : Fin 12032) (d : Fin 192) : EReal := (m ((c : Thread nD τ).loc main_arg0) : Vec Ideal S6x12032x192 .bf16) (ix3 b p d)
def argG (d : Fin 192) : EReal := (m ((c : Thread nD τ).loc main_arg1) : Vec Ideal S192 .f32) (ix1 d)
def argB (d : Fin 192) : EReal := (m ((c : Thread nD τ).loc main_arg2) : Vec Ideal S192 .f32) (ix1 d)
def argW (d : Fin 192) (w : Fin 3) (h : Fin 2) (k : Fin 96) : EReal := (m ((c : Thread nD τ).loc main_arg3) : Vec Ideal S192x3x2x96 .bf16) (ix4 d w h k)
def argO (h : Fin 2) (k : Fin 96) (r : Fin 192) : EReal := (m ((c : Thread nD τ).loc main_arg4) : Vec Ideal S2x96x192 .bf16) (ix3 h k r)

theorem index_0 : ∀ t : Fin cfg0.N, win0_0.index t = ![t.val / 14, 0, 0] := by decide +kernel
theorem index_1 : ∀ t : Fin cfg0.N, win0_1.index t = ![0, 0, 0] := by decide +kernel
theorem index_2 : ∀ t : Fin cfg0.N, win0_2.index t = ![0, 0] := by decide +kernel
theorem index_3 : ∀ t : Fin cfg0.N, win0_3.index t = ![0, 0] := by decide +kernel

theorem entry_0 (b : Fin 6) (d : Fin 192) (p : Fin 12032) :
    (V m c main_v0 : Vec Ideal S6x192x12032 .bf16) (ix3 b d p) = argX m c b p d := by
  unfold argX
  entry_read
  pointwise

theorem entry_2 (r : Fin 576) (d : Fin 192) :
    (V m c main_v9 : Vec Ideal S576x192 .bf16) (ix2 r d) = argW m c d ⟨r.val / 192, by omega⟩ ⟨r.val % 192 / 96, by omega⟩ ⟨r.val % 96, by omega⟩ := by
  unfold argW
  have e : r.val % 192 / 96 = r.val / 96 % 2 := by omega
  simp only [e]
  entry_read
  pointwise

theorem entry_3 (r : Fin 192) (e : Fin 192) :
    (V m c main_v13 : Vec Ideal S192x192 .bf16) (ix2 r e) = argO m c (headOf e) (rowOf e) r := by
  unfold argO headOf rowOf
  entry_read
  pointwise

theorem entry_1g (d : Fin 192) (l : Fin 256) :
    (V m c main_v7 : Vec Ideal S4x192x256 .f32) (ix3 0 d l) = argG m c d := by
  unfold argG
  unfold V
  after_reads_at
  after_reads_at

theorem entry_1b (d : Fin 192) (l : Fin 256) :
    (V m c main_v7 : Vec Ideal S4x192x256 .f32) (ix3 1 d l) = argB m c d := by
  unfold argB
  unfold V
  after_reads_at
  after_reads_at

theorem block_0 (t : Fin cfg0.N) (d : Fin 192) (p : Fin 12032) (b : Fin 6) (hb : b.val = t.val / 14) :
    iblk m c 0 t (ix3 0 d p) = argX m c b p d := by
  rw [← entry_0]
  blk_ext [iblk, index_0 t]

theorem block_1 (t : Fin cfg0.N) (o : Fin 4) (d : Fin 192) (l : Fin 256) :
    iblk m c 1 t (ix3 o d l) = (V m c main_v7 : Vec Ideal S4x192x256 .f32) (ix3 o d l) := by
  blk_ext [iblk, index_1 t]

theorem block_2 (t : Fin cfg0.N) (r : Fin 576) (d : Fin 192) :
    iblk m c 2 t (ix2 r d) = (V m c main_v9 : Vec Ideal S576x192 .bf16) (ix2 r d) := by
  blk_ext [iblk, index_2 t]

theorem block_3 (t : Fin cfg0.N) (r : Fin 192) (d : Fin 192) :
    iblk m c 3 t (ix2 r d) = (V m c main_v13 : Vec Ideal S192x192 .bf16) (ix2 r d) := by
  blk_ext [iblk, index_3 t]

end Cert.KernelIdeal.Chunk
-- ==== Proof.StoresA.lean ====
/-
  The stores of the body at a grid point of case A are those of `Stores.lean`.
-/
module

public import proofs.«01_k».proof.Proof.Stores
public import proofs.«01_k».proof.Proof.Gen.KernelIdeal.Frame.RunA

@[expose] public section

set_option maxRecDepth 65536

noncomputable section

namespace Cert.KernelIdeal.Chunk

open Idealize.ShloMosaic Cert.KernelIdeal.Gen

variable {F : FTy → Type} [FloatOps F] [Named F]

variable (c : Dev nD) (i : grid0.Coords) (arg2 : Memref sig .tc .vmem S1x192x12032 .bf16) (harg2 : arg2.IsWhole) (arg3 : Memref sig .tc .vmem S4x192x256 .f32) (harg3 : arg3.IsWhole) (arg4 : Memref sig .tc .vmem S576x192 .bf16) (harg4 : arg4.IsWhole) (arg5 : Memref sig .tc .vmem S192x192 .bf16) (harg5 : arg5.IsWhole) (arg6 : Memref sig .tc .vmem S576x192 .bf16) (harg6 : arg6.IsWhole) (arg7 : Memref sig .tc .vmem S1x7x192x250 .fp8e4m3) (harg7 : arg7.IsWhole) (arg8 : Memref sig .tc .vmem S1x7x192x250 .fp8e4m3) (harg8 : arg8.IsWhole) (arg9 : Memref sig .tc .vmem S1x7x192x250 .fp8e4m3) (harg9 : arg9.IsWhole) (arg10 : Memref sig .tc .vmem S1x2x98 .f32) (harg10 : arg10.IsWhole) (arg11 : Memref sig .tc .vmem S1x2x98 .f32) (harg11 : arg11.IsWhole) (arg12 : Memref sig .tc .vmem S1x2x98 .f32) (harg12 : arg12.IsWhole) (arg13 : Memref sig .tc .vmem S1x7x192x256 .f32) (harg13 : arg13.IsWhole) (arg14 : Memref sig .tc .vmem S1x7x192x256 .bf16) (harg14 : arg14.IsWhole) (arg15 : Memref sig .tc .vmem S1x6x8x256 .f32) (harg15 : arg15.IsWhole) (arg16 : Memref sig .tc .vmem S8x128 .f32) (harg16 : arg16.IsWhole) (hc0 : cond0_0 i) (hc1 : ¬cond0_1 i)
    (x0 : Vec F S1x192x12032 .bf16) (x1 : Vec F S4x192x256 .f32) (x2 : Vec F S576x192 .bf16) (x3 : Vec F S192x192 .bf16) (x4 : Vec F S576x192 .bf16)

/-- The stores to window 5. -/
theorem runA_5 : (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4).1 = pieces5 i arg2 harg2 arg3 harg3 arg4 harg4 x0 x1 x2 := rfl

/-- The stores to window 6. -/
theorem runA_6 : (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4).2.1 = pieces6 i arg2 harg2 arg3 harg3 arg4 harg4 x0 x1 x2 := rfl

/-- The stores to window 7. -/
theorem runA_7 : (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4).2.2.1 = pieces7 i arg2 harg2 arg3 harg3 arg4 harg4 x0 x1 x2 := rfl

/-- The stores to window 11. -/
theorem runA_11 : (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4).2.2.2.2.2.2.1 = pieces11 i arg2 harg2 arg3 harg3 arg4 harg4 arg5 harg5 x0 x1 x2 x3 := rfl

end Cert.KernelIdeal.Chunk
-- ==== Proof.StoresB.lean ====
/-
  The stores of the body at a grid point of case B are those of `Stores.lean`.
-/
module

public import proofs.«01_k».proof.Proof.Stores
public import proofs.«01_k».proof.Proof.Gen.KernelIdeal.Frame.RunB

@[expose] public section

set_option maxRecDepth 65536

noncomputable section

namespace Cert.KernelIdeal.Chunk

open Idealize.ShloMosaic Cert.KernelIdeal.Gen

variable {F : FTy → Type} [FloatOps F] [Named F]

variable (c : Dev nD) (i : grid0.Coords) (arg2 : Memref sig .tc .vmem S1x192x12032 .bf16) (harg2 : arg2.IsWhole) (arg3 : Memref sig .tc .vmem S4x192x256 .f32) (harg3 : arg3.IsWhole) (arg4 : Memref sig .tc .vmem S576x192 .bf16) (harg4 : arg4.IsWhole) (arg5 : Memref sig .tc .vmem S192x192 .bf16) (harg5 : arg5.IsWhole) (arg6 : Memref sig .tc .vmem S576x192 .bf16) (harg6 : arg6.IsWhole) (arg7 : Memref sig .tc .vmem S1x7x192x250 .fp8e4m3) (harg7 : arg7.IsWhole) (arg8 : Memref sig .tc .vmem S1x7x192x250 .fp8e4m3) (harg8 : arg8.IsWhole) (arg9 : Memref sig .tc .vmem S1x7x192x250 .fp8e4m3) (harg9 : arg9.IsWhole) (arg10 : Memref sig .tc .vmem S1x2x98 .f32) (harg10 : arg10.IsWhole) (arg11 : Memref sig .tc .vmem S1x2x98 .f32) (harg11 : arg11.IsWhole) (arg12 : Memref sig .tc .vmem S1x2x98 .f32) (harg12 : arg12.IsWhole) (arg13 : Memref sig .tc .vmem S1x7x192x256 .f32) (harg13 : arg13.IsWhole) (arg14 : Memref sig .tc .vmem S1x7x192x256 .bf16) (harg14 : arg14.IsWhole) (arg15 : Memref sig .tc .vmem S1x6x8x256 .f32) (harg15 : arg15.IsWhole) (arg16 : Memref sig .tc .vmem S8x128 .f32) (harg16 : arg16.IsWhole) (hc0 : ¬cond0_0 i) (hc1 : ¬cond0_1 i)
    (x0 : Vec F S1x192x12032 .bf16) (x1 : Vec F S4x192x256 .f32) (x2 : Vec F S576x192 .bf16) (x3 : Vec F S192x192 .bf16) (x4 : Vec F S576x192 .bf16) (xo13 : Vec F S1x6x8x256 .f32) (xs0 : Vec F S8x128 .f32)

/-- The stores to window 5. -/
theorem runB_5 : (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 xo13 xs0).1 = pieces5 i arg2 harg2 arg3 harg3 arg4 harg4 x0 x1 x2 := rfl

/-- The stores to window 6. -/
theorem runB_6 : (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 xo13 xs0).2.1 = pieces6 i arg2 harg2 arg3 harg3 arg4 harg4 x0 x1 x2 := rfl

/-- The stores to window 7. -/
theorem runB_7 : (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 xo13 xs0).2.2.1 = pieces7 i arg2 harg2 arg3 harg3 arg4 harg4 x0 x1 x2 := rfl

/-- The stores to window 11. -/
theorem runB_11 : (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 xo13 xs0).2.2.2.2.2.2.1 = pieces11 i arg2 harg2 arg3 harg3 arg4 harg4 arg5 harg5 x0 x1 x2 x3 := rfl

end Cert.KernelIdeal.Chunk
-- ==== Proof.StoresC.lean ====
/-
  The stores of the body at a grid point of case C are those of `Stores.lean`.
-/
module

public import proofs.«01_k».proof.Proof.Stores
public import proofs.«01_k».proof.Proof.Gen.KernelIdeal.Frame.RunC

@[expose] public section

set_option maxRecDepth 65536

noncomputable section

namespace Cert.KernelIdeal.Chunk

open Idealize.ShloMosaic Cert.KernelIdeal.Gen

variable {F : FTy → Type} [FloatOps F] [Named F]

variable (c : Dev nD) (i : grid0.Coords) (arg2 : Memref sig .tc .vmem S1x192x12032 .bf16) (harg2 : arg2.IsWhole) (arg3 : Memref sig .tc .vmem S4x192x256 .f32) (harg3 : arg3.IsWhole) (arg4 : Memref sig .tc .vmem S576x192 .bf16) (harg4 : arg4.IsWhole) (arg5 : Memref sig .tc .vmem S192x192 .bf16) (harg5 : arg5.IsWhole) (arg6 : Memref sig .tc .vmem S576x192 .bf16) (harg6 : arg6.IsWhole) (arg7 : Memref sig .tc .vmem S1x7x192x250 .fp8e4m3) (harg7 : arg7.IsWhole) (arg8 : Memref sig .tc .vmem S1x7x192x250 .fp8e4m3) (harg8 : arg8.IsWhole) (arg9 : Memref sig .tc .vmem S1x7x192x250 .fp8e4m3) (harg9 : arg9.IsWhole) (arg10 : Memref sig .tc .vmem S1x2x98 .f32) (harg10 : arg10.IsWhole) (arg11 : Memref sig .tc .vmem S1x2x98 .f32) (harg11 : arg11.IsWhole) (arg12 : Memref sig .tc .vmem S1x2x98 .f32) (harg12 : arg12.IsWhole) (arg13 : Memref sig .tc .vmem S1x7x192x256 .f32) (harg13 : arg13.IsWhole) (arg14 : Memref sig .tc .vmem S1x7x192x256 .bf16) (harg14 : arg14.IsWhole) (arg15 : Memref sig .tc .vmem S1x6x8x256 .f32) (harg15 : arg15.IsWhole) (arg16 : Memref sig .tc .vmem S8x128 .f32) (harg16 : arg16.IsWhole) (hc0 : ¬cond0_0 i) (hc1 : cond0_1 i)
    (x0 : Vec F S1x192x12032 .bf16) (x1 : Vec F S4x192x256 .f32) (x2 : Vec F S576x192 .bf16) (x3 : Vec F S192x192 .bf16) (x4 : Vec F S576x192 .bf16) (xo13 : Vec F S1x6x8x256 .f32) (xs0 : Vec F S8x128 .f32)

/-- The stores to window 5. -/
theorem runC_5 : (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 xo13 xs0).1 = pieces5 i arg2 harg2 arg3 harg3 arg4 harg4 x0 x1 x2 := rfl

/-- The stores to window 6. -/
theorem runC_6 : (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 xo13 xs0).2.1 = pieces6 i arg2 harg2 arg3 harg3 arg4 harg4 x0 x1 x2 := rfl

/-- The stores to window 7. -/
theorem runC_7 : (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 xo13 xs0).2.2.1 = pieces7 i arg2 harg2 arg3 harg3 arg4 harg4 x0 x1 x2 := rfl

/-- The stores to window 11. -/
theorem runC_11 : (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 xo13 xs0).2.2.2.2.2.2.1 = pieces11 i arg2 harg2 arg3 harg3 arg4 harg4 arg5 harg5 x0 x1 x2 x3 := rfl

end Cert.KernelIdeal.Chunk
-- ==== Proof.KernelArrays.lean ====
/-
  What the kernel leaves in its results: the codes of the queries, keys and values, and the chunks with their attention.
-/
module

public import proofs.«01_k».proof.Proof.ReadBlocks
public import proofs.«01_k».proof.Proof.StoresA
public import proofs.«01_k».proof.Proof.StoresB
public import proofs.«01_k».proof.Proof.StoresC

@[expose] public section

noncomputable section

namespace Cert.KernelIdeal.Chunk

open Idealize.ShloMosaic Idealize.ShloMosaic.TcCoe Cert.KernelIdeal Cert.KernelIdeal.Gen Cert.KernelIdeal.Value Cert.Chunks

variable (m : (ℓ : Loc nD τ sig) → Buf (Elt Ideal) ℓ) (c : Dev nD)

/-- The chunk that place `j` of grid point `t` holds, and its batch. -/
def chunkOf (t : Fin cfg0.N) (j : Fin 7) : Fin 98 := ⟨number t j, number_lt t j⟩
def batchOf (t : Fin cfg0.N) : Fin 6 := ⟨t.val / 14, by have := lt_of_lt_of_eq t.isLt (show cfg0.N = 84 from N_0); omega⟩

theorem line_block (t : Fin cfg0.N) (d : Fin 192) (p : ℕ) :
    line (iblk m c 0 t) d p = padded (argX m c) (batchOf t) d p := by
  unfold line padded
  split_ifs
  · exact block_0 m c t d _ (batchOf t) rfl
  · rfl

theorem rows_block (t : Fin cfg0.N) (j : Fin 7) (a : Fin 6) (k : Fin 96) (l : Fin 250) (w : Fin 3) (h : Fin 2) (ha : a.val = 2 * w.val + h.val) :
    rows t (iblk m c 0 t) (iblk m c 1 t) (iblk m c 2 t) j a k l
      = project (argX m c) (argG m c) (argB m c) (argW m c) (batchOf t) (chunkOf t j) w h k l := by
  unfold rows project
  refine Finset.sum_congr rfl fun d _ => congrArg₂ (fun a b : EReal => a * b) ?_ ?_
  · refine (block_2 m c t _ d).trans ((entry_2 m c _ d).trans ?_)
    have e1 : (⟨(96 * a.val + k.val) / 192, by omega⟩ : Fin 3) = w := Fin.ext (by show (96 * a.val + k.val) / 192 = w.val; omega)
    have e2 : (⟨(96 * a.val + k.val) % 192 / 96, by omega⟩ : Fin 2) = h := Fin.ext (by show (96 * a.val + k.val) % 192 / 96 = h.val; omega)
    have e3 : (⟨(96 * a.val + k.val) % 96, by omega⟩ : Fin 96) = k := Fin.ext (by show (96 * a.val + k.val) % 96 = k.val; omega)
    exact congr (congr (congrArg (argW m c d) e1) e2) e3
  · refine congr (congr (congr (congrArg normed (funext fun d => line_block m c t d _)) (funext fun d => ?_)) (funext fun d => ?_)) rfl
    · exact (block_1 m c t 0 d _).trans (entry_1g m c d _)
    · exact (block_1 m c t 1 d _).trans (entry_1b m c d _)

theorem codes_block (t : Fin cfg0.N) (a0 a1 : Fin 6) (w : Fin 3) (h0 : a0.val = 2 * w.val) (h1 : a1.val = 2 * w.val + 1) (y : S1x7x192x250.Idx) :
    codesAt t (iblk m c 0 t) (iblk m c 1 t) (iblk m c 2 t) a0 a1 y
      = codeVal (argX m c) (argG m c) (argB m c) (argW m c) w (batchOf t) (chunkOf t (y 1)) (y 2) (y 3) := by
  unfold codesAt codeVal
  refine congrArg (fun Q => coded Q (rowOf (y 2)) (y 3)) (funext fun k => funext fun l => rows_block m c t (y 1) _ k l w (headOf (y 2)) ?_)
  unfold headOf
  have := (y 2).isLt
  change (y 2).val < 192 at this
  split_ifs
  · rw [h0]; simp only; omega
  · rw [h1]; simp only; omega

theorem resid_block (t : Fin cfg0.N) (j : Fin 7) (r : Fin 192) (l : Fin 250) :
    residAt t (iblk m c 0 t) (iblk m c 1 t) (iblk m c 2 t) (iblk m c 3 t) j r l
      = outVal (argX m c) (argG m c) (argB m c) (argW m c) (argO m c) (batchOf t) (chunkOf t j) r l := by
  unfold residAt outVal
  have e : ∀ (a : Fin 6) (w : Fin 3) (h : Fin 2), a.val = 2 * w.val + h.val →
      rows t (iblk m c 0 t) (iblk m c 1 t) (iblk m c 2 t) j a
        = project (argX m c) (argG m c) (argB m c) (argW m c) (batchOf t) (chunkOf t j) w h :=
    fun a w h ha => funext fun k => funext fun l => rows_block m c t j a k l w h ha
  rw [e 0 0 0 rfl, e 1 0 1 rfl, e 2 1 0 rfl, e 3 1 1 rfl, e 4 2 0 rfl, e 5 2 1 rfl]
  refine congr (congr (congr (congr (congr (congr (congr (congr (congr (congrArg resid (line_block m c t r _)) (funext fun k => ?_)) (funext fun k => ?_)) rfl) rfl) rfl) rfl) rfl) rfl) rfl
  · refine (block_3 m c t r _).trans ((entry_3 m c r _).trans ?_)
    exact congrArg₂ (fun h k => argO m c h k r) (Fin.ext (by show k.val / 96 = 0; omega)) (Fin.ext (by show k.val % 96 = k.val; omega))
  · refine (block_3 m c t r _).trans ((entry_3 m c r _).trans ?_)
    exact congrArg₂ (fun h k => argO m c h k r) (Fin.ext (by show (96 + k.val) / 96 = 1; omega)) (Fin.ext (by show (96 + k.val) % 96 = k.val; omega))

theorem point5 (t : Fin cfg0.N) (y : S1x7x192x250.Idx) :
    (outsAt0 m c t.val t.isLt).1 y
      = codeVal (argX m c) (argG m c) (argB m c) (argW m c) 0 (batchOf t) (chunkOf t (y 1)) (y 2) (y 3) := by
  refine Eq.trans ?_ (codes_block m c t 0 1 0 rfl rfl y)
  have hN : t.val < 84 := lt_of_lt_of_eq t.isLt (show cfg0.N = 84 from N_0)
  by_cases h0 : t.val % 14 = 0
  · rw [outsAt0_A m c t h0 (by omega)]
    dsimp only
    unfold out0_A_5
    rw [View.read_writes_junk_eq_canon, runA_5]
    exact canon5 t _ _ _ _ _ _ _ _ _ y
  · by_cases h1 : t.val % 14 = 13
    · rw [outsAt0_C m c t h0 h1]
      dsimp only
      unfold out0_C_5
      rw [View.read_writes_junk_eq_canon, runC_5]
      exact canon5 t _ _ _ _ _ _ _ _ _ y
    · rw [outsAt0_B m c t h0 h1]
      dsimp only
      unfold out0_B_5
      rw [View.read_writes_junk_eq_canon, runB_5]
      exact canon5 t _ _ _ _ _ _ _ _ _ y

theorem point6 (t : Fin cfg0.N) (y : S1x7x192x250.Idx) :
    (outsAt0 m c t.val t.isLt).2.1 y
      = codeVal (argX m c) (argG m c) (argB m c) (argW m c) 1 (batchOf t) (chunkOf t (y 1)) (y 2) (y 3) := by
  refine Eq.trans ?_ (codes_block m c t 2 3 1 rfl rfl y)
  have hN : t.val < 84 := lt_of_lt_of_eq t.isLt (show cfg0.N = 84 from N_0)
  by_cases h0 : t.val % 14 = 0
  · rw [outsAt0_A m c t h0 (by omega)]
    dsimp only
    unfold out0_A_6
    rw [View.read_writes_junk_eq_canon, runA_6]
    exact canon6 t _ _ _ _ _ _ _ _ _ y
  · by_cases h1 : t.val % 14 = 13
    · rw [outsAt0_C m c t h0 h1]
      dsimp only
      unfold out0_C_6
      rw [View.read_writes_junk_eq_canon, runC_6]
      exact canon6 t _ _ _ _ _ _ _ _ _ y
    · rw [outsAt0_B m c t h0 h1]
      dsimp only
      unfold out0_B_6
      rw [View.read_writes_junk_eq_canon, runB_6]
      exact canon6 t _ _ _ _ _ _ _ _ _ y

theorem point7 (t : Fin cfg0.N) (y : S1x7x192x250.Idx) :
    (outsAt0 m c t.val t.isLt).2.2.1 y
      = codeVal (argX m c) (argG m c) (argB m c) (argW m c) 2 (batchOf t) (chunkOf t (y 1)) (y 2) (y 3) := by
  refine Eq.trans ?_ (codes_block m c t 4 5 2 rfl rfl y)
  have hN : t.val < 84 := lt_of_lt_of_eq t.isLt (show cfg0.N = 84 from N_0)
  by_cases h0 : t.val % 14 = 0
  · rw [outsAt0_A m c t h0 (by omega)]
    dsimp only
    unfold out0_A_7
    rw [View.read_writes_junk_eq_canon, runA_7]
    exact canon7 t _ _ _ _ _ _ _ _ _ y
  · by_cases h1 : t.val % 14 = 13
    · rw [outsAt0_C m c t h0 h1]
      dsimp only
      unfold out0_C_7
      rw [View.read_writes_junk_eq_canon, runC_7]
      exact canon7 t _ _ _ _ _ _ _ _ _ y
    · rw [outsAt0_B m c t h0 h1]
      dsimp only
      unfold out0_B_7
      rw [View.read_writes_junk_eq_canon, runB_7]
      exact canon7 t _ _ _ _ _ _ _ _ _ y

theorem point11 (t : Fin cfg0.N) (y0 : Fin 1) (y1 : Fin 7) (r : Fin 192) (l : Fin 250) :
    (outsAt0 m c t.val t.isLt).2.2.2.2.2.2.1 (ix4 y0 y1 r ⟨l.val, by omega⟩)
      = outVal (argX m c) (argG m c) (argB m c) (argW m c) (argO m c) (batchOf t) (chunkOf t y1) r l := by
  refine Eq.trans ?_ (resid_block m c t y1 r l)
  have hN : t.val < 84 := lt_of_lt_of_eq t.isLt (show cfg0.N = 84 from N_0)
  by_cases h0 : t.val % 14 = 0
  · rw [outsAt0_A m c t h0 (by omega)]
    dsimp only
    unfold out0_A_11
    rw [View.read_writes_junk_eq_canon, runA_11]
    exact canon11 t _ _ _ _ _ _ _ _ _ _ _ _ y0 y1 r l
  · by_cases h1 : t.val % 14 = 13
    · rw [outsAt0_C m c t h0 h1]
      dsimp only
      unfold out0_C_11
      rw [View.read_writes_junk_eq_canon, runC_11]
      exact canon11 t _ _ _ _ _ _ _ _ _ _ _ _ y0 y1 r l
    · rw [outsAt0_B m c t h0 h1]
      dsimp only
      unfold out0_B_11
      rw [View.read_writes_junk_eq_canon, runB_11]
      exact canon11 t _ _ _ _ _ _ _ _ _ _ _ _ y0 y1 r l

/-- Result 0: the codes of projection 0. -/
theorem array5 (b : Fin 6) (s : Fin 98) (r : Fin 192) (l : Fin 250) :
    (G5 m c : Vec Ideal S6x98x192x250 .fp8e4m3) (ix4 b s r l) = codeVal (argX m c) (argG m c) (argB m c) (argW m c) 0 b s r l := by
  have e : pt5Of (ix4 b s r l) = 14 * b.val + s.val / 7 := by
    show 14 * (b.val / 1 - 0) + 1 * (s.val / 7 - 0) + 1 * (r.val / 192 - 0) + 1 * (l.val / 250 - 0) = _
    omega
  have h : pt5Of (ix4 b s r l) < cfg0.N := by rw [e, show cfg0.N = 84 from N_0]; omega
  unfold G5
  refine (dif_pos h).trans ?_
  rw [← outsAt0_sweep m c _ h]
  refine (point5 m c ⟨_, h⟩ (loc5Of (ix4 b s r l))).trans ?_
  refine congr (congr (congr (congrArg (codeVal _ _ _ _ 0) (Fin.ext ?_)) (Fin.ext ?_)) (Fin.ext ?_)) (Fin.ext ?_)
  · show pt5Of (ix4 b s r l) / 14 = b.val
    omega
  · show 7 * (pt5Of (ix4 b s r l) % 14) + s.val % 7 = s.val
    omega
  · show r.val % 192 = r.val
    omega
  · show l.val % 250 = l.val
    omega

/-- Result 1: the codes of projection 1. -/
theorem array6 (b : Fin 6) (s : Fin 98) (r : Fin 192) (l : Fin 250) :
    (G6 m c : Vec Ideal S6x98x192x250 .fp8e4m3) (ix4 b s r l) = codeVal (argX m c) (argG m c) (argB m c) (argW m c) 1 b s r l := by
  have e : pt6Of (ix4 b s r l) = 14 * b.val + s.val / 7 := by
    show 14 * (b.val / 1 - 0) + 1 * (s.val / 7 - 0) + 1 * (r.val / 192 - 0) + 1 * (l.val / 250 - 0) = _
    omega
  have h : pt6Of (ix4 b s r l) < cfg0.N := by rw [e, show cfg0.N = 84 from N_0]; omega
  unfold G6
  refine (dif_pos h).trans ?_
  rw [← outsAt0_sweep m c _ h]
  refine (point6 m c ⟨_, h⟩ (loc6Of (ix4 b s r l))).trans ?_
  refine congr (congr (congr (congrArg (codeVal _ _ _ _ 1) (Fin.ext ?_)) (Fin.ext ?_)) (Fin.ext ?_)) (Fin.ext ?_)
  · show pt6Of (ix4 b s r l) / 14 = b.val
    omega
  · show 7 * (pt6Of (ix4 b s r l) % 14) + s.val % 7 = s.val
    omega
  · show r.val % 192 = r.val
    omega
  · show l.val % 250 = l.val
    omega

/-- Result 2: the codes of projection 2. -/
theorem array7 (b : Fin 6) (s : Fin 98) (r : Fin 192) (l : Fin 250) :
    (G7 m c : Vec Ideal S6x98x192x250 .fp8e4m3) (ix4 b s r l) = codeVal (argX m c) (argG m c) (argB m c) (argW m c) 2 b s r l := by
  have e : pt7Of (ix4 b s r l) = 14 * b.val + s.val / 7 := by
    show 14 * (b.val / 1 - 0) + 1 * (s.val / 7 - 0) + 1 * (r.val / 192 - 0) + 1 * (l.val / 250 - 0) = _
    omega
  have h : pt7Of (ix4 b s r l) < cfg0.N := by rw [e, show cfg0.N = 84 from N_0]; omega
  unfold G7
  refine (dif_pos h).trans ?_
  rw [← outsAt0_sweep m c _ h]
  refine (point7 m c ⟨_, h⟩ (loc7Of (ix4 b s r l))).trans ?_
  refine congr (congr (congr (congrArg (codeVal _ _ _ _ 2) (Fin.ext ?_)) (Fin.ext ?_)) (Fin.ext ?_)) (Fin.ext ?_)
  · show pt7Of (ix4 b s r l) / 14 = b.val
    omega
  · show 7 * (pt7Of (ix4 b s r l) % 14) + s.val % 7 = s.val
    omega
  · show r.val % 192 = r.val
    omega
  · show l.val % 250 = l.val
    omega

/-- Result 3 at the columns of the chunk: the chunk with its attention. -/
theorem array11 (b : Fin 6) (s : Fin 98) (r : Fin 192) (l : Fin 250) :
    (G11 m c : Vec Ideal S6x98x192x256 .f32) (ix4 b s r ⟨l.val, by omega⟩)
      = outVal (argX m c) (argG m c) (argB m c) (argW m c) (argO m c) b s r l := by
  generalize hi : (ix4 b s r ⟨l.val, by omega⟩ : S6x98x192x256.Idx) = i
  have e : pt11Of i = 14 * b.val + s.val / 7 := by
    rw [← hi]
    show 14 * (b.val / 1 - 0) + 1 * (s.val / 7 - 0) + 1 * (r.val / 192 - 0) + 1 * (l.val / 256 - 0) = _
    omega
  have h : pt11Of i < cfg0.N := by rw [e, show cfg0.N = 84 from N_0]; omega
  have el : loc11Of i = ix4 0 ⟨s.val % 7, Nat.mod_lt _ (by norm_num)⟩ r ⟨l.val, by omega⟩ := by
    rw [← hi]
    refine Eq.trans (eq_ix4 _) ?_
    refine congr (congr (congr (congrArg ix4 (Fin.ext ?_)) (Fin.ext ?_)) (Fin.ext ?_)) (Fin.ext ?_)
    · show b.val % 1 = 0
      omega
    · rfl
    · show r.val % 192 = r.val
      omega
    · show l.val % 256 = l.val
      omega
  unfold G11
  refine (dif_pos h).trans ?_
  rw [← outsAt0_sweep m c _ h, el]
  refine (point11 m c ⟨_, h⟩ 0 ⟨s.val % 7, _⟩ r l).trans ?_
  refine congr (congr (congr (congrArg (outVal _ _ _ _ _) (Fin.ext ?_)) (Fin.ext ?_)) rfl) rfl
  · show pt11Of i / 14 = b.val
    omega
  · show 7 * (pt11Of i % 14) + s.val % 7 = s.val
    omega

end Cert.KernelIdeal.Chunk
-- ==== Proof.RefHost.lean ====
/-
  The host lines of the reference, as functions of arrays, and that the operands of its attention are these functions of the arguments.
-/
module

public import proofs.«01_k».proof.Proof.Gen.ReferenceIdeal.Value
public import Idealize.ShloMosaic.Lib.StableHlo.RunRead
public import Idealize.ShloMosaic.Lib.Claim
public import Idealize.ShloMosaic.Lib.Pipeline.Frame

@[expose] public section

set_option maxRecDepth 8192

noncomputable section

namespace Cert.ReferenceIdeal.Plain

open Idealize.ShloMosaic Idealize.ShloMosaic.TcCoe Idealize.ShloMosaic.StableHlo Cert.ReferenceIdeal Cert.ReferenceIdeal.Gen

variable {F : FTy → Type} [FloatOps F]

/-- The padded sequence. -/
def padX (x : FVec F S6x12032x192 .bf16) : FVec F S6x12375x192 .bf16 :=
  pad S6x12375x192 ![0, 125, 0] ![0, 218, 0] ![0, 0, 0] x (sitofp .bf16 (constantI S_ 32 0#32)) pads_S6x12032x192_S6x12375x192_000_1252180_000 h_S_

/-- Two arrays of half chunks, joined. -/
def join (a b : FVec F S6x98x125x192 .bf16) : FVec F S6x98x250x192 .bf16 :=
  concatenate S6x98x250x192 2 [⟨S6x98x125x192, a⟩, ⟨S6x98x125x192, b⟩] concatenates_S6x98x125x192_S6x98x125x192_S6x98x250x192_d2

/-- The sequence in chunks that overlap by half. -/
def chunks (x : FVec F S6x12032x192 .bf16) : FVec F S6x98x250x192 .bf16 :=
  join (extractStridedSlice S6x98x125x192 ![0, 0, 0, 0] (shapeCast _ (padX x) shapeCasts_S6x12375x192_S6x99x125x192) slices_S6x99x125x192_S6x98x125x192_0_0_0_0)
    (extractStridedSlice S6x98x125x192 ![0, 1, 0, 0] (shapeCast _ (padX x) shapeCasts_S6x12375x192_S6x99x125x192) slices_S6x99x125x192_S6x98x125x192_0_1_0_0)

/-- The mean over the features. -/
def mean (u : FVec F S6x98x250x192 .f32) : FVec F S6x98x250x1 .f32 :=
  Host.divf (broadcastInDim S6x98x250x1 ![0, 1, 2] bcast_S6x98x250_S6x98x250x1_0_1_2
      (Host.reduceAdd u (constant S_ .f32 0x00000000#32) reducesTo_S6x98x250x192_S6x98x250_d3 h_S_))
    (broadcastInDim S6x98x250x1 ![] bcast_S_S6x98x250x1 (constant S_ .f32 0x43400000#32))

/-- An array minus its mean. -/
def centred (u : FVec F S6x98x250x192 .f32) : FVec F S6x98x250x192 .f32 :=
  subf u (broadcastInDim S6x98x250x192 ![0, 1, 2, 3] bcast_S6x98x250x1_S6x98x250x192_0_1_2_3 (mean u))

/-- Layer normalisation. -/
def layernorm (x : FVec F S6x98x250x192 .bf16) (g b : FVec F S192 .f32) : FVec F S6x98x250x192 .bf16 :=
  truncf .bf16 (addf (mulf (mulf (centred (extf .f32 x bitsLt_bf16_f32))
      (broadcastInDim S6x98x250x192 ![0, 1, 2, 3] bcast_S6x98x250x1_S6x98x250x192_0_1_2_3
        (Host.rsqrt (addf (mean (mulf (centred (extf .f32 x bitsLt_bf16_f32)) (centred (extf .f32 x bitsLt_bf16_f32))))
          (broadcastInDim S6x98x250x1 ![] bcast_S_S6x98x250x1 (constant S_ .f32 0x3727C5AC#32))))))
      (broadcastInDim S6x98x250x192 ![0, 1, 2, 3] bcast_S1x1x1x192_S6x98x250x192_0_1_2_3 (broadcastInDim S1x1x1x192 ![3] bcast_S192_S1x1x1x192_3 g)))
    (broadcastInDim S6x98x250x192 ![0, 1, 2, 3] bcast_S1x1x1x192_S6x98x250x192_0_1_2_3 (broadcastInDim S1x1x1x192 ![3] bcast_S192_S1x1x1x192_3 b))) bitsLt_bf16_f32

/-- One of the three projections. -/
def proj (w : FVec F S192x1x2x96 .bf16) (n : FVec F S6x98x250x192 .bf16) : FVec F S6x98x2x96x250 .f32 :=
  transpose S6x98x2x96x250 [2, 3, 0, 1, 4]
    (Host.dotGeneral dot_S192x2x96_S6x98x250x192_S2x96x6x98x250_0_3_12_012_n_n none (shapeCast _ w shapeCasts_S192x1x2x96_S192x2x96) n)
    transposes_S2x96x6x98x250_S6x98x2x96x250_2_3_0_1_4

def projQ (w : FVec F S192x3x2x96 .bf16) (n : FVec F S6x98x250x192 .bf16) : FVec F S6x98x2x96x250 .f32 :=
  proj (extractStridedSlice S192x1x2x96 ![0, 0, 0, 0] w slices_S192x3x2x96_S192x1x2x96_0_0_0_0) n
def projK (w : FVec F S192x3x2x96 .bf16) (n : FVec F S6x98x250x192 .bf16) : FVec F S6x98x2x96x250 .f32 :=
  proj (extractStridedSlice S192x1x2x96 ![0, 1, 0, 0] w slices_S192x3x2x96_S192x1x2x96_0_1_0_0) n
def projV (w : FVec F S192x3x2x96 .bf16) (n : FVec F S6x98x250x192 .bf16) : FVec F S6x98x2x96x250 .f32 :=
  proj (extractStridedSlice S192x1x2x96 ![0, 2, 0, 0] w slices_S192x3x2x96_S192x1x2x96_0_2_0_0) n

/-- The largest absolute value of each head's block. -/
def tops (t : FVec F S6x98x2x96x250 .f32) : FVec F S6x98x2x1x1 .f32 :=
  broadcastInDim S6x98x2x1x1 ![0, 1, 2] bcast_S6x98x2_S6x98x2x1x1_0_1_2
    (Host.reduce FloatOps.maximumf (Host.absf t) (constant S_ .f32 0xFF800000#32) reducesTo_S6x98x2x96x250_S6x98x2_d3_4 h_S_)

/-- A number at every head. -/
def each (w : BitVec 32) : FVec F S6x98x2x1x1 .f32 := broadcastInDim S6x98x2x1x1 ![] bcast_S_S6x98x2x1x1 (constant S_ .f32 w)

/-- The sum with one, the bad cases, and the exponents they select, apart. -/
def expoSum (a : FVec F S6x98x2x1x1 .f32) : FVec F S6x98x2x1x1 .f32 :=
  addf (Host.floor (Host.divf (Host.log (mulf a (each 0x3B124925#32)))
      (broadcastInDim S6x98x2x1x1 ![] bcast_S_S6x98x2x1x1 (Host.log (constant S_ .f32 0x40000000#32))))) (each 0x3F800000#32)
def expoBad (a : FVec F S6x98x2x1x1 .f32) : IVec S6x98x2x1x1 1 :=
  ori (cmpf .olt (mulf a (each 0x3B124925#32)) (each 0x00800000#32)) (cmpf .ogt a (each 0x7F7FFFFF#32))

/-- The exponents, from the largest absolute values. -/
def expoOf (a : FVec F S6x98x2x1x1 .f32) : FVec F S6x98x2x1x1 .f32 := select (expoBad a) (each 0x00000000#32) (expoSum a)

def expo (t : FVec F S6x98x2x96x250 .f32) : FVec F S6x98x2x1x1 .f32 := expoOf (tops t)

/-- Two to a power. -/
def two (e : FVec F S6x98x2x1x1 .f32) : FVec F S6x98x2x1x1 .f32 := Host.powf (each 0x40000000#32) e

/-- The factors of the scores and of the sums of values, from the exponents. -/
def scoreScale (q k : FVec F S6x98x2x1x1 .f32) : FVec F S1176x1x1 .f32 :=
  shapeCast _ (Host.divf (mulf (two q) (two k))
    (broadcastInDim S6x98x2x1x1 ![] bcast_S_S6x98x2x1x1 (Host.sqrt (constant S_ .f32 0x42C00000#32)))) shapeCasts_S6x98x2x1x1_S1176x1x1
def outScale (v : FVec F S6x98x2x1x1 .f32) : FVec F S1176x1x1 .f32 :=
  shapeCast _ (mulf (two v) (each 0x3B800000#32)) shapeCasts_S6x98x2x1x1_S1176x1x1

variable (w : Valuation τ sig (Elt F))

/-! ## The lines, in stretches -/

abbrev l1 : List (HloOp τ sig (Elt F)) := hostOps0_2.take 4
abbrev l2 : List (HloOp τ sig (Elt F)) := (hostOps0_2.drop 4).take 9
abbrev l3 : List (HloOp τ sig (Elt F)) := (hostOps0_2.drop 13).take 22
abbrev l4 : List (HloOp τ sig (Elt F)) := (hostOps0_2.drop 35).take 12
abbrev l5 : List (HloOp τ sig (Elt F)) := hostOps0_2.drop 47

theorem r0 : after hostOps0_1 (after hostOps0 w) (Proc.devRef (τ := τ) (sig := sig) Proc.tc main_v0) = (padX (w (Proc.devRef (τ := τ) (sig := sig) Proc.tc main_arg0)) : FVec F S6x12375x192 .bf16) := by
  simp only [hostOps0, hostOps0_1, TRef.binary, TRef.unary, TRef.toBuf, TRef.ofBuf, cast_eq]
  after_reads_simp
  rfl

theorem r1 : after l1 w (Proc.devRef (τ := τ) (sig := sig) Proc.tc main_v4) = (join (extractStridedSlice S6x98x125x192 ![0, 0, 0, 0] (shapeCast _ (w (Proc.devRef (τ := τ) (sig := sig) Proc.tc main_v0) : FVec F S6x12375x192 .bf16) shapeCasts_S6x12375x192_S6x99x125x192) slices_S6x99x125x192_S6x98x125x192_0_0_0_0)
    (extractStridedSlice S6x98x125x192 ![0, 1, 0, 0] (shapeCast _ (w (Proc.devRef (τ := τ) (sig := sig) Proc.tc main_v0) : FVec F S6x12375x192 .bf16) shapeCasts_S6x12375x192_S6x99x125x192) slices_S6x99x125x192_S6x98x125x192_0_1_0_0) : FVec F S6x98x250x192 .bf16) := by
  after_reads_simp
  rfl

theorem r2_5 : after l2 w (Proc.devRef (τ := τ) (sig := sig) Proc.tc main_v5) = (extf .f32 (w (Proc.devRef (τ := τ) (sig := sig) Proc.tc main_v4) : FVec F S6x98x250x192 .bf16) bitsLt_bf16_f32 : FVec F S6x98x250x192 .f32) := by
  after_reads_simp
theorem r2_9 : after l2 w (Proc.devRef (τ := τ) (sig := sig) Proc.tc main_v9) = (mean (extf .f32 (w (Proc.devRef (τ := τ) (sig := sig) Proc.tc main_v4) : FVec F S6x98x250x192 .bf16) bitsLt_bf16_f32) : FVec F S6x98x250x1 .f32) := by
  after_reads_simp
  rfl
theorem r2_11 : after l2 w (Proc.devRef (τ := τ) (sig := sig) Proc.tc main_v11) = (centred (extf .f32 (w (Proc.devRef (τ := τ) (sig := sig) Proc.tc main_v4) : FVec F S6x98x250x192 .bf16) bitsLt_bf16_f32) : FVec F S6x98x250x192 .f32) := by
  after_reads_simp
  rfl

/-- The normalised array, from the array, its mean and the difference. -/
def scaled (u : FVec F S6x98x250x192 .f32) (a : FVec F S6x98x250x1 .f32) (d : FVec F S6x98x250x192 .f32) (g b : FVec F S192 .f32) :
    FVec F S6x98x250x192 .bf16 :=
  truncf .bf16 (addf (mulf (mulf (subf u (broadcastInDim S6x98x250x192 ![0, 1, 2, 3] bcast_S6x98x250x1_S6x98x250x192_0_1_2_3 a))
      (broadcastInDim S6x98x250x192 ![0, 1, 2, 3] bcast_S6x98x250x1_S6x98x250x192_0_1_2_3
        (Host.rsqrt (addf (mean (mulf d d))
          (broadcastInDim S6x98x250x1 ![] bcast_S_S6x98x250x1 (constant S_ .f32 0x3727C5AC#32))))))
      (broadcastInDim S6x98x250x192 ![0, 1, 2, 3] bcast_S1x1x1x192_S6x98x250x192_0_1_2_3 (broadcastInDim S1x1x1x192 ![3] bcast_S192_S1x1x1x192_3 g)))
    (broadcastInDim S6x98x250x192 ![0, 1, 2, 3] bcast_S1x1x1x192_S6x98x250x192_0_1_2_3 (broadcastInDim S1x1x1x192 ![3] bcast_S192_S1x1x1x192_3 b))) bitsLt_bf16_f32

theorem r3 : after l3 w (Proc.devRef (τ := τ) (sig := sig) Proc.tc main_v30) = (scaled (w (Proc.devRef (τ := τ) (sig := sig) Proc.tc main_v5)) (w (Proc.devRef (τ := τ) (sig := sig) Proc.tc main_v9)) (w (Proc.devRef (τ := τ) (sig := sig) Proc.tc main_v11)) (w (Proc.devRef (τ := τ) (sig := sig) Proc.tc main_arg1)) (w (Proc.devRef (τ := τ) (sig := sig) Proc.tc main_arg2)) : FVec F S6x98x250x192 .bf16) := by
  after_reads_simp
  rfl

theorem r4_34 : after l4 w (Proc.devRef (τ := τ) (sig := sig) Proc.tc main_v34) = (projQ (w (Proc.devRef (τ := τ) (sig := sig) Proc.tc main_arg3)) (w (Proc.devRef (τ := τ) (sig := sig) Proc.tc main_v30)) : FVec F S6x98x2x96x250 .f32) := by
  after_reads_simp
  rfl
theorem r4_38 : after l4 w (Proc.devRef (τ := τ) (sig := sig) Proc.tc main_v38) = (projK (w (Proc.devRef (τ := τ) (sig := sig) Proc.tc main_arg3)) (w (Proc.devRef (τ := τ) (sig := sig) Proc.tc main_v30)) : FVec F S6x98x2x96x250 .f32) := by
  after_reads_simp
  rfl
theorem r4_42 : after l4 w (Proc.devRef (τ := τ) (sig := sig) Proc.tc main_v42) = (projV (w (Proc.devRef (τ := τ) (sig := sig) Proc.tc main_arg3)) (w (Proc.devRef (τ := τ) (sig := sig) Proc.tc main_v30)) : FVec F S6x98x2x96x250 .f32) := by
  after_reads_simp
  rfl

theorem r5_sum : after l5 w (Proc.devRef (τ := τ) (sig := sig) Proc.tc main_v54) = (expoSum (tops (w (Proc.devRef (τ := τ) (sig := sig) Proc.tc main_v34))) : FVec F S6x98x2x1x1 .f32) := by
  after_reads_simp
  rfl
theorem r5_bad : after l5 w (Proc.devRef (τ := τ) (sig := sig) Proc.tc main_v59) = (expoBad (tops (w (Proc.devRef (τ := τ) (sig := sig) Proc.tc main_v34) : FVec F S6x98x2x96x250 .f32)) : IVec S6x98x2x1x1 1) := by
  after_reads_simp
  rfl
theorem r5_cst : after l5 w (Proc.devRef (τ := τ) (sig := sig) Proc.tc main_cst_10) = (constant S_ .f32 0x00000000#32 : FVec F S_ .f32) := by
  after_reads_simp

theorem r6_sum : after hostOps0_4 w (Proc.devRef (τ := τ) (sig := sig) Proc.tc main_v72) = (expoSum (tops (w (Proc.devRef (τ := τ) (sig := sig) Proc.tc main_v38))) : FVec F S6x98x2x1x1 .f32) := by
  after_reads_simp
  rfl
theorem r6_bad : after hostOps0_4 w (Proc.devRef (τ := τ) (sig := sig) Proc.tc main_v77) = (expoBad (tops (w (Proc.devRef (τ := τ) (sig := sig) Proc.tc main_v38) : FVec F S6x98x2x96x250 .f32)) : IVec S6x98x2x1x1 1) := by
  after_reads_simp
  rfl
theorem r6_cst : after hostOps0_4 w (Proc.devRef (τ := τ) (sig := sig) Proc.tc main_cst_17) = (constant S_ .f32 0x00000000#32 : FVec F S_ .f32) := by
  after_reads_simp

theorem r7_sum : after hostOps0_6 w (Proc.devRef (τ := τ) (sig := sig) Proc.tc main_v90) = (expoSum (tops (w (Proc.devRef (τ := τ) (sig := sig) Proc.tc main_v42))) : FVec F S6x98x2x1x1 .f32) := by
  after_reads_simp
  rfl
theorem r7_bad : after hostOps0_6 w (Proc.devRef (τ := τ) (sig := sig) Proc.tc main_v95) = (expoBad (tops (w (Proc.devRef (τ := τ) (sig := sig) Proc.tc main_v42) : FVec F S6x98x2x96x250 .f32)) : IVec S6x98x2x1x1 1) := by
  after_reads_simp
  rfl
theorem r7_cst : after hostOps0_6 w (Proc.devRef (τ := τ) (sig := sig) Proc.tc main_cst_24) = (constant S_ .f32 0x00000000#32 : FVec F S_ .f32) := by
  after_reads_simp

theorem r5w : after hostOps0_3 w (Proc.devRef (τ := τ) (sig := sig) Proc.tc main_v60) = (select (w (Proc.devRef (τ := τ) (sig := sig) Proc.tc main_v59) : IVec S6x98x2x1x1 1) (broadcastInDim S6x98x2x1x1 ![] bcast_S_S6x98x2x1x1 (w (Proc.devRef (τ := τ) (sig := sig) Proc.tc main_cst_10) : FVec F S_ .f32)) (w (Proc.devRef (τ := τ) (sig := sig) Proc.tc main_v54)) : FVec F S6x98x2x1x1 .f32) := by
  simp only [hostOps0_3, TRef.ternary, TRef.unary, TRef.toBuf, TRef.ofBuf, cast_eq]
  after_reads_simp
  rfl

theorem r6w : after hostOps0_5 w (Proc.devRef (τ := τ) (sig := sig) Proc.tc main_v78) = (select (w (Proc.devRef (τ := τ) (sig := sig) Proc.tc main_v77) : IVec S6x98x2x1x1 1) (broadcastInDim S6x98x2x1x1 ![] bcast_S_S6x98x2x1x1 (w (Proc.devRef (τ := τ) (sig := sig) Proc.tc main_cst_17) : FVec F S_ .f32)) (w (Proc.devRef (τ := τ) (sig := sig) Proc.tc main_v72)) : FVec F S6x98x2x1x1 .f32) := by
  simp only [hostOps0_5, TRef.ternary, TRef.unary, TRef.toBuf, TRef.ofBuf, cast_eq]
  after_reads_simp
  rfl

theorem r7w : after hostOps0_7 w (Proc.devRef (τ := τ) (sig := sig) Proc.tc main_v96) = (select (w (Proc.devRef (τ := τ) (sig := sig) Proc.tc main_v95) : IVec S6x98x2x1x1 1) (broadcastInDim S6x98x2x1x1 ![] bcast_S_S6x98x2x1x1 (w (Proc.devRef (τ := τ) (sig := sig) Proc.tc main_cst_24) : FVec F S_ .f32)) (w (Proc.devRef (τ := τ) (sig := sig) Proc.tc main_v90)) : FVec F S6x98x2x1x1 .f32) := by
  simp only [hostOps0_7, TRef.ternary, TRef.unary, TRef.toBuf, TRef.ofBuf, cast_eq]
  after_reads_simp
  rfl

theorem r8_110 : after hostOps0_8 w (Proc.devRef (τ := τ) (sig := sig) Proc.tc main_v110) = (extf .f32 (transpose S6x98x192x250 [0, 1, 3, 2] (w (Proc.devRef (τ := τ) (sig := sig) Proc.tc main_v4) : FVec F S6x98x250x192 .bf16) transposes_S6x98x250x192_S6x98x192x250_0_1_3_2) bitsLt_bf16_f32 : FVec F S6x98x192x250 .f32) := by
  after_reads_simp
theorem r8_113 : after hostOps0_8 w (Proc.devRef (τ := τ) (sig := sig) Proc.tc main_v113) = (two (Host.negf (w (Proc.devRef (τ := τ) (sig := sig) Proc.tc main_v60))) : FVec F S6x98x2x1x1 .f32) := by
  after_reads_simp
  rfl
theorem r8_116 : after hostOps0_8 w (Proc.devRef (τ := τ) (sig := sig) Proc.tc main_v116) = (two (Host.negf (w (Proc.devRef (τ := τ) (sig := sig) Proc.tc main_v78))) : FVec F S6x98x2x1x1 .f32) := by
  after_reads_simp
  rfl
theorem r8_119 : after hostOps0_8 w (Proc.devRef (τ := τ) (sig := sig) Proc.tc main_v119) = (two (Host.negf (w (Proc.devRef (τ := τ) (sig := sig) Proc.tc main_v96))) : FVec F S6x98x2x1x1 .f32) := by
  after_reads_simp
  rfl
theorem r8_120 : after hostOps0_8 w (Proc.devRef (τ := τ) (sig := sig) Proc.tc main_v120) = (scoreScale (w (Proc.devRef (τ := τ) (sig := sig) Proc.tc main_v60)) (w (Proc.devRef (τ := τ) (sig := sig) Proc.tc main_v78)) : FVec F S1176x1x1 .f32) := by
  after_reads_simp
  rfl
theorem r8_121 : after hostOps0_8 w (Proc.devRef (τ := τ) (sig := sig) Proc.tc main_v121) = (outScale (w (Proc.devRef (τ := τ) (sig := sig) Proc.tc main_v96)) : FVec F S1176x1x1 .f32) := by
  after_reads_simp
  rfl
theorem r8_122 : after hostOps0_8 w (Proc.devRef (τ := τ) (sig := sig) Proc.tc main_v122) = (shapeCast S1x192x192 (w (Proc.devRef (τ := τ) (sig := sig) Proc.tc main_arg4) : FVec F S2x96x192 .bf16) shapeCasts_S2x96x192_S1x192x192 : FVec F S1x192x192 .bf16) := by
  after_reads_simp
  rfl

/-! ## The operands -/

variable (m : (ℓ : Loc nD τ sig) → Buf (Elt F) ℓ) (c : Dev nD)

/-- The arguments. -/
abbrev aX : FVec F S6x12032x192 .bf16 := m (c, Proc.devRef .tc main_arg0)
abbrev aG : FVec F S192 .f32 := m (c, Proc.devRef .tc main_arg1)
abbrev aB : FVec F S192 .f32 := m (c, Proc.devRef .tc main_arg2)
abbrev aW : FVec F S192x3x2x96 .bf16 := m (c, Proc.devRef .tc main_arg3)
abbrev aO : FVec F S2x96x192 .bf16 := m (c, Proc.devRef .tc main_arg4)

def opN : FVec F S6x98x250x192 .bf16 := layernorm (chunks (aX m c)) (aG m c) (aB m c)
def opQ : FVec F S6x98x2x96x250 .f32 := projQ (aW m c) (opN m c)
def opK : FVec F S6x98x2x96x250 .f32 := projK (aW m c) (opN m c)
def opV : FVec F S6x98x2x96x250 .f32 := projV (aW m c) (opN m c)

/-- The buffers before the second stretch, and after it. -/
def w1 : Valuation τ sig (Elt F) := after l1 (after hostOps0_1 (after hostOps0 (fun b => m (c, b))))
def w3 : Valuation τ sig (Elt F) := after l3 (after l2 (w1 m c))
def w4 : Valuation τ sig (Elt F) := after l4 (w3 m c)
def w5 : Valuation τ sig (Elt F) := after hostOps0_3 (after l5 (w4 m c))
def w6 : Valuation τ sig (Elt F) := after hostOps0_5 (after hostOps0_4 (w5 m c))
def w7 : Valuation τ sig (Elt F) := after hostOps0_7 (after hostOps0_6 (w6 m c))

theorem V_eq (b : Ref sig .tc) : V m c b = after hostOps0_8 (w7 m c) (Proc.devRef (τ := τ) (sig := sig) Proc.tc b) := by
  have h : (hostOps0_2 : List (HloOp τ sig (Elt F))) = l1 ++ (l2 ++ (l3 ++ (l4 ++ l5))) := rfl
  unfold V w7 w6 w5 w4 w3 w1
  simp only [List.flatten_cons, List.flatten_nil, List.append_nil, after_append]
  rw [h]
  simp only [after_append]

theorem w1_arg1 : w1 m c (Proc.devRef (τ := τ) (sig := sig) Proc.tc main_arg1) = m (c, (Proc.devRef (τ := τ) (sig := sig) Proc.tc main_arg1)) := by
  unfold w1
  after_reads_simp
theorem w1_arg2 : w1 m c (Proc.devRef (τ := τ) (sig := sig) Proc.tc main_arg2) = m (c, (Proc.devRef (τ := τ) (sig := sig) Proc.tc main_arg2)) := by
  unfold w1
  after_reads_simp
theorem w1_arg3 : w1 m c (Proc.devRef (τ := τ) (sig := sig) Proc.tc main_arg3) = m (c, (Proc.devRef (τ := τ) (sig := sig) Proc.tc main_arg3)) := by
  unfold w1
  after_reads_simp
theorem w1_arg4 : w1 m c (Proc.devRef (τ := τ) (sig := sig) Proc.tc main_arg4) = m (c, (Proc.devRef (τ := τ) (sig := sig) Proc.tc main_arg4)) := by
  unfold w1
  after_reads_simp
theorem w1_v4 : w1 m c (Proc.devRef (τ := τ) (sig := sig) Proc.tc main_v4) = (chunks (aX m c) : FVec F S6x98x250x192 .bf16) := by
  unfold w1
  rw [r1, r0]
  rfl

theorem w3_arg3 : w3 m c (Proc.devRef (τ := τ) (sig := sig) Proc.tc main_arg3) = aW m c := by
  unfold w3
  after_reads_simp
  exact w1_arg3 m c
theorem w3_arg4 : w3 m c (Proc.devRef (τ := τ) (sig := sig) Proc.tc main_arg4) = aO m c := by
  unfold w3
  after_reads_simp
  exact w1_arg4 m c
theorem w3_v4 : w3 m c (Proc.devRef (τ := τ) (sig := sig) Proc.tc main_v4) = (chunks (aX m c) : FVec F S6x98x250x192 .bf16) := by
  unfold w3
  after_reads_simp
  exact w1_v4 m c
theorem w3_v30 : w3 m c (Proc.devRef (τ := τ) (sig := sig) Proc.tc main_v30) = (opN m c : FVec F S6x98x250x192 .bf16) := by
  unfold w3
  rw [r3, r2_5, r2_9, r2_11]
  after_reads_simp
  rw [w1_v4, w1_arg1, w1_arg2]
  rfl

theorem w4_arg4 : w4 m c (Proc.devRef (τ := τ) (sig := sig) Proc.tc main_arg4) = w3 m c (Proc.devRef (τ := τ) (sig := sig) Proc.tc main_arg4) := by
  unfold w4
  after_reads_simp
theorem w4_v4 : w4 m c (Proc.devRef (τ := τ) (sig := sig) Proc.tc main_v4) = w3 m c (Proc.devRef (τ := τ) (sig := sig) Proc.tc main_v4) := by
  unfold w4
  after_reads_simp
theorem w4_v34 : w4 m c (Proc.devRef (τ := τ) (sig := sig) Proc.tc main_v34) = (opQ m c : FVec F S6x98x2x96x250 .f32) := by
  unfold w4
  rw [r4_34, w3_arg3, w3_v30]
  rfl
theorem w4_v38 : w4 m c (Proc.devRef (τ := τ) (sig := sig) Proc.tc main_v38) = (opK m c : FVec F S6x98x2x96x250 .f32) := by
  unfold w4
  rw [r4_38, w3_arg3, w3_v30]
  rfl
theorem w4_v42 : w4 m c (Proc.devRef (τ := τ) (sig := sig) Proc.tc main_v42) = (opV m c : FVec F S6x98x2x96x250 .f32) := by
  unfold w4
  rw [r4_42, w3_arg3, w3_v30]
  rfl

theorem w5_arg4 : w5 m c (Proc.devRef (τ := τ) (sig := sig) Proc.tc main_arg4) = w4 m c (Proc.devRef (τ := τ) (sig := sig) Proc.tc main_arg4) := by
  unfold w5
  after_reads_simp
theorem w5_v4 : w5 m c (Proc.devRef (τ := τ) (sig := sig) Proc.tc main_v4) = w4 m c (Proc.devRef (τ := τ) (sig := sig) Proc.tc main_v4) := by
  unfold w5
  after_reads_simp
theorem w5_v34 : w5 m c (Proc.devRef (τ := τ) (sig := sig) Proc.tc main_v34) = w4 m c (Proc.devRef (τ := τ) (sig := sig) Proc.tc main_v34) := by
  unfold w5
  after_reads_simp
theorem w5_v38 : w5 m c (Proc.devRef (τ := τ) (sig := sig) Proc.tc main_v38) = w4 m c (Proc.devRef (τ := τ) (sig := sig) Proc.tc main_v38) := by
  unfold w5
  after_reads_simp
theorem w5_v42 : w5 m c (Proc.devRef (τ := τ) (sig := sig) Proc.tc main_v42) = w4 m c (Proc.devRef (τ := τ) (sig := sig) Proc.tc main_v42) := by
  unfold w5
  after_reads_simp
theorem w6_arg4 : w6 m c (Proc.devRef (τ := τ) (sig := sig) Proc.tc main_arg4) = w5 m c (Proc.devRef (τ := τ) (sig := sig) Proc.tc main_arg4) := by
  unfold w6
  after_reads_simp
theorem w6_v4 : w6 m c (Proc.devRef (τ := τ) (sig := sig) Proc.tc main_v4) = w5 m c (Proc.devRef (τ := τ) (sig := sig) Proc.tc main_v4) := by
  unfold w6
  after_reads_simp
theorem w6_v34 : w6 m c (Proc.devRef (τ := τ) (sig := sig) Proc.tc main_v34) = w5 m c (Proc.devRef (τ := τ) (sig := sig) Proc.tc main_v34) := by
  unfold w6
  after_reads_simp
theorem w6_v38 : w6 m c (Proc.devRef (τ := τ) (sig := sig) Proc.tc main_v38) = w5 m c (Proc.devRef (τ := τ) (sig := sig) Proc.tc main_v38) := by
  unfold w6
  after_reads_simp
theorem w6_v42 : w6 m c (Proc.devRef (τ := τ) (sig := sig) Proc.tc main_v42) = w5 m c (Proc.devRef (τ := τ) (sig := sig) Proc.tc main_v42) := by
  unfold w6
  after_reads_simp
theorem w6_v60 : w6 m c (Proc.devRef (τ := τ) (sig := sig) Proc.tc main_v60) = w5 m c (Proc.devRef (τ := τ) (sig := sig) Proc.tc main_v60) := by
  unfold w6
  after_reads_simp
theorem w7_arg4 : w7 m c (Proc.devRef (τ := τ) (sig := sig) Proc.tc main_arg4) = w6 m c (Proc.devRef (τ := τ) (sig := sig) Proc.tc main_arg4) := by
  unfold w7
  after_reads_simp
theorem w7_v4 : w7 m c (Proc.devRef (τ := τ) (sig := sig) Proc.tc main_v4) = w6 m c (Proc.devRef (τ := τ) (sig := sig) Proc.tc main_v4) := by
  unfold w7
  after_reads_simp
theorem w7_v34 : w7 m c (Proc.devRef (τ := τ) (sig := sig) Proc.tc main_v34) = w6 m c (Proc.devRef (τ := τ) (sig := sig) Proc.tc main_v34) := by
  unfold w7
  after_reads_simp
theorem w7_v38 : w7 m c (Proc.devRef (τ := τ) (sig := sig) Proc.tc main_v38) = w6 m c (Proc.devRef (τ := τ) (sig := sig) Proc.tc main_v38) := by
  unfold w7
  after_reads_simp
theorem w7_v42 : w7 m c (Proc.devRef (τ := τ) (sig := sig) Proc.tc main_v42) = w6 m c (Proc.devRef (τ := τ) (sig := sig) Proc.tc main_v42) := by
  unfold w7
  after_reads_simp
theorem w7_v60 : w7 m c (Proc.devRef (τ := τ) (sig := sig) Proc.tc main_v60) = w6 m c (Proc.devRef (τ := τ) (sig := sig) Proc.tc main_v60) := by
  unfold w7
  after_reads_simp
theorem w7_v78 : w7 m c (Proc.devRef (τ := τ) (sig := sig) Proc.tc main_v78) = w6 m c (Proc.devRef (τ := τ) (sig := sig) Proc.tc main_v78) := by
  unfold w7
  after_reads_simp

theorem w5_v60 : w5 m c (Proc.devRef (τ := τ) (sig := sig) Proc.tc main_v60) = (expo (opQ m c) : FVec F S6x98x2x1x1 .f32) := by
  unfold w5
  rw [r5w, r5_bad, r5_sum, r5_cst]
  rw [show w4 m c (Proc.devRef (τ := τ) (sig := sig) Proc.tc main_v34) = (opQ m c : FVec F S6x98x2x96x250 .f32) from w4_v34 m c]
  rfl
theorem w6_v78 : w6 m c (Proc.devRef (τ := τ) (sig := sig) Proc.tc main_v78) = (expo (opK m c) : FVec F S6x98x2x1x1 .f32) := by
  unfold w6
  rw [r6w, r6_bad, r6_sum, r6_cst]
  rw [show w5 m c (Proc.devRef (τ := τ) (sig := sig) Proc.tc main_v38) = (opK m c : FVec F S6x98x2x96x250 .f32) from (w5_v38 m c).trans (w4_v38 m c)]
  rfl
theorem w7_v96 : w7 m c (Proc.devRef (τ := τ) (sig := sig) Proc.tc main_v96) = (expo (opV m c) : FVec F S6x98x2x1x1 .f32) := by
  unfold w7
  rw [r7w, r7_bad, r7_sum, r7_cst]
  rw [show w6 m c (Proc.devRef (τ := τ) (sig := sig) Proc.tc main_v42) = (opV m c : FVec F S6x98x2x96x250 .f32) from (w6_v42 m c).trans ((w5_v42 m c).trans (w4_v42 m c))]
  rfl

theorem V_110 : V m c main_v110 = (extf .f32 (transpose S6x98x192x250 [0, 1, 3, 2] (chunks (aX m c)) transposes_S6x98x250x192_S6x98x192x250_0_1_3_2) bitsLt_bf16_f32 : FVec F S6x98x192x250 .f32) := by
  rw [V_eq, r8_110, w7_v4, w6_v4, w5_v4, w4_v4, w3_v4]
theorem V_34 : V m c main_v34 = (opQ m c : FVec F S6x98x2x96x250 .f32) := by
  rw [V_eq]
  after_reads_simp
  rw [w7_v34, w6_v34, w5_v34, w4_v34]
theorem V_38 : V m c main_v38 = (opK m c : FVec F S6x98x2x96x250 .f32) := by
  rw [V_eq]
  after_reads_simp
  rw [w7_v38, w6_v38, w5_v38, w4_v38]
theorem V_42 : V m c main_v42 = (opV m c : FVec F S6x98x2x96x250 .f32) := by
  rw [V_eq]
  after_reads_simp
  rw [w7_v42, w6_v42, w5_v42, w4_v42]
theorem V_113 : V m c main_v113 = (two (Host.negf (expo (opQ m c))) : FVec F S6x98x2x1x1 .f32) := by
  rw [V_eq, r8_113, w7_v60, w6_v60, w5_v60]
theorem V_116 : V m c main_v116 = (two (Host.negf (expo (opK m c))) : FVec F S6x98x2x1x1 .f32) := by
  rw [V_eq, r8_116, w7_v78, w6_v78]
theorem V_119 : V m c main_v119 = (two (Host.negf (expo (opV m c))) : FVec F S6x98x2x1x1 .f32) := by
  rw [V_eq, r8_119, w7_v96]
theorem V_120 : V m c main_v120 = (scoreScale (expo (opQ m c)) (expo (opK m c)) : FVec F S1176x1x1 .f32) := by
  rw [V_eq, r8_120, w7_v60, w6_v60, w5_v60, w7_v78, w6_v78]
theorem V_121 : V m c main_v121 = (outScale (expo (opV m c)) : FVec F S1176x1x1 .f32) := by
  rw [V_eq, r8_121, w7_v96]
theorem V_122 : V m c main_v122 = (shapeCast S1x192x192 (aO m c) shapeCasts_S2x96x192_S1x192x192 : FVec F S1x192x192 .bf16) := by
  rw [V_eq, r8_122, w7_arg4, w6_arg4, w5_arg4, w4_arg4, w3_arg4]

end Cert.ReferenceIdeal.Plain
-- ==== Proof.RefRows.lean ====
/-
  The reference's rows, normalisation and projections, read at an index.
-/
module

public import proofs.«01_k».proof.Proof.RefHost
public import proofs.«01_k».proof.Proof.Args
public import Idealize.ShloMosaic.Lib.Pointwise
public import Idealize.ShloMosaic.PureOps.Ideal

@[expose] public section

set_option maxRecDepth 8192

noncomputable section

namespace Cert.ReferenceIdeal.Plain

open Idealize.ShloMosaic Idealize.ShloMosaic.TcCoe Idealize.ShloMosaic.StableHlo Cert.ReferenceIdeal Cert.ReferenceIdeal.Gen Cert.Chunks

theorem padX_apply (x : FVec Ideal S6x12032x192 .bf16) (b : Fin 6) (p : Fin 12375) (d : Fin 192) :
    (padX x (ix3 b p d) : EReal) = if h : 125 ≤ p.val ∧ p.val < 12157 then x (ix3 b ⟨p.val - 125, by omega⟩ d) else 0 := by
  pointwise [padX]
  by_cases h : 125 ≤ p.val ∧ p.val < 12157
  · rw [dif_pos h, dif_pos ⟨h.1, by omega⟩]
  · rw [dif_neg h, dif_neg (by omega)]
    show (((0#32).toInt : ℝ) : EReal) = 0
    simp

theorem half0 (x : FVec Ideal S6x12032x192 .bf16) (b : Fin 6) (s : Fin 98) (c : Fin 125) (d : Fin 192) :
    extractStridedSlice S6x98x125x192 ![0, 0, 0, 0] (shapeCast _ (padX x) shapeCasts_S6x12375x192_S6x99x125x192) slices_S6x99x125x192_S6x98x125x192_0_0_0_0 (ix4 b s c d)
    = padX x (ix3 b ⟨s.val * 125 + c.val, by omega⟩ d) := by
  pointwise []

theorem half1 (x : FVec Ideal S6x12032x192 .bf16) (b : Fin 6) (s : Fin 98) (c : Fin 125) (d : Fin 192) :
    extractStridedSlice S6x98x125x192 ![0, 1, 0, 0] (shapeCast _ (padX x) shapeCasts_S6x12375x192_S6x99x125x192) slices_S6x99x125x192_S6x98x125x192_0_1_0_0 (ix4 b s c d)
    = padX x (ix3 b ⟨(1 + s.val) * 125 + c.val, by omega⟩ d) := by
  pointwise []

theorem join_apply (u v : FVec Ideal S6x98x125x192 .bf16) (b : Fin 6) (s : Fin 98) (c : Fin 250) (d : Fin 192) :
    join u v (ix4 b s c d) = if h : c.val < 125 then u (ix4 b s ⟨c.val, h⟩ d) else v (ix4 b s ⟨c.val - 125, by omega⟩ d) := by
  pointwise [join]

theorem chunks_apply (x : FVec Ideal S6x12032x192 .bf16) (b : Fin 6) (s : Fin 98) (c : Fin 250) (d : Fin 192) :
    (chunks x (ix4 b s c d) : EReal) = padded (fun b p d => x (ix3 b p d)) b d (125 * s.val + c.val) := by
  unfold chunks
  rw [join_apply]
  by_cases h : c.val < 125
  · rw [dif_pos h, half0, padX_apply]
    unfold padded
    have e : s.val * 125 + c.val = 125 * s.val + c.val := by omega
    simp only [e]
  · rw [dif_neg h, half1, padX_apply]
    unfold padded
    have e : (1 + s.val) * 125 + (c.val - 125) = 125 * s.val + c.val := by omega
    simp only [e]

theorem lit192 : Ideal.ofBits .f32 0x43400000#32 = ((192 : ℝ) : EReal) := by
  simp [Ideal.ofBits, Ideal.ieee, -EReal.coe_mul]; norm_num

theorem mean_apply (u : FVec Ideal S6x98x250x192 .f32) (b : Fin 6) (s : Fin 98) (c : Fin 250) :
    (mean u (ix4 b s c 0) : EReal) = avg (fun d => u (ix4 b s c d)) := by
  pointwise [mean]
  unfold avg
  rw [lit192, Ideal.div, if_neg (by norm_num), ← EReal.coe_inv, one_div]

theorem centred_apply (u : FVec Ideal S6x98x250x192 .f32) (b : Fin 6) (s : Fin 98) (c : Fin 250) (d : Fin 192) :
    (centred u (ix4 b s c d) : EReal) = u (ix4 b s c d) - avg (fun d => u (ix4 b s c d)) := by
  rw [← mean_apply]
  pointwise [centred]

theorem layernorm_apply (x : FVec Ideal S6x98x250x192 .bf16) (g be : FVec Ideal S192 .f32) (b : Fin 6) (s : Fin 98) (c : Fin 250) (d : Fin 192) :
    (layernorm x g be (ix4 b s c d) : EReal) = normed (fun d => x (ix4 b s c d)) (fun d => g (ix1 d)) (fun d => be (ix1 d)) d := by
  pointwise [layernorm]
  rw [mean_apply]
  have e : ∀ d, mulf (centred (extf .f32 x bitsLt_bf16_f32)) (centred (extf .f32 x bitsLt_bf16_f32)) (ix4 b s c d)
      = (x (ix4 b s c d) - avg (fun d => x (ix4 b s c d))) * (x (ix4 b s c d) - avg (fun d => x (ix4 b s c d))) := by
    intro d
    exact congrArg₂ (· * ·) (centred_apply _ b s c d) (centred_apply _ b s c d)
  simp only [e]
  rw [centred_apply]
  rfl

theorem projQ_apply (w : FVec Ideal S192x3x2x96 .bf16) (n : FVec Ideal S6x98x250x192 .bf16) (b : Fin 6) (s : Fin 98) (h : Fin 2) (k : Fin 96) (c : Fin 250) :
    (projQ w n (ix5 b s h k c) : EReal) = ∑ d : Fin 192, w (ix4 d 0 h k) * n (ix4 b s c d) := by
  pointwise [projQ, proj]

theorem projK_apply (w : FVec Ideal S192x3x2x96 .bf16) (n : FVec Ideal S6x98x250x192 .bf16) (b : Fin 6) (s : Fin 98) (h : Fin 2) (k : Fin 96) (c : Fin 250) :
    (projK w n (ix5 b s h k c) : EReal) = ∑ d : Fin 192, w (ix4 d 1 h k) * n (ix4 b s c d) := by
  pointwise [projK, proj]

theorem projV_apply (w : FVec Ideal S192x3x2x96 .bf16) (n : FVec Ideal S6x98x250x192 .bf16) (b : Fin 6) (s : Fin 98) (h : Fin 2) (k : Fin 96) (c : Fin 250) :
    (projV w n (ix5 b s h k c) : EReal) = ∑ d : Fin 192, w (ix4 d 2 h k) * n (ix4 b s c d) := by
  pointwise [projV, proj]

end Cert.ReferenceIdeal.Plain
-- ==== Proof.RefPay.lean ====
/-
  The attention of the reference, in parts, each read at an index.
-/
module

public import proofs.«01_k».proof.Proof.Gen.ReferenceIdeal.Skeleton
public import proofs.«01_k».proof.Proof.Softmax
public import Idealize.ShloMosaic.Lib.Pointwise

@[expose] public section

noncomputable section

namespace Cert.ReferenceIdeal.Plain

open Idealize.ShloMosaic Cert.ReferenceIdeal Cert.ReferenceIdeal.Gen Cert.Chunks

section
variable {F : FTy → Type} [FloatOps F]

/-- The scaled scores. -/
def scores (q k : FVec F S6x98x2x96x250 .fp8e4m3) (cs : FVec F S1176x1x1 .f32) : FVec F S1176x250x250 .f32 :=
  mulf (matmul dot_S1176x96x250_S1176x96x250_S1176x250x250_1_1_2_2_0_0 none
      (shapeCast S1176x96x250 q shapeCasts_S6x98x2x96x250_S1176x96x250) (shapeCast S1176x96x250 k shapeCasts_S6x98x2x96x250_S1176x96x250)
      (constant S1176x250x250 .f32 0x00000000#32))
    (broadcastTo S1176x250x250 (shapeCast S1176x1x1 cs shapeCasts_S1176x1x1_S1176x1x1) broadcasts_S1176x1x1_S1176x250x250)

/-- The largest score of each query. -/
def best (t : FVec F S1176x250x250 .f32) : FVec F S1176x250 .f32 :=
  maximumf (broadcast S1176x250 (Scalar.ofBits .f32 0xFF800000#32))
    (multiReduction .maximumf [2] S1176x250 t 0xFF800000#32 reduces_S1176x250x250_S1176x250 (.inl rfl) rfl)

/-- The exponentials of the scores less a number per query. -/
def powers (t : FVec F S1176x250x250 .f32) (b : FVec F S1176x250 .f32) : FVec F S1176x250x250 .f32 :=
  exp (subf t (broadcastTo S1176x250x250 (shapeCast S1176x250x1 b shapeCasts_S1176x250_S1176x250x1) broadcasts_S1176x250x1_S1176x250x250))

/-- Shares of each query's sum, times 256. -/
def shares (p : FVec F S1176x250x250 .f32) : FVec F S1176x250x250 .fp8e4m3 :=
  truncf .fp8e4m3 (mulf (divf p (broadcastTo S1176x250x250 (shapeCast S1176x250x1
      (multiReduction .add [2] S1176x250 p 0x00000000#32 reduces_S1176x250x250_S1176x250 (.inl rfl) rfl) shapeCasts_S1176x250_S1176x250x1)
      broadcasts_S1176x250x1_S1176x250x250))
    (broadcast S1176x250x250 (Scalar.ofBits .f32 0x43800000#32))) bitsLt_fp8e4m3_f32

theorem pay11_eq (q k : FVec F S6x98x2x96x250 .fp8e4m3) (cs : FVec F S1176x1x1 .f32) :
    k0_pay11 q k cs = shares (powers (scores q k cs) (best (scores q k cs))) := rfl

/-- The values summed with the shares, scaled. -/
def mixed (p : FVec F S1176x250x250 .fp8e4m3) (v : FVec F S1176x96x250 .fp8e4m3) (ov : FVec F S1176x1x1 .f32) : FVec F S1176x96x250 .bf16 :=
  truncf .bf16 (mulf (matmul dot_S1176x96x250_S1176x250x250_S1176x96x250_2_2_1_1_0_0 none v p (constant S1176x96x250 .f32 0x00000000#32))
    (broadcastTo S1176x96x250 (shapeCast S1176x1x1 ov shapeCasts_S1176x1x1_S1176x1x1) broadcasts_S1176x1x1_S1176x96x250)) bitsLt_bf16_f32

/-- The chunks plus their projected attention. -/
def residual (o : FVec F S1176x96x250 .bf16) (w : FVec F S1x192x192 .bf16) (u : FVec F S6x98x192x250 .f32) : FVec F S6x98x192x250 .f32 :=
  addf (shapeCast S6x98x192x250 u shapeCasts_S6x98x192x250_S6x98x192x250)
    (shapeCast S6x98x192x250 (matmul dot_S588x192x192_S588x192x250_S588x192x250_1_1_2_2_0_0 none
      (broadcastTo S588x192x192 (shapeCast S1x192x192 (shapeCast S1x192x192 w shapeCasts_S1x192x192_S1x192x192) shapeCasts_S1x192x192_S1x192x192) broadcasts_S1x192x192_S588x192x192)
      (shapeCast S588x192x250 o shapeCasts_S1176x96x250_S588x192x250) (constant S588x192x250 .f32 0x00000000#32)) shapeCasts_S588x192x250_S6x98x192x250)

theorem pay1_eq (p : FVec F S1176x250x250 .fp8e4m3) (v : FVec F S1176x96x250 .fp8e4m3) (ov : FVec F S1176x1x1 .f32)
    (w : FVec F S1x192x192 .bf16) (u : FVec F S6x98x192x250 .f32) : k0_pay1 p v ov w u = residual (mixed p v ov) w u := rfl

end

section
variable (b : Fin 6) (s : Fin 98) (h : Fin 2)

/-- The place of a head of a chunk among all of them. -/
def at' (b : Fin 6) (s : Fin 98) (h : Fin 2) : Fin 1176 := ⟨(b.val * 98 + s.val) * 2 + h.val, by omega⟩

theorem pay3_apply (x : FVec Ideal S6x98x2x96x250 .f32) (v : FVec Ideal S6x98x2x1x1 .f32) (k : Fin 96) (c : Fin 250) :
    (k0_pay3 (F := Ideal) x v (ix5 b s h k c) : EReal) = min (Ideal.ofBits .f32 0x43E00000#32) (max (Ideal.ofBits .f32 0xC3E00000#32) (x (ix5 b s h k c) * v (ix5 b s h 0 0))) := by
  pointwise [k0_pay3]

theorem pay7_eq (x : FVec Ideal S6x98x2x96x250 .f32) (v : FVec Ideal S6x98x2x1x1 .f32) (k : Fin 96) (c : Fin 250) :
    (k0_pay7 (F := Ideal) (k0_pay5 x) (k0_pay6 v) (ix5 b s h k c) : EReal) = min (Ideal.ofBits .f32 0x43E00000#32) (max (Ideal.ofBits .f32 0xC3E00000#32) (x (ix5 b s h k c) * v (ix5 b s h 0 0))) := by
  pointwise [k0_pay7, k0_pay5, k0_pay6]

theorem rows_apply (q : FVec Ideal S6x98x2x96x250 .fp8e4m3) (r : Fin 192) (c : Fin 250) :
    shapeCast S6x98x192x250 q shapeCasts_S6x98x2x96x250_S6x98x192x250 (ix4 b s r c) = q (ix5 b s ⟨r.val / 96, by omega⟩ ⟨r.val % 96, by omega⟩ c) := by
  pointwise []

theorem heads_apply (q : FVec Ideal S6x98x2x96x250 .fp8e4m3) (k : Fin 96) (c : Fin 250) :
    shapeCast S1176x96x250 q shapeCasts_S6x98x2x96x250_S1176x96x250 (ix3 (at' b s h) k c) = q (ix5 b s h k c) := by
  unfold at'
  pointwise []

theorem scores_apply (q k : FVec Ideal S6x98x2x96x250 .fp8e4m3) (cs : FVec Ideal S1176x1x1 .f32) (y x : Fin 250) :
    scores q k cs (ix3 (at' b s h) y x) = (∑ d : Fin 96, q (ix5 b s h d y) * k (ix5 b s h d x)) * cs (ix3 (at' b s h) 0 0) := by
  have e : ∀ Q K : FVec Ideal S1176x96x250 .fp8e4m3, mulf (matmul dot_S1176x96x250_S1176x96x250_S1176x250x250_1_1_2_2_0_0 none Q K
      (constant S1176x250x250 .f32 0x00000000#32))
      (broadcastTo S1176x250x250 (shapeCast S1176x1x1 cs shapeCasts_S1176x1x1_S1176x1x1) broadcasts_S1176x1x1_S1176x250x250) (ix3 (at' b s h) y x)
      = (∑ d : Fin 96, Q (ix3 (at' b s h) d y) * K (ix3 (at' b s h) d x)) * cs (ix3 (at' b s h) 0 0) := by
    intro Q K
    pointwise []
  refine (e _ _).trans ?_
  simp only [heads_apply]

theorem ofBits_bot : Ideal.ofBits .f32 4286578688#32 = ⊥ := by simp [Ideal.ofBits, Ideal.ieee]

theorem best_apply (t : FVec Ideal S1176x250x250 .f32) (n : Fin 1176) (y : Fin 250) :
    best t (ix2 n y) = (Finset.univ : Finset (Fin 250)).fold max ⊥ (fun x => t (ix3 n y x)) := by
  have e0 : ∀ r : FVec Ideal S1176x250 .f32, maximumf (broadcast S1176x250 (Scalar.ofBits .f32 0xFF800000#32)) r (ix2 n y)
      = max (Ideal.ofBits .f32 4286578688#32) (r (ix2 n y)) := by
    intro r
    pointwise []
  have e : multiReduction .maximumf [2] S1176x250 t 0xFF800000#32 reduces_S1176x250x250_S1176x250 (.inl rfl) rfl (ix2 n y)
      = (Finset.univ : Finset (Fin 250)).fold max (Ideal.ofBits .f32 4286578688#32) (fun x => t (ix3 n y x)) := by
    pointwise []
  unfold best
  rw [e0, ofBits_bot, max_eq_right bot_le]
  rw [ofBits_bot] at e
  exact e

theorem powers_apply (t : FVec Ideal S1176x250x250 .f32) (m : FVec Ideal S1176x250 .f32) (n : Fin 1176) (y x : Fin 250) :
    powers t m (ix3 n y x) = Ideal.exp (t (ix3 n y x) - m (ix2 n y)) := by
  pointwise [powers]

theorem shares_apply (p : FVec Ideal S1176x250x250 .f32) (n : Fin 1176) (y x : Fin 250) :
    shares p (ix3 n y x) = Ideal.div (p (ix3 n y x)) (∑ z : Fin 250, p (ix3 n y z)) * Ideal.ofBits .f32 0x43800000#32 := by
  pointwise [shares]

theorem mixed_apply (p : FVec Ideal S1176x250x250 .fp8e4m3) (v : FVec Ideal S1176x96x250 .fp8e4m3) (ov : FVec Ideal S1176x1x1 .f32)
    (n : Fin 1176) (k : Fin 96) (y : Fin 250) :
    mixed p v ov (ix3 n k y) = (∑ x : Fin 250, v (ix3 n k x) * p (ix3 n y x)) * ov (ix3 n 0 0) := by
  pointwise [mixed]

theorem residual_apply (o : FVec Ideal S1176x96x250 .bf16) (w : FVec Ideal S1x192x192 .bf16) (u : FVec Ideal S6x98x192x250 .f32)
    (r : Fin 192) (c : Fin 250) :
    residual o w u (ix4 b s r c) = u (ix4 b s r c) + ∑ e : Fin 192, w (ix3 0 e r) * o (ix3 (at' b s ⟨e.val / 96, by omega⟩) ⟨e.val % 96, by omega⟩ c) := by
  have e : ∀ O : FVec Ideal S588x192x250 .bf16, addf (shapeCast S6x98x192x250 u shapeCasts_S6x98x192x250_S6x98x192x250)
      (shapeCast S6x98x192x250 (matmul dot_S588x192x192_S588x192x250_S588x192x250_1_1_2_2_0_0 none
      (broadcastTo S588x192x192 (shapeCast S1x192x192 (shapeCast S1x192x192 w shapeCasts_S1x192x192_S1x192x192) shapeCasts_S1x192x192_S1x192x192) broadcasts_S1x192x192_S588x192x192)
      O (constant S588x192x250 .f32 0x00000000#32)) shapeCasts_S588x192x250_S6x98x192x250) (ix4 b s r c)
      = u (ix4 b s r c) + ∑ e : Fin 192, w (ix3 0 e r) * O (ix3 ⟨b.val * 98 + s.val, by omega⟩ e c) := by
    intro O
    pointwise []
  have e' : ∀ e : Fin 192, shapeCast S588x192x250 o shapeCasts_S1176x96x250_S588x192x250 (ix3 (⟨b.val * 98 + s.val, by omega⟩ : Fin 588) e c)
      = o (ix3 (at' b s ⟨e.val / 96, by omega⟩) ⟨e.val % 96, by omega⟩ c) := by
    intro e
    unfold at'
    pointwise []
  refine (e _).trans ?_
  simp only [e']

end

end Cert.ReferenceIdeal.Plain
-- ==== Proof.RefExpo.lean ====
/-
  The reference's exponents and factors, read at an index.
-/
module

public import proofs.«01_k».proof.Proof.RefPay
public import proofs.«01_k».proof.Proof.RefHost
public import proofs.«01_k».proof.Proof.Args
public import Idealize.ShloMosaic.Lib.Pointwise
public import Idealize.ShloMosaic.PureOps.Ideal

@[expose] public section

set_option maxRecDepth 8192

noncomputable section

namespace Cert.ReferenceIdeal.Plain

open Idealize.ShloMosaic Idealize.ShloMosaic.TcCoe Idealize.ShloMosaic.StableHlo Cert.ReferenceIdeal Cert.ReferenceIdeal.Gen Cert.Chunks

theorem drop_eq (i : S6x98x2x96x250.Idx) (b : Fin 6) (s : Fin 98) (h : Fin 2) :
    reducesTo_S6x98x2x96x250_S6x98x2_d3_4.drop i = ix3 b s h ↔ (i 0).val = b.val ∧ (i 1).val = s.val ∧ (i 2).val = h.val := by
  have h0 : (reducesTo_S6x98x2x96x250_S6x98x2_d3_4.drop i 0 : ℕ) = i 0 := Shape.ReducesTo.drop_apply_val _ i 0
  have h1 : (reducesTo_S6x98x2x96x250_S6x98x2_d3_4.drop i 1 : ℕ) = i 1 := Shape.ReducesTo.drop_apply_val _ i 1
  have h2 : (reducesTo_S6x98x2x96x250_S6x98x2_d3_4.drop i 2 : ℕ) = i 2 := Shape.ReducesTo.drop_apply_val _ i 2
  constructor
  · intro e
    rw [← h0, ← h1, ← h2, e]
    exact ⟨rfl, rfl, rfl⟩
  · rintro ⟨a0, a1, a2⟩
    refine (eq_ix3 _).trans ?_
    exact congr (congr (congrArg ix3 (Fin.ext (h0.trans a0))) (Fin.ext (h1.trans a1))) (Fin.ext (h2.trans a2))

/-- The reduction is the largest absolute value. -/
theorem tops_apply (t : FVec Ideal S6x98x2x96x250 .f32) (b : Fin 6) (s : Fin 98) (h : Fin 2) :
    (tops t (ix5 b s h 0 0) : EReal) = peak (fun k c => t (ix5 b s h k c)) := by
  pointwise [tops]
  rw [ofBits_bot]
  unfold peak
  apply le_antisymm
  · rw [Finset.fold_max_le]
    refine ⟨bot_le, fun i hi => ?_⟩
    obtain ⟨h0, h1, h2⟩ := (drop_eq i b s h).1 (Finset.mem_filter.1 hi).2
    have e : i = ix5 b s h (i 3) (i 4) := by
      refine (eq_ix5 i).trans ?_
      exact congr (congr (congr (congr (congrArg ix5 (Fin.ext h0)) (Fin.ext h1)) (Fin.ext h2)) rfl) rfl
    refine le_trans (le_of_eq (congrArg (fun i => max (t i) (-t i)) e)) ?_
    exact Finset.le_sup (f := fun p : Fin 96 × Fin 250 => max (t (ix5 b s h p.1 p.2)) (-t (ix5 b s h p.1 p.2))) (Finset.mem_univ (i 3, i 4))
  · refine Finset.sup_le fun p _ => ?_
    rw [Finset.le_fold_max]
    exact Or.inr ⟨ix5 b s h p.1 p.2, Finset.mem_filter.2 ⟨Finset.mem_univ _, (drop_eq _ b s h).2 ⟨rfl, rfl, rfl⟩⟩, le_refl _⟩

theorem lit2 : Ideal.ofBits .f32 1073741824#32 = ((2 : ℝ) : EReal) := by
  simp [Ideal.ofBits, Ideal.ieee, -EReal.coe_mul]; norm_num

/-- The exponent the logarithm gives. -/
theorem log_form (a : EReal) (ha : 0 ≤ a) (h1 : ¬ ratio a < tiny) (h2 : ¬ huge < a) :
    Ideal.liftRound Int.floor (Ideal.div (Ideal.log (ratio a)) (Ideal.log ((2 : ℝ) : EReal))) + 1
      = (((⌊Real.log (ratio a).toReal / Real.log 2⌋ + 1 : ℤ) : ℝ) : EReal) := by
  have ht : a ≠ ⊤ := by
    rintro rfl
    exact h2 (lt_trans huge_lt (EReal.coe_lt_top _))
  have hb : a ≠ ⊥ := by
    rintro rfl
    exact absurd ha (by simp)
  lift a to ℝ using ⟨ht, hb⟩
  obtain ⟨r, hr, hr0, hr1⟩ := ratio_const
  have e : ratio (a : EReal) = ((a * r : ℝ) : EReal) := by
    unfold ratio
    rw [hr, EReal.coe_mul]
  rw [e] at h1 ⊢
  rw [tiny_eq, EReal.coe_lt_coe_iff] at h1
  have hp : 0 < a * r := lt_of_lt_of_le (by unfold pow2; positivity) (not_lt.1 h1)
  have l1 : Ideal.log ((a * r : ℝ) : EReal) = ((Real.log (a * r) : ℝ) : EReal) := by
    show (if a * r ≤ 0 then (⊥ : EReal) else _) = _
    rw [if_neg (not_le.2 hp)]
  have l2 : Ideal.log ((2 : ℝ) : EReal) = ((Real.log 2 : ℝ) : EReal) := by
    show (if (2 : ℝ) ≤ 0 then (⊥ : EReal) else _) = _
    rw [if_neg (by norm_num)]
  have hl : Real.log 2 ≠ 0 := (Real.log_pos (by norm_num)).ne'
  rw [l1, l2, Ideal.div, if_neg (by simpa using hl), ← EReal.coe_inv, ← EReal.coe_mul]
  show (((⌊Real.log (a * r) * (Real.log 2)⁻¹⌋ : ℤ) : ℝ) : EReal) + 1 = _
  rw [EReal.toReal_coe, div_eq_mul_inv]
  push_cast
  rfl

theorem expoOf_apply (a : FVec Ideal S6x98x2x1x1 .f32) (b : Fin 6) (s : Fin 98) (h : Fin 2) (x : EReal) (hx : a (ix5 b s h 0 0) = x) (h0 : 0 ≤ x) :
    (expoOf a (ix5 b s h 0 0) : EReal) = ((Cert.Chunks.expo x : ℝ) : EReal) := by
  pointwise [expoOf, expoBad, expoSum, each]
  rw [hx, lit2]
  by_cases h1 : ratio x < tiny
  · have e1 : decide (x * Ideal.ofBits .f32 991054117#32 < Ideal.ofBits .f32 8388608#32) = true := decide_eq_true h1
    rw [e1]
    unfold Cert.Chunks.expo
    rw [if_pos (Or.inl h1)]
    cases decide (Ideal.ofBits .f32 2139095039#32 < x) <;> simp [Scalar.select, IntOp.ori]
  · have e1 : decide (x * Ideal.ofBits .f32 991054117#32 < Ideal.ofBits .f32 8388608#32) = false := decide_eq_false h1
    by_cases h2 : huge < x
    · have e2 : decide (Ideal.ofBits .f32 2139095039#32 < x) = true := decide_eq_true h2
      rw [e1, e2]
      unfold Cert.Chunks.expo
      rw [if_pos (Or.inr h2)]
      simp [Scalar.select, IntOp.ori]
    · have e2 : decide (Ideal.ofBits .f32 2139095039#32 < x) = false := decide_eq_false h2
      rw [e1, e2]
      unfold Cert.Chunks.expo
      rw [if_neg (not_or.2 ⟨h1, h2⟩), ← log_form x h0 h1 h2]
      rfl

theorem two_apply (e : FVec Ideal S6x98x2x1x1 .f32) (b : Fin 6) (s : Fin 98) (h : Fin 2) (n : ℤ) (he : e (ix5 b s h 0 0) = ((n : ℝ) : EReal)) :
    (two e (ix5 b s h 0 0) : EReal) = ((pow2 n : ℝ) : EReal) := by
  pointwise [two, each]
  rw [he, lit2]
  show ((Real.rpow 2 (n : ℝ) : ℝ) : EReal) = _
  refine congrArg (fun r : ℝ => (r : EReal)) ?_
  exact Real.rpow_intCast 2 n

theorem neg_apply (e : FVec Ideal S6x98x2x1x1 .f32) (b : Fin 6) (s : Fin 98) (h : Fin 2) (n : ℤ) (he : e (ix5 b s h 0 0) = ((n : ℝ) : EReal)) :
    (Host.negf e (ix5 b s h 0 0) : EReal) = (((-n : ℤ) : ℝ) : EReal) := by
  have e1 : (Host.negf e (ix5 b s h 0 0) : EReal) = -(e (ix5 b s h 0 0) : EReal) := by
    pointwise []
  rw [e1, he]
  push_cast
  rfl

theorem scoreScale_apply (q k : FVec Ideal S6x98x2x1x1 .f32) (b : Fin 6) (s : Fin 98) (h : Fin 2) :
    (scoreScale q k (ix3 (at' b s h) 0 0) : EReal) = Ideal.div (two q (ix5 b s h 0 0) * two k (ix5 b s h 0 0)) (Ideal.sqrt (Ideal.ofBits .f32 0x42C00000#32)) := by
  pointwise [scoreScale, at']

theorem outScale_apply (v : FVec Ideal S6x98x2x1x1 .f32) (b : Fin 6) (s : Fin 98) (h : Fin 2) :
    (outScale v (ix3 (at' b s h) 0 0) : EReal) = two v (ix5 b s h 0 0) * Ideal.ofBits .f32 0x3B800000#32 := by
  pointwise [outScale, each, at']

theorem lit96 : Ideal.ofBits .f32 0x42C00000#32 = ((96 : ℝ) : EReal) := by
  simp [Ideal.ofBits, Ideal.ieee, -EReal.coe_mul]; norm_num

theorem lit256 : Ideal.ofBits .f32 0x3B800000#32 = ((1 / 256 : ℝ) : EReal) := by
  simp [Ideal.ofBits, Ideal.ieee, -EReal.coe_mul]; norm_num

theorem scoreScale_cs (q k : FVec Ideal S6x98x2x1x1 .f32) (b : Fin 6) (s : Fin 98) (h : Fin 2) (i j : ℤ)
    (hq : q (ix5 b s h 0 0) = ((i : ℝ) : EReal)) (hk : k (ix5 b s h 0 0) = ((j : ℝ) : EReal)) :
    (scoreScale q k (ix3 (at' b s h) 0 0) : EReal) = ((pow2 i * pow2 j * (√96)⁻¹ : ℝ) : EReal) := by
  rw [scoreScale_apply, two_apply q b s h i hq, two_apply k b s h j hk, lit96]
  have e : Ideal.sqrt ((96 : ℝ) : EReal) = ((√96 : ℝ) : EReal) := by
    show (if (96 : ℝ) < 0 then (⊥ : EReal) else _) = _
    rw [if_neg (by norm_num)]
  have hn : √(96 : ℝ) ≠ 0 := by positivity
  rw [e, Ideal.div, if_neg (by simpa using hn), ← EReal.coe_inv, ← EReal.coe_mul, ← EReal.coe_mul]

theorem outScale_ov (v : FVec Ideal S6x98x2x1x1 .f32) (b : Fin 6) (s : Fin 98) (h : Fin 2) (i : ℤ)
    (hv : v (ix5 b s h 0 0) = ((i : ℝ) : EReal)) :
    (outScale v (ix3 (at' b s h) 0 0) : EReal) = ((pow2 i * (1 / 256) : ℝ) : EReal) := by
  rw [outScale_apply, two_apply v b s h i hv, lit256, ← EReal.coe_mul]

end Cert.ReferenceIdeal.Plain
-- ==== Proof.RefBody.lean ====
/-
  The reference's attention on real codes: the softmax with each row's largest score taken off, and the projected sum.
-/
module

public import proofs.«01_k».proof.Proof.RefPay

@[expose] public section

noncomputable section

namespace Cert.ReferenceIdeal.Plain

open Idealize.ShloMosaic Cert.ReferenceIdeal Cert.ReferenceIdeal.Gen Cert.Chunks

theorem ofBits_256 : Ideal.ofBits .f32 0x43800000#32 = ((256 : ℝ) : EReal) := by
  simp [Ideal.ofBits, Ideal.ieee, -EReal.coe_mul]; norm_num

theorem div_real (x y : ℝ) (h : y ≠ 0) : Ideal.div (x : EReal) (y : EReal) = ((x * y⁻¹ : ℝ) : EReal) := by
  unfold Ideal.div
  rw [if_neg (by exact_mod_cast h), EReal.coe_mul, EReal.coe_inv]

/-- The softmax does not see a number taken off every score. -/
theorem attn_exp (s v : Fin 250 → ℝ) (m ov : ℝ) :
    (∑ x, v x * (Real.exp (s x - m) * (∑ y, Real.exp (s y - m))⁻¹ * 256)) * ov
      = (∑ x, v x * (Real.exp (s x) / (∑ y, Real.exp (s y)) * 256)) * ov := by
  have hE : ∀ x, Real.exp (s x - m) = Real.exp (s x) * Real.exp (-m) := fun x => by rw [sub_eq_add_neg, Real.exp_add]
  have hS : ∑ y, Real.exp (s y - m) = (∑ y, Real.exp (s y)) * Real.exp (-m) := by
    rw [Finset.sum_mul]; exact Finset.sum_congr rfl fun y _ => hE y
  have pos : 0 < ∑ y : Fin 250, Real.exp (s y) := Finset.sum_pos (fun x _ => Real.exp_pos _) Finset.univ_nonempty
  congr 1
  refine Finset.sum_congr rfl fun x _ => ?_
  rw [hE, hS]
  have := Real.exp_pos (-m)
  field_simp

section
variable (b : Fin 6) (s : Fin 98)

theorem attended (h : Fin 2) (q k v : FVec Ideal S6x98x2x96x250 .fp8e4m3) (cs ov : FVec Ideal S1176x1x1 .f32)
    (Q K V : Fin 96 → Fin 250 → EReal) (C O : ℝ)
    (hq : ∀ d x, q (ix5 b s h d x) = ((codeR Q d x : ℝ) : EReal)) (hk : ∀ d x, k (ix5 b s h d x) = ((codeR K d x : ℝ) : EReal))
    (hv : ∀ d x, v (ix5 b s h d x) = ((codeR V d x : ℝ) : EReal)) (hc : cs (ix3 (at' b s h) 0 0) = (C : EReal)) (ho : ov (ix3 (at' b s h) 0 0) = (O : EReal))
    (d : Fin 96) (y : Fin 250) :
    mixed (k0_pay11 q k cs) (shapeCast S1176x96x250 v shapeCasts_S6x98x2x96x250_S1176x96x250) ov (ix3 (at' b s h) d y)
      = ((attnR (codeR Q) (codeR K) (codeR V) C O d y : ℝ) : EReal) := by
  have hs : ∀ y x, scores q k cs (ix3 (at' b s h) y x) = ((scoreR (codeR Q) (codeR K) C y x : ℝ) : EReal) := by
    intro y x
    rw [scores_apply, hc]
    simp only [hq, hk]
    unfold scoreR
    rw [EReal.coe_mul, coe_sum]
    simp only [EReal.coe_mul]
  obtain ⟨m, hm⟩ := fold_real (fun x : Fin 250 => scores q k cs (ix3 (at' b s h) y x)) (fun x => Or.inr ⟨_, hs y x⟩) 0 _ (hs y 0)
  have hp : ∀ x, powers (scores q k cs) (best (scores q k cs)) (ix3 (at' b s h) y x)
      = ((Real.exp (scoreR (codeR Q) (codeR K) C y x - m) : ℝ) : EReal) := by
    intro x
    rw [powers_apply, best_apply, hm, hs, ← EReal.coe_sub]
    rfl
  have hne : (∑ x, Real.exp (scoreR (codeR Q) (codeR K) C y x - m)) ≠ 0 :=
    ne_of_gt (Finset.sum_pos (fun x _ => Real.exp_pos _) Finset.univ_nonempty)
  have hw : ∀ x, k0_pay11 q k cs (ix3 (at' b s h) y x) = ((Real.exp (scoreR (codeR Q) (codeR K) C y x - m)
      * (∑ z, Real.exp (scoreR (codeR Q) (codeR K) C y z - m))⁻¹ * 256 : ℝ) : EReal) := by
    intro x
    rw [pay11_eq, shares_apply]
    simp only [hp]
    rw [← coe_sum, div_real _ _ hne, ofBits_256, ← EReal.coe_mul]
  rw [mixed_apply, ho]
  simp only [hw, heads_apply, hv, ← EReal.coe_mul, ← coe_sum]
  exact congrArg (fun r : ℝ => (r : EReal)) (attn_exp _ _ m O)

theorem sum_heads (f : Fin 192 → EReal) : ∑ e, f e = ∑ k : Fin 96, f ⟨k.val, by omega⟩ + ∑ k : Fin 96, f ⟨96 + k.val, by omega⟩ :=
  Fin.sum_univ_add (a := 96) (b := 96) f

theorem result_apply (q k v : FVec Ideal S6x98x2x96x250 .fp8e4m3) (cs ov : FVec Ideal S1176x1x1 .f32)
    (w : FVec Ideal S1x192x192 .bf16) (u : FVec Ideal S6x98x192x250 .f32) (Q K V : Fin 2 → Fin 96 → Fin 250 → EReal)
    (hq : ∀ h d x, q (ix5 b s h d x) = ((codeR (Q h) d x : ℝ) : EReal)) (hk : ∀ h d x, k (ix5 b s h d x) = ((codeR (K h) d x : ℝ) : EReal))
    (hv : ∀ h d x, v (ix5 b s h d x) = ((codeR (V h) d x : ℝ) : EReal))
    (hc : ∀ h, cs (ix3 (at' b s h) 0 0) = ((csOf (Q h) (K h) : ℝ) : EReal)) (ho : ∀ h, ov (ix3 (at' b s h) 0 0) = ((ovOf (V h) : ℝ) : EReal))
    (r : Fin 192) (c : Fin 250) :
    k0_pay1 (k0_pay11 q k cs) (shapeCast S1176x96x250 v shapeCasts_S6x98x2x96x250_S1176x96x250) ov w u (ix4 b s r c)
      = resid (u (ix4 b s r c)) (fun k => w (ix3 0 ⟨k.val, by omega⟩ r)) (fun k => w (ix3 0 ⟨96 + k.val, by omega⟩ r))
        (Q 0) (K 0) (V 0) (Q 1) (K 1) (V 1) c := by
  have e : ∀ h d, mixed (k0_pay11 q k cs) (shapeCast S1176x96x250 v shapeCasts_S6x98x2x96x250_S1176x96x250) ov (ix3 (at' b s h) d c)
      = ((attnOf (Q h) (K h) (V h) d c : ℝ) : EReal) :=
    fun h d => attended b s h q k v cs ov (Q h) (K h) (V h) _ _ (hq h) (hk h) (hv h) (hc h) (ho h) d c
  rw [pay1_eq, residual_apply, sum_heads]
  simp only [e]
  unfold resid
  refine congrArg (fun x : EReal => u (ix4 b s r c) + x) (congrArg₂ (fun x y : EReal => x + y) ?_ ?_)
  · refine Finset.sum_congr rfl fun k _ => congrArg (fun x : EReal => w (ix3 0 ⟨k.val, by omega⟩ r) * x) ?_
    have h0 : (⟨k.val / 96, by omega⟩ : Fin 2) = 0 := Fin.ext (by show k.val / 96 = 0; omega)
    have h1 : (⟨k.val % 96, by omega⟩ : Fin 96) = k := Fin.ext (by show k.val % 96 = k.val; omega)
    rw [h0, h1]
  · refine Finset.sum_congr rfl fun k _ => congrArg (fun x : EReal => w (ix3 0 ⟨96 + k.val, by omega⟩ r) * x) ?_
    have h0 : (⟨(96 + k.val) / 96, by omega⟩ : Fin 2) = 1 := Fin.ext (by show (96 + k.val) / 96 = 1; omega)
    have h1 : (⟨(96 + k.val) % 96, by omega⟩ : Fin 96) = k := Fin.ext (by show (96 + k.val) % 96 = k.val; omega)
    rw [h0, h1]

end

end Cert.ReferenceIdeal.Plain
-- ==== Proof.RefValues.lean ====
/-
  What the reference computes, in the arguments: the codes of the queries, keys and values, and the chunks with their attention.
-/
module

public import proofs.«01_k».proof.Proof.RefRows
public import proofs.«01_k».proof.Proof.RefExpo
public import proofs.«01_k».proof.Proof.RefBody

@[expose] public section

set_option maxRecDepth 8192

noncomputable section

namespace Cert.ReferenceIdeal.Plain

open Idealize.ShloMosaic Idealize.ShloMosaic.TcCoe Idealize.ShloMosaic.StableHlo Cert.ReferenceIdeal Cert.ReferenceIdeal.Gen Cert.Chunks

variable (m : (ℓ : Loc nD τ sig) → Buf (Elt Ideal) ℓ) (c : Dev nD)

/-- The arguments, by their indices. -/
def argX (b : Fin 6) (p : Fin 12032) (d : Fin 192) : EReal := (m ((c : Thread nD τ).loc main_arg0) : Vec Ideal S6x12032x192 .bf16) (ix3 b p d)
def argG (d : Fin 192) : EReal := (m ((c : Thread nD τ).loc main_arg1) : Vec Ideal S192 .f32) (ix1 d)
def argB (d : Fin 192) : EReal := (m ((c : Thread nD τ).loc main_arg2) : Vec Ideal S192 .f32) (ix1 d)
def argW (d : Fin 192) (w : Fin 3) (h : Fin 2) (k : Fin 96) : EReal := (m ((c : Thread nD τ).loc main_arg3) : Vec Ideal S192x3x2x96 .bf16) (ix4 d w h k)
def argO (h : Fin 2) (k : Fin 96) (r : Fin 192) : EReal := (m ((c : Thread nD τ).loc main_arg4) : Vec Ideal S2x96x192 .bf16) (ix3 h k r)

/-- The projections of the arguments. -/
def rows (b : Fin 6) (s : Fin 98) (w : Fin 3) (h : Fin 2) : Fin 96 → Fin 250 → EReal :=
  project (argX m c) (argG m c) (argB m c) (argW m c) b s w h

variable (b : Fin 6) (s : Fin 98) (h : Fin 2)

theorem opN_apply (l : Fin 250) (d : Fin 192) :
    (opN m c (ix4 b s l d) : EReal) = normed (fun d => padded (argX m c) b d (125 * s.val + l.val)) (argG m c) (argB m c) d := by
  unfold opN
  rw [layernorm_apply]
  exact congr (congr (congr (congrArg normed (funext fun d => chunks_apply _ b s l d)) rfl) rfl) rfl

theorem opQ_apply (k : Fin 96) (l : Fin 250) : (opQ m c (ix5 b s h k l) : EReal) = rows m c b s 0 h k l := by
  unfold opQ rows project
  rw [projQ_apply]
  exact Finset.sum_congr rfl fun d _ => congrArg₂ (fun a b : EReal => a * b) rfl (opN_apply m c b s l d)
theorem opK_apply (k : Fin 96) (l : Fin 250) : (opK m c (ix5 b s h k l) : EReal) = rows m c b s 1 h k l := by
  unfold opK rows project
  rw [projK_apply]
  exact Finset.sum_congr rfl fun d _ => congrArg₂ (fun a b : EReal => a * b) rfl (opN_apply m c b s l d)
theorem opV_apply (k : Fin 96) (l : Fin 250) : (opV m c (ix5 b s h k l) : EReal) = rows m c b s 2 h k l := by
  unfold opV rows project
  rw [projV_apply]
  exact Finset.sum_congr rfl fun d _ => congrArg₂ (fun a b : EReal => a * b) rfl (opN_apply m c b s l d)

/-- The exponents of a head's block. -/
theorem expo_apply (t : FVec Ideal S6x98x2x96x250 .f32) (Q : Fin 96 → Fin 250 → EReal) (ht : ∀ k l, (t (ix5 b s h k l) : EReal) = Q k l) :
    (expo t (ix5 b s h 0 0) : EReal) = ((Cert.Chunks.expo (peak Q) : ℝ) : EReal) := by
  unfold expo
  refine expoOf_apply _ b s h _ ?_ (peak_nonneg Q)
  rw [tops_apply]
  exact congrArg peak (funext fun k => funext fun l => ht k l)

theorem scale_apply (t : FVec Ideal S6x98x2x96x250 .f32) (Q : Fin 96 → Fin 250 → EReal) (ht : ∀ k l, (t (ix5 b s h k l) : EReal) = Q k l) :
    (two (Host.negf (expo t)) (ix5 b s h 0 0) : EReal) = ((pow2 (-Cert.Chunks.expo (peak Q)) : ℝ) : EReal) :=
  two_apply _ b s h _ (neg_apply _ b s h _ (expo_apply b s h t Q ht))

theorem pay4_apply (x : FVec Ideal S6x98x2x96x250 .f32) (v : FVec Ideal S6x98x2x1x1 .f32) (k : Fin 96) (c : Fin 250) :
    (k0_pay4 (F := Ideal) x v (ix5 b s h k c) : EReal) = min (Ideal.ofBits .f32 0x43E00000#32) (max (Ideal.ofBits .f32 0xC3E00000#32) (x (ix5 b s h k c) * v (ix5 b s h 0 0))) := by
  pointwise [k0_pay4]

/-- The codes. -/
theorem code3 (t : FVec Ideal S6x98x2x96x250 .f32) (Q : Fin 96 → Fin 250 → EReal) (ht : ∀ k l, (t (ix5 b s h k l) : EReal) = Q k l) (k : Fin 96) (l : Fin 250) :
    (k0_pay3 (F := Ideal) t (two (Host.negf (expo t))) (ix5 b s h k l) : EReal) = coded Q k l := by
  rw [pay3_apply, ht, scale_apply b s h t Q ht]
  rfl
theorem code4 (t : FVec Ideal S6x98x2x96x250 .f32) (Q : Fin 96 → Fin 250 → EReal) (ht : ∀ k l, (t (ix5 b s h k l) : EReal) = Q k l) (k : Fin 96) (l : Fin 250) :
    (k0_pay4 (F := Ideal) t (two (Host.negf (expo t))) (ix5 b s h k l) : EReal) = coded Q k l := by
  rw [pay4_apply, ht, scale_apply b s h t Q ht]
  rfl
theorem code7 (t : FVec Ideal S6x98x2x96x250 .f32) (Q : Fin 96 → Fin 250 → EReal) (ht : ∀ k l, (t (ix5 b s h k l) : EReal) = Q k l) (k : Fin 96) (l : Fin 250) :
    (k0_pay7 (F := Ideal) (k0_pay5 t) (k0_pay6 (two (Host.negf (expo t)))) (ix5 b s h k l) : EReal) = coded Q k l := by
  rw [pay7_eq, ht, scale_apply b s h t Q ht]
  rfl

/-- The codes in the results' layout. -/
theorem codes8 (r : Fin 192) (l : Fin 250) :
    (k0_pay8 (F := Ideal) (k0_pay3 (opQ m c) (two (Host.negf (expo (opQ m c))))) (ix4 b s r l) : EReal)
      = codeVal (argX m c) (argG m c) (argB m c) (argW m c) 0 b s r l := by
  refine (rows_apply b s (k0_pay3 (F := Ideal) (opQ m c) (two (Host.negf (expo (opQ m c))))) r l).trans ?_
  exact code3 b s _ (opQ m c) (rows m c b s 0 _) (opQ_apply m c b s _) _ l
theorem codes9 (r : Fin 192) (l : Fin 250) :
    (k0_pay9 (F := Ideal) (k0_pay4 (opK m c) (two (Host.negf (expo (opK m c))))) (ix4 b s r l) : EReal)
      = codeVal (argX m c) (argG m c) (argB m c) (argW m c) 1 b s r l := by
  refine (rows_apply b s (k0_pay4 (F := Ideal) (opK m c) (two (Host.negf (expo (opK m c))))) r l).trans ?_
  exact code4 b s _ (opK m c) (rows m c b s 1 _) (opK_apply m c b s _) _ l
theorem codes10 (r : Fin 192) (l : Fin 250) :
    (k0_pay10 (F := Ideal) (k0_pay5 (opV m c)) (k0_pay6 (two (Host.negf (expo (opV m c))))) (ix4 b s r l) : EReal)
      = codeVal (argX m c) (argG m c) (argB m c) (argW m c) 2 b s r l := by
  refine (rows_apply b s (k0_pay7 (F := Ideal) (k0_pay5 (opV m c)) (k0_pay6 (two (Host.negf (expo (opV m c)))))) r l).trans ?_
  exact code7 b s _ (opV m c) (rows m c b s 2 _) (opV_apply m c b s _) _ l

theorem weights_apply (o : FVec Ideal S2x96x192 .bf16) (x r : Fin 192) :
    shapeCast S1x192x192 o shapeCasts_S2x96x192_S1x192x192 (ix3 0 x r) = o (ix3 ⟨x.val / 96, by omega⟩ ⟨x.val % 96, by omega⟩ r) := by
  pointwise []

theorem chunks_t (x : FVec Ideal S6x12032x192 .bf16) (r : Fin 192) (l : Fin 250) :
    extf .f32 (transpose S6x98x192x250 [0, 1, 3, 2] (chunks x) transposes_S6x98x250x192_S6x98x192x250_0_1_3_2) bitsLt_bf16_f32 (ix4 b s r l)
      = chunks x (ix4 b s l r) := by
  pointwise []

/-- The chunks with their attention. -/
theorem chunk_out (r : Fin 192) (l : Fin 250) :
    (k0_pay1 (F := Ideal) (k0_pay11 (k0_pay3 (opQ m c) (two (Host.negf (expo (opQ m c))))) (k0_pay4 (opK m c) (two (Host.negf (expo (opK m c)))))
        (scoreScale (expo (opQ m c)) (expo (opK m c)))) (k0_pay12 (k0_pay5 (opV m c)) (k0_pay6 (two (Host.negf (expo (opV m c))))))
        (outScale (expo (opV m c))) (shapeCast S1x192x192 (aO m c) shapeCasts_S2x96x192_S1x192x192)
        (extf .f32 (transpose S6x98x192x250 [0, 1, 3, 2] (chunks (aX m c)) transposes_S6x98x250x192_S6x98x192x250_0_1_3_2) bitsLt_bf16_f32)
        (ix4 b s r l) : EReal)
      = outVal (argX m c) (argG m c) (argB m c) (argW m c) (argO m c) b s r l := by
  refine (result_apply b s _ _ (k0_pay7 (F := Ideal) (k0_pay5 (opV m c)) (k0_pay6 (two (Host.negf (expo (opV m c)))))) _ _ _ _
    (rows m c b s 0) (rows m c b s 1) (rows m c b s 2)
    (fun h d x => (code3 b s h _ _ (opQ_apply m c b s h) d x).trans (coded_coe _ _ _))
    (fun h d x => (code4 b s h _ _ (opK_apply m c b s h) d x).trans (coded_coe _ _ _))
    (fun h d x => (code7 b s h _ _ (opV_apply m c b s h) d x).trans (coded_coe _ _ _))
    (fun h => scoreScale_cs _ _ b s h _ _ (expo_apply b s h _ _ (opQ_apply m c b s h)) (expo_apply b s h _ _ (opK_apply m c b s h)))
    (fun h => outScale_ov _ b s h _ (expo_apply b s h _ _ (opV_apply m c b s h))) r l).trans ?_
  unfold outVal
  refine congr (congr (congr (congr (congr (congr (congr (congr (congr (congrArg resid ?_) (funext fun k => ?_)) (funext fun k => ?_)) rfl) rfl) rfl) rfl) rfl) rfl) rfl
  · exact (chunks_t b s (aX m c) r l).trans (chunks_apply _ b s l r)
  · refine (weights_apply _ _ r).trans ?_
    exact congrArg₂ (fun h k => argO m c h k r) (Fin.ext (by show k.val / 96 = 0; omega)) (Fin.ext (by show k.val % 96 = k.val; omega))
  · refine (weights_apply _ _ r).trans ?_
    exact congrArg₂ (fun h k => argO m c h k r) (Fin.ext (by show (96 + k.val) / 96 = 1; omega)) (Fin.ext (by show (96 + k.val) % 96 = k.val; omega))

end Cert.ReferenceIdeal.Plain
-- ==== Proof.RefStores.lean ====
/-
  What the reference's body leaves in its results: four arrays, each stored whole but for the last, whose columns from 250 on are
  stored apart.
-/
module

public import proofs.«01_k».proof.Proof.RefPay
public import proofs.«01_k».proof.Proof.Gen.ReferenceIdeal.Value
public import Idealize.ShloMosaic.Lib.Pointwise
public import Idealize.ShloMosaic.Lib.WholeRead
public import Idealize.ShloMosaic.Lib.Pipeline.ValueKit

@[expose] public section

set_option maxRecDepth 65536

noncomputable section

namespace Cert.ReferenceIdeal.Plain

open Idealize.ShloMosaic Cert.ReferenceIdeal Cert.ReferenceIdeal.Gen Cert.Chunks

/-- A load of a whole buffer is its contents. -/
theorem whole {s : Shape} {ψ : EltTy} (arg : Memref sig .tc .vmem s ψ) (h : arg.IsWhole) (x : Vec Ideal s ψ) (off : Fin s.rank → ℕ)
    (inb : ∀ a, off a + s.size a ≤ s.size a) (h0 : ∀ a, off a = 0) :
    View.readAt (Elt Ideal) arg.view (Rect.unit (s := s) off s.size inb).toLoadRect (h.unread x) = x := by
  funext i
  refine (Memref.IsWhole.readAt_unread h x _ _).trans (congrArg x ?_)
  funext a
  refine Fin.ext ?_
  refine (Rect.idx_unit_val _ _ _ _ _).trans ?_
  rw [h0, Nat.zero_add]

theorem zero3 : ∀ a : Fin 3, (![0, 0, 0] : Fin 3 → ℕ) a = 0 := by decide
theorem zero4 : ∀ a : Fin 4, (![0, 0, 0, 0] : Fin 4 → ℕ) a = 0 := by decide
theorem zero5 : ∀ a : Fin 5, (![0, 0, 0, 0, 0] : Fin 5 → ℕ) a = 0 := by decide

variable (c : Dev nD) (arg0 : Memref sig .tc .vmem S6x98x192x250 .f32) (harg0 : arg0.IsWhole) (arg1 : Memref sig .tc .vmem S6x98x2x96x250 .f32) (harg1 : arg1.IsWhole) (arg2 : Memref sig .tc .vmem S6x98x2x96x250 .f32) (harg2 : arg2.IsWhole) (arg3 : Memref sig .tc .vmem S6x98x2x96x250 .f32) (harg3 : arg3.IsWhole) (arg4 : Memref sig .tc .vmem S6x98x2x1x1 .f32) (harg4 : arg4.IsWhole) (arg5 : Memref sig .tc .vmem S6x98x2x1x1 .f32) (harg5 : arg5.IsWhole) (arg6 : Memref sig .tc .vmem S6x98x2x1x1 .f32) (harg6 : arg6.IsWhole) (arg7 : Memref sig .tc .vmem S1176x1x1 .f32) (harg7 : arg7.IsWhole) (arg8 : Memref sig .tc .vmem S1176x1x1 .f32) (harg8 : arg8.IsWhole) (arg9 : Memref sig .tc .vmem S1x192x192 .bf16) (harg9 : arg9.IsWhole) (arg10 : Memref sig .tc .vmem S6x98x192x250 .fp8e4m3) (harg10 : arg10.IsWhole) (arg11 : Memref sig .tc .vmem S6x98x192x250 .fp8e4m3) (harg11 : arg11.IsWhole) (arg12 : Memref sig .tc .vmem S6x98x192x250 .fp8e4m3) (harg12 : arg12.IsWhole) (arg13 : Memref sig .tc .vmem S6x98x192x256 .f32) (harg13 : arg13.IsWhole)
    (x0 : Vec Ideal S6x98x192x250 .f32) (x1 : Vec Ideal S6x98x2x96x250 .f32) (x2 : Vec Ideal S6x98x2x96x250 .f32) (x3 : Vec Ideal S6x98x2x96x250 .f32) (x4 : Vec Ideal S6x98x2x1x1 .f32) (x5 : Vec Ideal S6x98x2x1x1 .f32) (x6 : Vec Ideal S6x98x2x1x1 .f32) (x7 : Vec Ideal S1176x1x1 .f32) (x8 : Vec Ideal S1176x1x1 .f32) (x9 : Vec Ideal S1x192x192 .bf16)

theorem run_10 : (kernelRun0_A (F := Ideal) c arg0 harg0 arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9).1 = [⟨Rect.unit (s := S6x98x192x250) ![0, 0, 0, 0] S6x98x192x250.size inb_S6x98x192x250_S6x98x192x250_0_0_0_0, k0_pay8 (k0_pay3 (View.readAt (Elt Ideal) arg1.view (Rect.unit (s := S6x98x2x96x250) ![0, 0, 0, 0, 0] S6x98x2x96x250.size inb_S6x98x2x96x250_S6x98x2x96x250_0_0_0_0_0).toLoadRect (harg1.unread x1)) (View.readAt (Elt Ideal) arg4.view (Rect.unit (s := S6x98x2x1x1) ![0, 0, 0, 0, 0] S6x98x2x1x1.size inb_S6x98x2x1x1_S6x98x2x1x1_0_0_0_0_0).toLoadRect (harg4.unread x4)))⟩] := rfl

theorem run_11 : (kernelRun0_A (F := Ideal) c arg0 harg0 arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9).2.1 = [⟨Rect.unit (s := S6x98x192x250) ![0, 0, 0, 0] S6x98x192x250.size inb_S6x98x192x250_S6x98x192x250_0_0_0_0, k0_pay9 (k0_pay4 (View.readAt (Elt Ideal) arg2.view (Rect.unit (s := S6x98x2x96x250) ![0, 0, 0, 0, 0] S6x98x2x96x250.size inb_S6x98x2x96x250_S6x98x2x96x250_0_0_0_0_0).toLoadRect (harg2.unread x2)) (View.readAt (Elt Ideal) arg5.view (Rect.unit (s := S6x98x2x1x1) ![0, 0, 0, 0, 0] S6x98x2x1x1.size inb_S6x98x2x1x1_S6x98x2x1x1_0_0_0_0_0).toLoadRect (harg5.unread x5)))⟩] := rfl

theorem run_12 : (kernelRun0_A (F := Ideal) c arg0 harg0 arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9).2.2.1 = [⟨Rect.unit (s := S6x98x192x250) ![0, 0, 0, 0] S6x98x192x250.size inb_S6x98x192x250_S6x98x192x250_0_0_0_0, k0_pay10 (k0_pay5 (View.readAt (Elt Ideal) arg3.view (Rect.unit (s := S6x98x2x96x250) ![0, 0, 0, 0, 0] S6x98x2x96x250.size inb_S6x98x2x96x250_S6x98x2x96x250_0_0_0_0_0).toLoadRect (harg3.unread x3))) (k0_pay6 (View.readAt (Elt Ideal) arg6.view (Rect.unit (s := S6x98x2x1x1) ![0, 0, 0, 0, 0] S6x98x2x1x1.size inb_S6x98x2x1x1_S6x98x2x1x1_0_0_0_0_0).toLoadRect (harg6.unread x6)))⟩] := rfl

theorem run_13 : (kernelRun0_A (F := Ideal) c arg0 harg0 arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9).2.2.2.1
    = [⟨Rect.unit (s := S6x98x192x256) ![0, 0, 0, 250] S6x98x192x6.size inb_S6x98x192x256_S6x98x192x6_0_0_0_250, k0_pay2 (F := Ideal)⟩,
      ⟨Rect.unit (s := S6x98x192x256) ![0, 0, 0, 0] S6x98x192x250.size inb_S6x98x192x256_S6x98x192x250_0_0_0_0, k0_pay1 (k0_pay11 (k0_pay3 (View.readAt (Elt Ideal) arg1.view (Rect.unit (s := S6x98x2x96x250) ![0, 0, 0, 0, 0] S6x98x2x96x250.size inb_S6x98x2x96x250_S6x98x2x96x250_0_0_0_0_0).toLoadRect (harg1.unread x1)) (View.readAt (Elt Ideal) arg4.view (Rect.unit (s := S6x98x2x1x1) ![0, 0, 0, 0, 0] S6x98x2x1x1.size inb_S6x98x2x1x1_S6x98x2x1x1_0_0_0_0_0).toLoadRect (harg4.unread x4))) (k0_pay4 (View.readAt (Elt Ideal) arg2.view (Rect.unit (s := S6x98x2x96x250) ![0, 0, 0, 0, 0] S6x98x2x96x250.size inb_S6x98x2x96x250_S6x98x2x96x250_0_0_0_0_0).toLoadRect (harg2.unread x2)) (View.readAt (Elt Ideal) arg5.view (Rect.unit (s := S6x98x2x1x1) ![0, 0, 0, 0, 0] S6x98x2x1x1.size inb_S6x98x2x1x1_S6x98x2x1x1_0_0_0_0_0).toLoadRect (harg5.unread x5))) (View.readAt (Elt Ideal) arg7.view (Rect.unit (s := S1176x1x1) ![0, 0, 0] S1176x1x1.size inb_S1176x1x1_S1176x1x1_0_0_0).toLoadRect (harg7.unread x7))) (k0_pay12 (k0_pay5 (View.readAt (Elt Ideal) arg3.view (Rect.unit (s := S6x98x2x96x250) ![0, 0, 0, 0, 0] S6x98x2x96x250.size inb_S6x98x2x96x250_S6x98x2x96x250_0_0_0_0_0).toLoadRect (harg3.unread x3))) (k0_pay6 (View.readAt (Elt Ideal) arg6.view (Rect.unit (s := S6x98x2x1x1) ![0, 0, 0, 0, 0] S6x98x2x1x1.size inb_S6x98x2x1x1_S6x98x2x1x1_0_0_0_0_0).toLoadRect (harg6.unread x6)))) (View.readAt (Elt Ideal) arg8.view (Rect.unit (s := S1176x1x1) ![0, 0, 0] S1176x1x1.size inb_S1176x1x1_S1176x1x1_0_0_0).toLoadRect (harg8.unread x8)) (View.readAt (Elt Ideal) arg9.view (Rect.unit (s := S1x192x192) ![0, 0, 0] S1x192x192.size inb_S1x192x192_S1x192x192_0_0_0).toLoadRect (harg9.unread x9)) (View.readAt (Elt Ideal) arg0.view (Rect.unit (s := S6x98x192x250) ![0, 0, 0, 0] S6x98x192x250.size inb_S6x98x192x250_S6x98x192x250_0_0_0_0).toLoadRect (harg0.unread x0))⟩] := rfl

/-- A whole store read back. -/
theorem canon_whole (p : FVec Ideal S6x98x192x250 .fp8e4m3) (y : S6x98x192x250.Idx) :
    View.canon (Val := Elt Ideal) (e := .fp8e4m3) [⟨Rect.unit (s := S6x98x192x250) ![0, 0, 0, 0] S6x98x192x250.size inb_S6x98x192x250_S6x98x192x250_0_0_0_0, p⟩] y = p y := by
  canon_tiles x h
  refine congrArg p ?_
  refine Eq.trans (eq_ix4 _) (Eq.trans ?_ (eq_ix4 _).symm)
  exact congr (congr (congr (congrArg ix4 (Fin.ext (by omega))) (Fin.ext (by omega))) (Fin.ext (by omega))) (Fin.ext (by omega))

/-- The first 250 columns and the last 6. -/
abbrev firstCols : Rect S6x98x192x256 := Rect.unit (s := S6x98x192x256) ![0, 0, 0, 0] S6x98x192x250.size inb_S6x98x192x256_S6x98x192x250_0_0_0_0
abbrev lastCols : Rect S6x98x192x256 := Rect.unit (s := S6x98x192x256) ![0, 0, 0, 250] S6x98x192x6.size inb_S6x98x192x256_S6x98x192x6_0_0_0_250

theorem not_last (y : S6x98x192x256.Idx) (h : (y 3).val < 250) : y ∉ lastCols.set := by
  intro hm
  have h3 : 250 ≤ (y 3).val := (Rect.mem_set_unit.1 hm 3).1
  omega

theorem first_emb (x : S6x98x192x250.Idx) (a : Fin 4) : (firstCols.emb x a).val = (x a).val := by
  refine (Rect.idx_unit_val _ _ _ _ _).trans ?_
  have h0 : (![0, 0, 0, 0] : Fin 4 → ℕ) a = 0 := by fin_cases a <;> rfl
  exact (congrArg (· + (x a).val) h0).trans (Nat.zero_add _)

theorem canon_two (p : FVec Ideal S6x98x192x250 .f32) (z : FVec Ideal S6x98x192x6 .f32) (y : S6x98x192x256.Idx) (x : S6x98x192x250.Idx)
    (h : (y 3).val < 250) (e : y = firstCols.emb x) :
    View.canon (Val := Elt Ideal) (e := .f32) [⟨lastCols, z⟩, ⟨firstCols, p⟩] y = p x := by
  refine (View.canon_cons_of_not_mem (Val := Elt Ideal) (s := S6x98x192x256) (e := .f32) ⟨lastCols, z⟩ [⟨firstCols, p⟩] (y := y) ?_).trans ?_
  · show y ∉ lastCols.set
    exact not_last y h
  · rw [e]
    exact View.canon_cons_emb (Val := Elt Ideal) (s := S6x98x192x256) (e := .f32) firstCols p [] x

theorem canon_part (p : FVec Ideal S6x98x192x250 .f32) (z : FVec Ideal S6x98x192x6 .f32) (b : Fin 6) (s : Fin 98) (r : Fin 192) (l : Fin 250) :
    View.canon (Val := Elt Ideal) (e := .f32) [⟨Rect.unit (s := S6x98x192x256) ![0, 0, 0, 250] S6x98x192x6.size inb_S6x98x192x256_S6x98x192x6_0_0_0_250, z⟩,
      ⟨Rect.unit (s := S6x98x192x256) ![0, 0, 0, 0] S6x98x192x250.size inb_S6x98x192x256_S6x98x192x250_0_0_0_0, p⟩] (ix4 b s r ⟨l.val, by omega⟩)
      = p (ix4 b s r l) := by
  refine canon_two p z _ (ix4 b s r l) l.isLt ?_
  funext a
  refine Fin.ext (Eq.trans ?_ (first_emb (ix4 b s r l) a).symm)
  fin_cases a <;> rfl

theorem out_10 (y : S6x98x192x250.Idx) : out0_A_10 (F := Ideal) c arg0 harg0 arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 y = k0_pay8 (k0_pay3 x1 x4) y := by
  unfold out0_A_10
  rw [View.read_writes_junk_eq_canon, run_10, canon_whole, whole _ _ _ _ _ zero5, whole _ _ _ _ _ zero5]

theorem out_11 (y : S6x98x192x250.Idx) : out0_A_11 (F := Ideal) c arg0 harg0 arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 y = k0_pay9 (k0_pay4 x2 x5) y := by
  unfold out0_A_11
  rw [View.read_writes_junk_eq_canon, run_11, canon_whole, whole _ _ _ _ _ zero5, whole _ _ _ _ _ zero5]

theorem out_12 (y : S6x98x192x250.Idx) : out0_A_12 (F := Ideal) c arg0 harg0 arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 y = k0_pay10 (k0_pay5 x3) (k0_pay6 x6) y := by
  unfold out0_A_12
  rw [View.read_writes_junk_eq_canon, run_12, canon_whole, whole _ _ _ _ _ zero5, whole _ _ _ _ _ zero5]

theorem out_13 (b : Fin 6) (s : Fin 98) (r : Fin 192) (l : Fin 250) : out0_A_13 (F := Ideal) c arg0 harg0 arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 (ix4 b s r ⟨l.val, by omega⟩)
    = k0_pay1 (k0_pay11 (k0_pay3 x1 x4) (k0_pay4 x2 x5) x7) (k0_pay12 (k0_pay5 x3) (k0_pay6 x6)) x8 x9 x0 (ix4 b s r l) := by
  unfold out0_A_13
  rw [View.read_writes_junk_eq_canon, run_13, canon_part]
  rw [whole arg1 _ _ _ _ zero5, whole arg4 _ _ _ _ zero5, whole arg2 _ _ _ _ zero5, whole arg5 _ _ _ _ zero5, whole arg3 _ _ _ _ zero5, whole arg6 _ _ _ _ zero5,
    whole arg7 _ _ _ _ zero3, whole arg8 _ _ _ _ zero3, whole arg9 _ _ _ _ zero3, whole arg0 _ _ _ _ zero4]

end Cert.ReferenceIdeal.Plain
-- ==== Proof.RefReadsA.lean ====
/-
  Every window of the reference is its whole array.
-/
module

public import proofs.«01_k».proof.Proof.Gen.ReferenceIdeal.Value
public import Idealize.ShloMosaic.Lib.Pipeline.ValueKit

@[expose] public section

set_option maxRecDepth 8192

noncomputable section

namespace Cert.ReferenceIdeal.Plain

open Idealize.ShloMosaic Idealize.ShloMosaic.TcCoe Cert.ReferenceIdeal Cert.ReferenceIdeal.Gen Cert.ReferenceIdeal.Value

theorem index_0 : ∀ t : Fin cfg0.N, win0_0.index t = ![0, 0, 0, 0] := by decide +kernel
theorem read_0 (t : Fin cfg0.N) (A : Vec Ideal S6x98x192x250 .f32) : View.read (Elt Ideal) ((cfg0.win 0).blk t).view A = A := by
  funext y
  blk_ext [index_0 t]

theorem index_1 : ∀ t : Fin cfg0.N, win0_1.index t = ![0, 0, 0, 0, 0] := by decide +kernel
theorem read_1 (t : Fin cfg0.N) (A : Vec Ideal S6x98x2x96x250 .f32) : View.read (Elt Ideal) ((cfg0.win 1).blk t).view A = A := by
  funext y
  blk_ext [index_1 t]

theorem index_2 : ∀ t : Fin cfg0.N, win0_2.index t = ![0, 0, 0, 0, 0] := by decide +kernel
theorem read_2 (t : Fin cfg0.N) (A : Vec Ideal S6x98x2x96x250 .f32) : View.read (Elt Ideal) ((cfg0.win 2).blk t).view A = A := by
  funext y
  blk_ext [index_2 t]

theorem index_3 : ∀ t : Fin cfg0.N, win0_3.index t = ![0, 0, 0, 0, 0] := by decide +kernel
theorem read_3 (t : Fin cfg0.N) (A : Vec Ideal S6x98x2x96x250 .f32) : View.read (Elt Ideal) ((cfg0.win 3).blk t).view A = A := by
  funext y
  blk_ext [index_3 t]

theorem index_4 : ∀ t : Fin cfg0.N, win0_4.index t = ![0, 0, 0, 0, 0] := by decide +kernel
theorem read_4 (t : Fin cfg0.N) (A : Vec Ideal S6x98x2x1x1 .f32) : View.read (Elt Ideal) ((cfg0.win 4).blk t).view A = A := by
  funext y
  blk_ext [index_4 t]

theorem index_5 : ∀ t : Fin cfg0.N, win0_5.index t = ![0, 0, 0, 0, 0] := by decide +kernel
theorem read_5 (t : Fin cfg0.N) (A : Vec Ideal S6x98x2x1x1 .f32) : View.read (Elt Ideal) ((cfg0.win 5).blk t).view A = A := by
  funext y
  blk_ext [index_5 t]

theorem index_6 : ∀ t : Fin cfg0.N, win0_6.index t = ![0, 0, 0, 0, 0] := by decide +kernel
theorem read_6 (t : Fin cfg0.N) (A : Vec Ideal S6x98x2x1x1 .f32) : View.read (Elt Ideal) ((cfg0.win 6).blk t).view A = A := by
  funext y
  blk_ext [index_6 t]

end Cert.ReferenceIdeal.Plain
-- ==== Proof.RefReadsB.lean ====
/-
  Every window of the reference is its whole array.
-/
module

public import proofs.«01_k».proof.Proof.Gen.ReferenceIdeal.Value
public import Idealize.ShloMosaic.Lib.Pipeline.ValueKit

@[expose] public section

set_option maxRecDepth 8192

noncomputable section

namespace Cert.ReferenceIdeal.Plain

open Idealize.ShloMosaic Idealize.ShloMosaic.TcCoe Cert.ReferenceIdeal Cert.ReferenceIdeal.Gen Cert.ReferenceIdeal.Value

theorem index_7 : ∀ t : Fin cfg0.N, win0_7.index t = ![0, 0, 0] := by decide +kernel
theorem read_7 (t : Fin cfg0.N) (A : Vec Ideal S1176x1x1 .f32) : View.read (Elt Ideal) ((cfg0.win 7).blk t).view A = A := by
  funext y
  blk_ext [index_7 t]

theorem index_8 : ∀ t : Fin cfg0.N, win0_8.index t = ![0, 0, 0] := by decide +kernel
theorem read_8 (t : Fin cfg0.N) (A : Vec Ideal S1176x1x1 .f32) : View.read (Elt Ideal) ((cfg0.win 8).blk t).view A = A := by
  funext y
  blk_ext [index_8 t]

theorem index_9 : ∀ t : Fin cfg0.N, win0_9.index t = ![0, 0, 0] := by decide +kernel
theorem read_9 (t : Fin cfg0.N) (A : Vec Ideal S1x192x192 .bf16) : View.read (Elt Ideal) ((cfg0.win 9).blk t).view A = A := by
  funext y
  blk_ext [index_9 t]

theorem index_10 : ∀ t : Fin cfg0.N, win0_10.index t = ![0, 0, 0, 0] := by decide +kernel
theorem read_10 (t : Fin cfg0.N) (A : Vec Ideal S6x98x192x250 .fp8e4m3) : View.read (Elt Ideal) ((cfg0.win 10).blk t).view A = A := by
  funext y
  blk_ext [index_10 t]

theorem index_11 : ∀ t : Fin cfg0.N, win0_11.index t = ![0, 0, 0, 0] := by decide +kernel
theorem read_11 (t : Fin cfg0.N) (A : Vec Ideal S6x98x192x250 .fp8e4m3) : View.read (Elt Ideal) ((cfg0.win 11).blk t).view A = A := by
  funext y
  blk_ext [index_11 t]

theorem index_12 : ∀ t : Fin cfg0.N, win0_12.index t = ![0, 0, 0, 0] := by decide +kernel
theorem read_12 (t : Fin cfg0.N) (A : Vec Ideal S6x98x192x250 .fp8e4m3) : View.read (Elt Ideal) ((cfg0.win 12).blk t).view A = A := by
  funext y
  blk_ext [index_12 t]

theorem index_13 : ∀ t : Fin cfg0.N, win0_13.index t = ![0, 0, 0, 0] := by decide +kernel
theorem read_13 (t : Fin cfg0.N) (A : Vec Ideal S6x98x192x256 .f32) : View.read (Elt Ideal) ((cfg0.win 13).blk t).view A = A := by
  funext y
  blk_ext [index_13 t]

end Cert.ReferenceIdeal.Plain
-- ==== Proof.RefBlocks.lean ====
/-
  The reference's single grid point: what its input windows hold, and what it leaves in the arrays.
-/
module

public import proofs.«01_k».proof.Proof.RefStores
public import proofs.«01_k».proof.Proof.RefReadsA
public import proofs.«01_k».proof.Proof.RefReadsB
public import proofs.«01_k».proof.Proof.RefHost
public import Idealize.ShloMosaic.Lib.Pipeline.ValueKit

@[expose] public section

set_option maxRecDepth 8192

noncomputable section

namespace Cert.ReferenceIdeal.Plain

open Idealize.ShloMosaic Idealize.ShloMosaic.TcCoe Cert.ReferenceIdeal Cert.ReferenceIdeal.Gen Cert.ReferenceIdeal.Value Cert.Chunks

variable (m : (ℓ : Loc nD τ sig) → Buf (Elt Ideal) ℓ) (c : Dev nD)

theorem block_0 (t : Fin cfg0.N) : iblk m c 0 t = (V m c main_v110 : Vec Ideal S6x98x192x250 .f32) := read_0 t (V m c main_v110)
theorem block_1 (t : Fin cfg0.N) : iblk m c 1 t = (V m c main_v34 : Vec Ideal S6x98x2x96x250 .f32) := read_1 t (V m c main_v34)
theorem block_2 (t : Fin cfg0.N) : iblk m c 2 t = (V m c main_v38 : Vec Ideal S6x98x2x96x250 .f32) := read_2 t (V m c main_v38)
theorem block_3 (t : Fin cfg0.N) : iblk m c 3 t = (V m c main_v42 : Vec Ideal S6x98x2x96x250 .f32) := read_3 t (V m c main_v42)
theorem block_4 (t : Fin cfg0.N) : iblk m c 4 t = (V m c main_v113 : Vec Ideal S6x98x2x1x1 .f32) := read_4 t (V m c main_v113)
theorem block_5 (t : Fin cfg0.N) : iblk m c 5 t = (V m c main_v116 : Vec Ideal S6x98x2x1x1 .f32) := read_5 t (V m c main_v116)
theorem block_6 (t : Fin cfg0.N) : iblk m c 6 t = (V m c main_v119 : Vec Ideal S6x98x2x1x1 .f32) := read_6 t (V m c main_v119)
theorem block_7 (t : Fin cfg0.N) : iblk m c 7 t = (V m c main_v120 : Vec Ideal S1176x1x1 .f32) := read_7 t (V m c main_v120)
theorem block_8 (t : Fin cfg0.N) : iblk m c 8 t = (V m c main_v121 : Vec Ideal S1176x1x1 .f32) := read_8 t (V m c main_v121)
theorem block_9 (t : Fin cfg0.N) : iblk m c 9 t = (V m c main_v122 : Vec Ideal S1x192x192 .bf16) := read_9 t (V m c main_v122)

theorem left10 (y : S6x98x192x250.Idx) : ((dats m 0 c).arrAt 10 cfg0.N : Vec Ideal S6x98x192x250 .fp8e4m3) y
    = k0_pay8 (k0_pay3 (iblk m c 1 t0_0) (iblk m c 4 t0_0)) y := by
  have e := congrFun (blocks10 m c t0_0 (by decide +kernel)) y
  rw [flushed10_A] at e
  refine (congrFun (read_10 t0_0 _).symm y).trans (e.trans ?_)
  exact out_10 c _ _ _ _ _ _ _ _ _ _ _ _ _ _ _ _ _ _ _ _ _ _ _ _ _ _ _ _ (iblk m c 0 t0_0) (iblk m c 1 t0_0) (iblk m c 2 t0_0) (iblk m c 3 t0_0) (iblk m c 4 t0_0) (iblk m c 5 t0_0) (iblk m c 6 t0_0) (iblk m c 7 t0_0) (iblk m c 8 t0_0) (iblk m c 9 t0_0) y

theorem left11 (y : S6x98x192x250.Idx) : ((dats m 0 c).arrAt 11 cfg0.N : Vec Ideal S6x98x192x250 .fp8e4m3) y
    = k0_pay9 (k0_pay4 (iblk m c 2 t0_0) (iblk m c 5 t0_0)) y := by
  have e := congrFun (blocks11 m c t0_0 (by decide +kernel)) y
  rw [flushed11_A] at e
  refine (congrFun (read_11 t0_0 _).symm y).trans (e.trans ?_)
  exact out_11 c _ _ _ _ _ _ _ _ _ _ _ _ _ _ _ _ _ _ _ _ _ _ _ _ _ _ _ _ (iblk m c 0 t0_0) (iblk m c 1 t0_0) (iblk m c 2 t0_0) (iblk m c 3 t0_0) (iblk m c 4 t0_0) (iblk m c 5 t0_0) (iblk m c 6 t0_0) (iblk m c 7 t0_0) (iblk m c 8 t0_0) (iblk m c 9 t0_0) y

theorem left12 (y : S6x98x192x250.Idx) : ((dats m 0 c).arrAt 12 cfg0.N : Vec Ideal S6x98x192x250 .fp8e4m3) y
    = k0_pay10 (k0_pay5 (iblk m c 3 t0_0)) (k0_pay6 (iblk m c 6 t0_0)) y := by
  have e := congrFun (blocks12 m c t0_0 (by decide +kernel)) y
  rw [flushed12_A] at e
  refine (congrFun (read_12 t0_0 _).symm y).trans (e.trans ?_)
  exact out_12 c _ _ _ _ _ _ _ _ _ _ _ _ _ _ _ _ _ _ _ _ _ _ _ _ _ _ _ _ (iblk m c 0 t0_0) (iblk m c 1 t0_0) (iblk m c 2 t0_0) (iblk m c 3 t0_0) (iblk m c 4 t0_0) (iblk m c 5 t0_0) (iblk m c 6 t0_0) (iblk m c 7 t0_0) (iblk m c 8 t0_0) (iblk m c 9 t0_0) y

theorem left13 (b : Fin 6) (s : Fin 98) (r : Fin 192) (l : Fin 250) :
    ((dats m 0 c).arrAt 13 cfg0.N : Vec Ideal S6x98x192x256 .f32) (ix4 b s r ⟨l.val, by omega⟩)
      = k0_pay1 (k0_pay11 (k0_pay3 (iblk m c 1 t0_0) (iblk m c 4 t0_0)) (k0_pay4 (iblk m c 2 t0_0) (iblk m c 5 t0_0)) (iblk m c 7 t0_0))
          (k0_pay12 (k0_pay5 (iblk m c 3 t0_0)) (k0_pay6 (iblk m c 6 t0_0))) (iblk m c 8 t0_0) (iblk m c 9 t0_0) (iblk m c 0 t0_0) (ix4 b s r l) := by
  have e := congrFun (blocks13 m c t0_0 (by decide +kernel)) (ix4 b s r ⟨l.val, by omega⟩)
  rw [flushed13_A] at e
  refine (congrFun (read_13 t0_0 _).symm _).trans (e.trans ?_)
  exact out_13 c _ _ _ _ _ _ _ _ _ _ _ _ _ _ _ _ _ _ _ _ _ _ _ _ _ _ _ _ (iblk m c 0 t0_0) (iblk m c 1 t0_0) (iblk m c 2 t0_0) (iblk m c 3 t0_0) (iblk m c 4 t0_0) (iblk m c 5 t0_0) (iblk m c 6 t0_0) (iblk m c 7 t0_0) (iblk m c 8 t0_0) (iblk m c 9 t0_0) b s r l

end Cert.ReferenceIdeal.Plain
-- ==== Proof.RefArrays.lean ====
/-
  What the reference leaves in its results, in the arguments.
-/
module

public import proofs.«01_k».proof.Proof.RefValues
public import proofs.«01_k».proof.Proof.RefBlocks

@[expose] public section

set_option maxRecDepth 8192

noncomputable section

namespace Cert.ReferenceIdeal.Plain

open Idealize.ShloMosaic Idealize.ShloMosaic.TcCoe Cert.ReferenceIdeal Cert.ReferenceIdeal.Gen Cert.ReferenceIdeal.Value Cert.Chunks

variable (m : (ℓ : Loc nD τ sig) → Buf (Elt Ideal) ℓ) (c : Dev nD) (b : Fin 6) (s : Fin 98) (r : Fin 192) (l : Fin 250)

/-- Results 0 to 2: the codes. -/
theorem array10 : ((dats m 0 c).arrAt 10 cfg0.N : Vec Ideal S6x98x192x250 .fp8e4m3) (ix4 b s r l)
    = codeVal (argX m c) (argG m c) (argB m c) (argW m c) 0 b s r l := by
  rw [left10, block_1, block_4, V_34, V_113]
  exact codes8 m c b s r l

theorem array11 : ((dats m 0 c).arrAt 11 cfg0.N : Vec Ideal S6x98x192x250 .fp8e4m3) (ix4 b s r l)
    = codeVal (argX m c) (argG m c) (argB m c) (argW m c) 1 b s r l := by
  rw [left11, block_2, block_5, V_38, V_116]
  exact codes9 m c b s r l

theorem array12 : ((dats m 0 c).arrAt 12 cfg0.N : Vec Ideal S6x98x192x250 .fp8e4m3) (ix4 b s r l)
    = codeVal (argX m c) (argG m c) (argB m c) (argW m c) 2 b s r l := by
  rw [left12, block_3, block_6, V_42, V_119]
  exact codes10 m c b s r l

/-- Result 3: the chunks with their attention. -/
theorem array13 : ((dats m 0 c).arrAt 13 cfg0.N : Vec Ideal S6x98x192x256 .f32) (ix4 b s r ⟨l.val, by omega⟩)
    = outVal (argX m c) (argG m c) (argB m c) (argW m c) (argO m c) b s r l := by
  rw [left13, block_0, block_1, block_2, block_3, block_4, block_5, block_6, block_7, block_8, block_9,
    V_34, V_38, V_42, V_110, V_113, V_116, V_119, V_120, V_121, V_122]
  exact chunk_out m c b s r l

end Cert.ReferenceIdeal.Plain
-- ==== Proof.Agree.lean ====
/-
  From arguments that agree, the kernel and the reference leave equal results, at the columns of a chunk.
-/
module

public import proofs.«01_k».proof.Proof.KernelArrays
public import proofs.«01_k».proof.Proof.RefArrays

@[expose] public section

noncomputable section

namespace Cert.Chunks

open Idealize.ShloMosaic Idealize.ShloMosaic.TcCoe

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ) (c : Dev Cert.KernelIdeal.nD)

/-- The two programs' first five arguments agree. -/
structure Agree : Prop where
  x : Cert.ReferenceIdeal.Plain.argX m' c = Cert.KernelIdeal.Chunk.argX m c
  g : Cert.ReferenceIdeal.Plain.argG m' c = Cert.KernelIdeal.Chunk.argG m c
  b : Cert.ReferenceIdeal.Plain.argB m' c = Cert.KernelIdeal.Chunk.argB m c
  w : Cert.ReferenceIdeal.Plain.argW m' c = Cert.KernelIdeal.Chunk.argW m c
  o : Cert.ReferenceIdeal.Plain.argO m' c = Cert.KernelIdeal.Chunk.argO m c

variable {m m' c} (h : Agree m m' c)
include h

theorem same0 (i : (⟨4, ![6, 98, 192, 250]⟩ : Shape).Idx) :
    ((Cert.ReferenceIdeal.Gen.dats m' 0 c).arrAt 10 Cert.ReferenceIdeal.cfg0.N : Vec Ideal Cert.ReferenceIdeal.S6x98x192x250 .fp8e4m3) i
      = (Cert.KernelIdeal.Value.G5 m c : Vec Ideal Cert.KernelIdeal.S6x98x192x250 .fp8e4m3) i := by
  have e := eq_ix4 i
  refine (congrArg _ e).trans (Eq.trans ?_ (congrArg _ e).symm)
  refine (Cert.ReferenceIdeal.Plain.array10 m' c (i 0) (i 1) (i 2) (i 3)).trans ?_
  rw [h.x, h.g, h.b, h.w]
  exact (Cert.KernelIdeal.Chunk.array5 m c (i 0) (i 1) (i 2) (i 3)).symm

theorem same1 (i : (⟨4, ![6, 98, 192, 250]⟩ : Shape).Idx) :
    ((Cert.ReferenceIdeal.Gen.dats m' 0 c).arrAt 11 Cert.ReferenceIdeal.cfg0.N : Vec Ideal Cert.ReferenceIdeal.S6x98x192x250 .fp8e4m3) i
      = (Cert.KernelIdeal.Value.G6 m c : Vec Ideal Cert.KernelIdeal.S6x98x192x250 .fp8e4m3) i := by
  have e := eq_ix4 i
  refine (congrArg _ e).trans (Eq.trans ?_ (congrArg _ e).symm)
  refine (Cert.ReferenceIdeal.Plain.array11 m' c (i 0) (i 1) (i 2) (i 3)).trans ?_
  rw [h.x, h.g, h.b, h.w]
  exact (Cert.KernelIdeal.Chunk.array6 m c (i 0) (i 1) (i 2) (i 3)).symm

theorem same2 (i : (⟨4, ![6, 98, 192, 250]⟩ : Shape).Idx) :
    ((Cert.ReferenceIdeal.Gen.dats m' 0 c).arrAt 12 Cert.ReferenceIdeal.cfg0.N : Vec Ideal Cert.ReferenceIdeal.S6x98x192x250 .fp8e4m3) i
      = (Cert.KernelIdeal.Value.G7 m c : Vec Ideal Cert.KernelIdeal.S6x98x192x250 .fp8e4m3) i := by
  have e := eq_ix4 i
  refine (congrArg _ e).trans (Eq.trans ?_ (congrArg _ e).symm)
  refine (Cert.ReferenceIdeal.Plain.array12 m' c (i 0) (i 1) (i 2) (i 3)).trans ?_
  rw [h.x, h.g, h.b, h.w]
  exact (Cert.KernelIdeal.Chunk.array7 m c (i 0) (i 1) (i 2) (i 3)).symm

theorem same3 (i : (⟨4, ![6, 98, 192, 256]⟩ : Shape).Idx) (hi : (i 3).val < 250) :
    ((Cert.ReferenceIdeal.Gen.dats m' 0 c).arrAt 13 Cert.ReferenceIdeal.cfg0.N : Vec Ideal Cert.ReferenceIdeal.S6x98x192x256 .f32) i
      = (Cert.KernelIdeal.Value.G11 m c : Vec Ideal Cert.KernelIdeal.S6x98x192x256 .f32) i := by
  have e : i = ix4 (i 0) (i 1) (i 2) ⟨(⟨(i 3).val, hi⟩ : Fin 250).val, by omega⟩ := eq_ix4 i
  refine (congrArg _ e).trans (Eq.trans ?_ (congrArg _ e).symm)
  refine (Cert.ReferenceIdeal.Plain.array13 m' c (i 0) (i 1) (i 2) ⟨(i 3).val, hi⟩).trans ?_
  rw [h.x, h.g, h.b, h.w, h.o]
  exact (Cert.KernelIdeal.Chunk.array11 m c (i 0) (i 1) (i 2) ⟨(i 3).val, hi⟩).symm

end Cert.Chunks
-- ==== Proof.Algebraic.lean ====
/-
  The kernel and the reference, over the extended reals, have equal results.
-/
module

public import proofs.«01_k».proof.Defs
public import proofs.«01_k».proof.Proof.Agree
public import Idealize.ShloMosaic.Lib.Claim
public import Idealize.ShloMosaic.Lib.Pointwise
public import Idealize.ShloMosaic.Lib.Tactic.WordOmega

@[expose] public section

noncomputable section

namespace Cert.Chunks

open Idealize.ShloMosaic Idealize.ShloMosaic.TcCoe Idealize.SL.Sem

/-- The mask's side conditions. -/
theorem maskFacts : Cert.On_chunk_columns.Facts := by
  constructor <;> decide

/-- Where the mask of the chunks is set, the column is one of the first 250. -/
theorem column_lt (h : Cert.On_chunk_columns.S_.BroadcastsInDim Cert.On_chunk_columns.S6x98x192x256 (![] : Fin 0 → Fin Cert.On_chunk_columns.S6x98x192x256.rank))
    (i : Cert.On_chunk_columns.S6x98x192x256.Idx)
    (hi : cmpi .slt (iotaInDim Cert.On_chunk_columns.S6x98x192x256 32 3)
      (broadcastInDim Cert.On_chunk_columns.S6x98x192x256 ![] h (constantI Cert.On_chunk_columns.S_ 32 250#32)) i = 1#1) : (i 3).val < 250 := by
  have e : ∀ d : Fin 256, IntOp.cmpi .slt (BitVec.ofNat 32 d.val) 250#32 = 1#1 → d.val < 250 := by decide +kernel
  exact e (i 3) hi

theorem algebraic : Cert.algebraic_KernelIdeal_ReferenceIdeal_on_chunk_columns (hKernelIdeal := Cert.KernelIdeal.Gen.facts)
    (hReferenceIdeal := Cert.ReferenceIdeal.Gen.facts) (hOn_chunk_columns := maskFacts) := by
  intro m g m' g' _ hargs
  have hA : ∀ c, Agree m m' c := fun c =>
    ⟨funext fun b => funext fun p => funext fun d => congrFun (hargs c).1 _, funext fun d => congrFun (hargs c).2.1 _,
      funext fun d => congrFun (hargs c).2.2.1 _, funext fun d => funext fun w => funext fun h => funext fun k => congrFun (hargs c).2.2.2.1 _,
      funext fun h => funext fun k => funext fun r => congrFun (hargs c).2.2.2.2.1 _⟩
  refine ⟨fun c => Cert.KernelIdeal.Value.G5 m c, fun c => Cert.KernelIdeal.Value.G6 m c, fun c => Cert.KernelIdeal.Value.G7 m c,
    fun c => Cert.KernelIdeal.Value.G11 m c, ?_, ?_⟩
  · refine θ_run_mono (Cert.KernelIdeal.Value.run m g) fun r h c => ?_
    obtain ⟨h0, h1, h2, -, -, -, h6, -, -, ha⟩ := h c
    exact ⟨fun i _ => congrFun h0 i, fun i _ => congrFun h1 i, fun i _ => congrFun h2 i, fun i _ => congrFun h6 i, ha⟩
  · refine θ_run_mono (Cert.ReferenceIdeal.Value.run_blocks m' g') fun r h c => ?_
    obtain ⟨h0, h1, h2, h3, ha⟩ := h c
    refine ⟨fun i _ => (congrFun h0 i).trans (same0 (hA c) i), fun i _ => (congrFun h1 i).trans (same1 (hA c) i),
      fun i _ => (congrFun h2 i).trans (same2 (hA c) i), fun i hi => (congrFun h3 i).trans (same3 (hA c) i (column_lt _ i hi)), ha⟩

end Cert.Chunks
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Frame
public import proofs.«01_k».proof.Proof.Gen.ReferenceIdeal.Value
public import proofs.«01_k».proof.Proof.Preserves
public import proofs.«01_k».proof.Proof.Algebraic
public import Idealize.ShloMosaic.Adequacy
public import Idealize.ShloMosaic.Init

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Chunks.maskFacts,
    fun m ρ _ => Cert.Kernel.Gen.frame m ρ, fun m ρ _ => Cert.KernelIdeal.Gen.frame m ρ,
    fun m ρ _ => Cert.ReferenceIdeal.Gen.frame m ρ, Cert.Chunks.preserves, Cert.Chunks.algebraic⟩

end Cert.Proof

end
